-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = Layout.blockN ⟨2, ![64, 512]⟩ ⟨2, ![2048, 512]⟩ (Layout.meshBlock [2, 4, 4] ![[1, 0, 2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![64]⟩ ⟨1, ![2048]⟩ (Layout.meshBlock [2, 4, 4] ![[1, 0, 2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![8, 512, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![8, 1024, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![2048, 512]⟩ (Layout.meshBlock [2, 4, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v96) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S64x512 : Shape := ⟨2, ![64, 512]⟩
abbrev S64 : Shape := ⟨1, ![64]⟩
abbrev S2x512x1024 : Shape := ⟨3, ![2, 512, 1024]⟩
abbrev S2x1024x512 : Shape := ⟨3, ![2, 1024, 512]⟩
abbrev S4 : Shape := ⟨1, ![4]⟩
abbrev S4x1 : Shape := ⟨2, ![4, 1]⟩
abbrev S_ : Shape := ⟨0, ![]⟩
abbrev S1x64 : Shape := ⟨2, ![1, 64]⟩
abbrev S4x64 : Shape := ⟨2, ![4, 64]⟩

class Facts : Prop where
  shapeCasts_S4_S4x1 : S4.ShapeCasts S4x1
  bcast_S_S64 : S_.BroadcastsInDim S64 (![] : Fin 0 → Fin S64.rank)
  shapeCasts_S64_S1x64 : S64.ShapeCasts S1x64
  bcast_S1x64_S4x64_0_1 : S1x64.BroadcastsInDim S4x64 (![0, 1] : Fin 2 → Fin S4x64.rank)
  bcast_S4x1_S4x64_0_1 : S4x1.BroadcastsInDim S4x64 (![0, 1] : Fin 2 → Fin S4x64.rank)
  bcast_S_S4x64 : S_.BroadcastsInDim S4x64 (![] : Fin 0 → Fin S4x64.rank)
  reducesTo_S4x64_S4_d1 : S4x64.ReducesTo [1] S4
  h_S_ : 0 < S_.numel
  reducesTo_S64_S_d0 : S64.ReducesTo [0] S_
  bcast_S_S4 : S_.BroadcastsInDim S4 (![] : Fin 0 → Fin S4.rank)
  reducesTo_S4_S_d0 : S4.ReducesTo [0] S_

variable [Facts]

def fn_where {F : FTy → Type} [FloatOps F] (arg0 : IVec S64 1) (arg1 : IVec S64 32) (arg2 : IVec S64 32) : IVec S64 32 :=
  let v0 : IVec S64 32 := select arg0 arg1 arg2
  v0

def fn_floor_divide {F : FTy → Type} [FloatOps F] (arg0 : IVec S64 32) (arg1 : IVec S_ 32) : IVec S64 32 :=
  let v0 : IVec S_ 32 := id arg1
  let v1 : IVec S64 32 := broadcastInDim S64 ![] bcast_S_S64 v0
  let v2 : IVec S64 32 := Host.divsi arg0 v1
  let v3 : IVec S64 32 := signi arg0
  let v4 : IVec S_ 32 := signi v0
  let v5 : IVec S64 32 := broadcastInDim S64 ![] bcast_S_S64 v4
  let v6 : IVec S64 1 := cmpi .ne v3 v5
  let v7 : IVec S64 32 := broadcastInDim S64 ![] bcast_S_S64 v0
  let v8 : IVec S64 32 := Host.remsi arg0 v7
  let c : IVec S_ 32 := constantI S_ 32 0#32
  let v9 : IVec S64 32 := broadcastInDim S64 ![] bcast_S_S64 c
  let v10 : IVec S64 1 := cmpi .ne v8 v9
  let v11 : IVec S64 1 := andi v6 v10
  let c_0 : IVec S_ 32 := constantI S_ 32 1#32
  let v12 : IVec S64 32 := broadcastInDim S64 ![] bcast_S_S64 c_0
  let v13 : IVec S64 32 := subi v2 v12
  let v14 : IVec S64 32 := fn_where (F := F) v11 v13 v2
  v14

def fn_where_0 {F : FTy → Type} [FloatOps F] (arg0 : IVec S4x64 1) (arg1 : IVec S_ 32) (arg2 : IVec S_ 32) : IVec S4x64 32 :=
  let v0 : IVec S4x64 32 := broadcastInDim S4x64 ![] bcast_S_S4x64 arg1
  let v1 : IVec S4x64 32 := broadcastInDim S4x64 ![] bcast_S_S4x64 arg2
  let v2 : IVec S4x64 32 := select arg0 v0 v1
  v2

def fn_part1 {F : FTy → Type} [FloatOps F] (main_v9 : IVec S4 32) (main_v15 : IVec S_ 1) (main_c_6 : IVec S_ 32) : IVec S_ 1 :=
  let main_v16 : IVec S4 32 := broadcastInDim S4 ![] bcast_S_S4 main_c_6
  let main_v17 : IVec S4 1 := cmpi .sle main_v9 main_v16
  let main_c_7 : IVec S_ 1 := constantI S_ 1 1#1
  let main_v18 : IVec S_ 1 := (fun x v => Host.reduce IntOp.andi x v reducesTo_S4_S_d0 h_S_) main_v17 main_c_7
  let main_v19 : IVec S_ 1 := andi main_v15 main_v18
  main_v19

def fn {F : FTy → Type} [FloatOps F] (main_arg0 : FVec F S64x512 .f32) (main_arg1 : IVec S64 32) (main_arg2 : FVec F S2x512x1024 .f32) (main_arg3 : FVec F S2x1024x512 .f32) : IVec S_ 1 :=
  let main_v0 : IVec S4 32 := iotaInDim S4 32 0
  let main_v1 : IVec S4x1 32 := shapeCast S4x1 main_v0 shapeCasts_S4_S4x1
  let main_c : IVec S_ 32 := constantI S_ 32 2#32
  let main_v2 : IVec S64 32 := fn_floor_divide (F := F) main_arg1 main_c
  let main_v3 : IVec S1x64 32 := shapeCast S1x64 main_v2 shapeCasts_S64_S1x64
  let main_v4 : IVec S4x64 32 := broadcastInDim S4x64 ![0, 1] bcast_S1x64_S4x64_0_1 main_v3
  let main_v5 : IVec S4x64 32 := broadcastInDim S4x64 ![0, 1] bcast_S4x1_S4x64_0_1 main_v1
  let main_v6 : IVec S4x64 1 := cmpi .eq main_v4 main_v5
  let main_c_0 : IVec S_ 32 := constantI S_ 32 1#32
  let main_c_1 : IVec S_ 32 := constantI S_ 32 0#32
  let main_v7 : IVec S4x64 32 := fn_where_0 (F := F) main_v6 main_c_0 main_c_1
  let main_v8 : IVec S4x64 32 := id main_v7
  let main_c_2 : IVec S_ 32 := constantI S_ 32 0#32
  let main_v9 : IVec S4 32 := (fun x v => Host.reduce IntOp.addi x v reducesTo_S4x64_S4_d1 h_S_) main_v8 main_c_2
  let main_c_3 : IVec S_ 32 := constantI S_ 32 0#32
  let main_v10 : IVec S64 32 := broadcastInDim S64 ![] bcast_S_S64 main_c_3
  let main_v11 : IVec S64 1 := cmpi .sge main_arg1 main_v10
  let main_c_4 : IVec S_ 32 := constantI S_ 32 8#32
  let main_v12 : IVec S64 32 := broadcastInDim S64 ![] bcast_S_S64 main_c_4
  let main_v13 : IVec S64 1 := cmpi .slt main_arg1 main_v12
  let main_v14 : IVec S64 1 := andi main_v11 main_v13
  let main_c_5 : IVec S_ 1 := constantI S_ 1 1#1
  let main_v15 : IVec S_ 1 := (fun x v => Host.reduce IntOp.andi x v reducesTo_S64_S_d0 h_S_) main_v14 main_c_5
  let main_c_6 : IVec S_ 32 := constantI S_ 32 32#32
  fn_part1 (F := F) main_v9 main_v15 main_c_6
-- ==== Pre_fits_ReferenceIdeal.lean ====
abbrev S2048x512 : Shape := ⟨2, ![2048, 512]⟩
abbrev S2048 : Shape := ⟨1, ![2048]⟩
abbrev S8x512x1024 : Shape := ⟨3, ![8, 512, 1024]⟩
abbrev S8x1024x512 : Shape := ⟨3, ![8, 1024, 512]⟩
abbrev S4 : Shape := ⟨1, ![4]⟩
abbrev S4x1 : Shape := ⟨2, ![4, 1]⟩
abbrev S_ : Shape := ⟨0, ![]⟩
abbrev S1x2048 : Shape := ⟨2, ![1, 2048]⟩
abbrev S4x2048 : Shape := ⟨2, ![4, 2048]⟩

class Facts : Prop where
  shapeCasts_S4_S4x1 : S4.ShapeCasts S4x1
  bcast_S_S2048 : S_.BroadcastsInDim S2048 (![] : Fin 0 → Fin S2048.rank)
  shapeCasts_S2048_S1x2048 : S2048.ShapeCasts S1x2048
  bcast_S1x2048_S4x2048_0_1 : S1x2048.BroadcastsInDim S4x2048 (![0, 1] : Fin 2 → Fin S4x2048.rank)
  bcast_S4x1_S4x2048_0_1 : S4x1.BroadcastsInDim S4x2048 (![0, 1] : Fin 2 → Fin S4x2048.rank)
  bcast_S_S4x2048 : S_.BroadcastsInDim S4x2048 (![] : Fin 0 → Fin S4x2048.rank)
  reducesTo_S4x2048_S4_d1 : S4x2048.ReducesTo [1] S4
  h_S_ : 0 < S_.numel
  reducesTo_S2048_S_d0 : S2048.ReducesTo [0] S_
  bcast_S_S4 : S_.BroadcastsInDim S4 (![] : Fin 0 → Fin S4.rank)
  reducesTo_S4_S_d0 : S4.ReducesTo [0] S_

variable [Facts]

def fn_where {F : FTy → Type} [FloatOps F] (arg0 : IVec S2048 1) (arg1 : IVec S2048 32) (arg2 : IVec S2048 32) : IVec S2048 32 :=
  let v0 : IVec S2048 32 := select arg0 arg1 arg2
  v0

def fn_floor_divide {F : FTy → Type} [FloatOps F] (arg0 : IVec S2048 32) (arg1 : IVec S_ 32) : IVec S2048 32 :=
  let v0 : IVec S_ 32 := id arg1
  let v1 : IVec S2048 32 := broadcastInDim S2048 ![] bcast_S_S2048 v0
  let v2 : IVec S2048 32 := Host.divsi arg0 v1
  let v3 : IVec S2048 32 := signi arg0
  let v4 : IVec S_ 32 := signi v0
  let v5 : IVec S2048 32 := broadcastInDim S2048 ![] bcast_S_S2048 v4
  let v6 : IVec S2048 1 := cmpi .ne v3 v5
  let v7 : IVec S2048 32 := broadcastInDim S2048 ![] bcast_S_S2048 v0
  let v8 : IVec S2048 32 := Host.remsi arg0 v7
  let c : IVec S_ 32 := constantI S_ 32 0#32
  let v9 : IVec S2048 32 := broadcastInDim S2048 ![] bcast_S_S2048 c
  let v10 : IVec S2048 1 := cmpi .ne v8 v9
  let v11 : IVec S2048 1 := andi v6 v10
  let c_0 : IVec S_ 32 := constantI S_ 32 1#32
  let v12 : IVec S2048 32 := broadcastInDim S2048 ![] bcast_S_S2048 c_0
  let v13 : IVec S2048 32 := subi v2 v12
  let v14 : IVec S2048 32 := fn_where (F := F) v11 v13 v2
  v14

def fn_where_0 {F : FTy → Type} [FloatOps F] (arg0 : IVec S4x2048 1) (arg1 : IVec S_ 32) (arg2 : IVec S_ 32) : IVec S4x2048 32 :=
  let v0 : IVec S4x2048 32 := broadcastInDim S4x2048 ![] bcast_S_S4x2048 arg1
  let v1 : IVec S4x2048 32 := broadcastInDim S4x2048 ![] bcast_S_S4x2048 arg2
  let v2 : IVec S4x2048 32 := select arg0 v0 v1
  v2

def fn_part1 {F : FTy → Type} [FloatOps F] (main_v9 : IVec S4 32) (main_v15 : IVec S_ 1) (main_c_6 : IVec S_ 32) : IVec S_ 1 :=
  let main_v16 : IVec S4 32 := broadcastInDim S4 ![] bcast_S_S4 main_c_6
  let main_v17 : IVec S4 1 := cmpi .sle main_v9 main_v16
  let main_c_7 : IVec S_ 1 := constantI S_ 1 1#1
  let main_v18 : IVec S_ 1 := (fun x v => Host.reduce IntOp.andi x v reducesTo_S4_S_d0 h_S_) main_v17 main_c_7
  let main_v19 : IVec S_ 1 := andi main_v15 main_v18
  main_v19

def fn {F : FTy → Type} [FloatOps F] (main_arg0 : FVec F S2048x512 .f32) (main_arg1 : IVec S2048 32) (main_arg2 : FVec F S8x512x1024 .f32) (main_arg3 : FVec F S8x1024x512 .f32) : IVec S_ 1 :=
  let main_v0 : IVec S4 32 := iotaInDim S4 32 0
  let main_v1 : IVec S4x1 32 := shapeCast S4x1 main_v0 shapeCasts_S4_S4x1
  let main_c : IVec S_ 32 := constantI S_ 32 2#32
  let main_v2 : IVec S2048 32 := fn_floor_divide (F := F) main_arg1 main_c
  let main_v3 : IVec S1x2048 32 := shapeCast S1x2048 main_v2 shapeCasts_S2048_S1x2048
  let main_v4 : IVec S4x2048 32 := broadcastInDim S4x2048 ![0, 1] bcast_S1x2048_S4x2048_0_1 main_v3
  let main_v5 : IVec S4x2048 32 := broadcastInDim S4x2048 ![0, 1] bcast_S4x1_S4x2048_0_1 main_v1
  let main_v6 : IVec S4x2048 1 := cmpi .eq main_v4 main_v5
  let main_c_0 : IVec S_ 32 := constantI S_ 32 1#32
  let main_c_1 : IVec S_ 32 := constantI S_ 32 0#32
  let main_v7 : IVec S4x2048 32 := fn_where_0 (F := F) main_v6 main_c_0 main_c_1
  let main_v8 : IVec S4x2048 32 := id main_v7
  let main_c_2 : IVec S_ 32 := constantI S_ 32 0#32
  let main_v9 : IVec S4 32 := (fun x v => Host.reduce IntOp.addi x v reducesTo_S4x2048_S4_d1 h_S_) main_v8 main_c_2
  let main_c_3 : IVec S_ 32 := constantI S_ 32 0#32
  let main_v10 : IVec S2048 32 := broadcastInDim S2048 ![] bcast_S_S2048 main_c_3
  let main_v11 : IVec S2048 1 := cmpi .sge main_arg1 main_v10
  let main_c_4 : IVec S_ 32 := constantI S_ 32 8#32
  let main_v12 : IVec S2048 32 := broadcastInDim S2048 ![] bcast_S_S2048 main_c_4
  let main_v13 : IVec S2048 1 := cmpi .slt main_arg1 main_v12
  let main_v14 : IVec S2048 1 := andi main_v11 main_v13
  let main_c_5 : IVec S_ 1 := constantI S_ 1 1#1
  let main_v15 : IVec S_ 1 := (fun x v => Host.reduce IntOp.andi x v reducesTo_S2048_S_d0 h_S_) main_v14 main_c_5
  let main_c_6 : IVec S_ 32 := constantI S_ 32 32#32
  fn_part1 (F := F) main_v9 main_v15 main_c_6
-- ==== Kernel.lean ====
abbrev S64x512 : Shape := ⟨2, ![64, 512]⟩
abbrev S64 : Shape := ⟨1, ![64]⟩
abbrev S2x512x1024 : Shape := ⟨3, ![2, 512, 1024]⟩
abbrev S2x1024x512 : Shape := ⟨3, ![2, 1024, 512]⟩
abbrev S512x512 : Shape := ⟨2, ![512, 512]⟩
abbrev S3x32x512 : Shape := ⟨3, ![3, 32, 512]⟩
abbrev S3x32x1 : Shape := ⟨3, ![3, 32, 1]⟩
abbrev S4x64x32 : Shape := ⟨3, ![4, 64, 32]⟩
abbrev S_ : Shape := ⟨0, ![]⟩
abbrev S3 : Shape := ⟨1, ![3]⟩
abbrev S7 : Shape := ⟨1, ![7]⟩
abbrev S64x1 : Shape := ⟨2, ![64, 1]⟩
abbrev S1x64 : Shape := ⟨2, ![1, 64]⟩
abbrev S4x64 : Shape := ⟨2, ![4, 64]⟩
abbrev S64x64 : Shape := ⟨2, ![64, 64]⟩
abbrev S32x64 : Shape := ⟨2, ![32, 64]⟩
abbrev S32x512 : Shape := ⟨2, ![32, 512]⟩
abbrev S1x32x512 : Shape := ⟨3, ![1, 32, 512]⟩
abbrev S32x1 : Shape := ⟨2, ![32, 1]⟩
abbrev S1x32x1 : Shape := ⟨3, ![1, 32, 1]⟩
abbrev S1 : Shape := ⟨1, ![1]⟩
abbrev S64x4 : Shape := ⟨2, ![64, 4]⟩
abbrev S64x32 : Shape := ⟨2, ![64, 32]⟩
abbrev S1x64x32 : Shape := ⟨3, ![1, 64, 32]⟩
abbrev S1x512x1024 : Shape := ⟨3, ![1, 512, 1024]⟩
abbrev S512x1024 : Shape := ⟨2, ![512, 1024]⟩
abbrev S32x1024 : Shape := ⟨2, ![32, 1024]⟩
abbrev S1x1024x512 : Shape := ⟨3, ![1, 1024, 512]⟩
abbrev S1024x512 : Shape := ⟨2, ![1024, 512]⟩

abbrev nBuf : Space → Nat
  | .hbm => 5
  | .vmem => 12
  | .smem => 0
  | _ => 0

abbrev bufTy : (tb : Table) → Fin (tcTables nBuf tb) → BufTy
  | .hbm, ⟨0, _⟩ => ⟨S64x512, .f32⟩
  | .hbm, ⟨1, _⟩ => ⟨S64, .i32⟩
  | .hbm, ⟨2, _⟩ => ⟨S2x512x1024, .f32⟩
  | .hbm, ⟨3, _⟩ => ⟨S2x1024x512, .f32⟩
  | .hbm, ⟨4, _⟩ => ⟨S512x512, .f32⟩
  | .local _ .vmem, ⟨0, _⟩ => ⟨S64x512, .f32⟩
  | .local _ .vmem, ⟨1, _⟩ => ⟨S64, .i32⟩
  | .local _ .vmem, ⟨2, _⟩ => ⟨S2x512x1024, .f32⟩
  | .local _ .vmem, ⟨3, _⟩ => ⟨S2x1024x512, .f32⟩
  | .local _ .vmem, ⟨4, _⟩ => ⟨S512x512, .f32⟩
  | .local _ .vmem, ⟨5, _⟩ => ⟨S3x32x512, .f32⟩
  | .local _ .vmem, ⟨6, _⟩ => ⟨S3x32x1, .f32⟩
  | .local _ .vmem, ⟨7, _⟩ => ⟨S3x32x512, .f32⟩
  | .local _ .vmem, ⟨8, _⟩ => ⟨S3x32x1, .f32⟩
  | .local _ .vmem, ⟨9, _⟩ => ⟨S3x32x512, .f32⟩
  | .local _ .vmem, ⟨10, _⟩ => ⟨S3x32x512, .f32⟩
  | .local _ .vmem, ⟨11, _⟩ => ⟨S4x64x32, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 2 → Bool
  | ⟨0, _⟩ => true
  | ⟨1, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 2 37 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32_31 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_30 : BitVec 32 := 16#32
  let v91 : BitVec 32 := Scalar.muli v2 c16_i32_30
  let v92 : BitVec 32 := Scalar.addi c0_i32_31 v91
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_22 : BitVec 32 := 1#32
  let v80 : BitVec 32 := Scalar.addi v5 c1_i32_22
  let c4_i32_23 : BitVec 32 := 4#32
  let c0_i32_24 : BitVec 32 := 0#32
  let v81 : BitVec 1 := Scalar.cmpi .eq c4_i32_23 c0_i32_24
  let c1_i32_25 : BitVec 32 := 1#32
  let v82 : BitVec 32 := Scalar.select v81 c1_i32_25 c4_i32_23
  let v83 : BitVec 32 := Scalar.remsi v80 v82
  let c0_i32_27 : BitVec 32 := 0#32
  let v85 : BitVec 1 := Scalar.cmpi .slt v83 c0_i32_27
  let c0_i32_28 : BitVec 32 := 0#32
  let v86 : BitVec 1 := Scalar.cmpi .slt v82 c0_i32_28
  let v87 : BitVec 1 := Scalar.xori v85 v86
  let c0_i32_26 : BitVec 32 := 0#32
  let v84 : BitVec 1 := Scalar.cmpi .ne v83 c0_i32_26
  let v88 : BitVec 1 := Scalar.andi v87 v84
  let v89 : BitVec 32 := Scalar.addi v83 v82
  let v90 : BitVec 32 := Scalar.select v88 v89 v83
  let c4_i32_32 : BitVec 32 := 4#32
  let v93 : BitVec 32 := Scalar.muli v90 c4_i32_32
  let v94 : BitVec 32 := Scalar.addi v92 v93
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v95 : BitVec 32 := Scalar.muli v8 c1_i32_33
  let v96 : BitVec 32 := Scalar.addi v94 v95
  v96.toNat
def k0_dev2 (d0 : Dev nD) : Nat :=
  let c0_i32_43 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_42 : BitVec 32 := 16#32
  let v108 : BitVec 32 := Scalar.muli v2 c16_i32_42
  let v109 : BitVec 32 := Scalar.addi c0_i32_43 v108
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_34 : BitVec 32 := 2#32
  let v97 : BitVec 32 := Scalar.addi v5 c2_i32_34
  let c4_i32_35 : BitVec 32 := 4#32
  let c0_i32_36 : BitVec 32 := 0#32
  let v98 : BitVec 1 := Scalar.cmpi .eq c4_i32_35 c0_i32_36
  let c1_i32_37 : BitVec 32 := 1#32
  let v99 : BitVec 32 := Scalar.select v98 c1_i32_37 c4_i32_35
  let v100 : BitVec 32 := Scalar.remsi v97 v99
  let c0_i32_39 : BitVec 32 := 0#32
  let v102 : BitVec 1 := Scalar.cmpi .slt v100 c0_i32_39
  let c0_i32_40 : BitVec 32 := 0#32
  let v103 : BitVec 1 := Scalar.cmpi .slt v99 c0_i32_40
  let v104 : BitVec 1 := Scalar.xori v102 v103
  let c0_i32_38 : BitVec 32 := 0#32
  let v101 : BitVec 1 := Scalar.cmpi .ne v100 c0_i32_38
  let v105 : BitVec 1 := Scalar.andi v104 v101
  let v106 : BitVec 32 := Scalar.addi v100 v99
  let v107 : BitVec 32 := Scalar.select v105 v106 v100
  let c4_i32_44 : BitVec 32 := 4#32
  let v110 : BitVec 32 := Scalar.muli v107 c4_i32_44
  let v111 : BitVec 32 := Scalar.addi v109 v110
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v112 : BitVec 32 := Scalar.muli v8 c1_i32_45
  let v113 : BitVec 32 := Scalar.addi v111 v112
  v113.toNat
def k0_dev3 (d0 : Dev nD) : Nat :=
  let c0_i32_54 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_53 : BitVec 32 := 16#32
  let v125 : BitVec 32 := Scalar.muli v2 c16_i32_53
  let v126 : BitVec 32 := Scalar.addi c0_i32_54 v125
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v114 : BitVec 32 := Scalar.addi v5 c3_i32
  let c4_i32_46 : BitVec 32 := 4#32
  let c0_i32_47 : BitVec 32 := 0#32
  let v115 : BitVec 1 := Scalar.cmpi .eq c4_i32_46 c0_i32_47
  let c1_i32_48 : BitVec 32 := 1#32
  let v116 : BitVec 32 := Scalar.select v115 c1_i32_48 c4_i32_46
  let v117 : BitVec 32 := Scalar.remsi v114 v116
  let c0_i32_50 : BitVec 32 := 0#32
  let v119 : BitVec 1 := Scalar.cmpi .slt v117 c0_i32_50
  let c0_i32_51 : BitVec 32 := 0#32
  let v120 : BitVec 1 := Scalar.cmpi .slt v116 c0_i32_51
  let v121 : BitVec 1 := Scalar.xori v119 v120
  let c0_i32_49 : BitVec 32 := 0#32
  let v118 : BitVec 1 := Scalar.cmpi .ne v117 c0_i32_49
  let v122 : BitVec 1 := Scalar.andi v121 v118
  let v123 : BitVec 32 := Scalar.addi v117 v116
  let v124 : BitVec 32 := Scalar.select v122 v123 v117
  let c4_i32_55 : BitVec 32 := 4#32
  let v127 : BitVec 32 := Scalar.muli v124 c4_i32_55
  let v128 : BitVec 32 := Scalar.addi v126 v127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v129 : BitVec 32 := Scalar.muli v8 c1_i32_56
  let v130 : BitVec 32 := Scalar.addi v128 v129
  v130.toNat
def k0_dev4 (d0 : Dev nD) : Nat :=
  let c0_i32_78 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c1_i32_57 : BitVec 32 := 1#32
  let v131 : BitVec 32 := Scalar.addi v10 c1_i32_57
  let c8_i32 : BitVec 32 := 8#32
  let c0_i32_58 : BitVec 32 := 0#32
  let v132 : BitVec 1 := Scalar.cmpi .eq c8_i32 c0_i32_58
  let c1_i32_59 : BitVec 32 := 1#32
  let v133 : BitVec 32 := Scalar.select v132 c1_i32_59 c8_i32
  let v134 : BitVec 32 := Scalar.remsi v131 v133
  let c0_i32_61 : BitVec 32 := 0#32
  let v136 : BitVec 1 := Scalar.cmpi .slt v134 c0_i32_61
  let c0_i32_62 : BitVec 32 := 0#32
  let v137 : BitVec 1 := Scalar.cmpi .slt v133 c0_i32_62
  let v138 : BitVec 1 := Scalar.xori v136 v137
  let c0_i32_60 : BitVec 32 := 0#32
  let v135 : BitVec 1 := Scalar.cmpi .ne v134 c0_i32_60
  let v139 : BitVec 1 := Scalar.andi v138 v135
  let v140 : BitVec 32 := Scalar.addi v134 v133
  let v141 : BitVec 32 := Scalar.select v139 v140 v134
  let c0_i32_64 : BitVec 32 := 0#32
  let v143 : BitVec 1 := Scalar.cmpi .sgt v141 c0_i32_64
  let v144 : BitVec 32 := Scalar.extui v143
  let c0_i32_65 : BitVec 32 := 0#32
  let v145 : BitVec 1 := Scalar.cmpi .slt v141 c0_i32_65
  let v146 : BitVec 32 := Scalar.extui v145
  let v147 : BitVec 32 := Scalar.subi v144 v146
  let c4_i32_63 : BitVec 32 := 4#32
  let c0_i32_66 : BitVec 32 := 0#32
  let v148 : BitVec 1 := Scalar.cmpi .sgt c4_i32_63 c0_i32_66
  let v149 : BitVec 32 := Scalar.extui v148
  let c0_i32_67 : BitVec 32 := 0#32
  let v150 : BitVec 1 := Scalar.cmpi .slt c4_i32_63 c0_i32_67
  let v151 : BitVec 32 := Scalar.extui v150
  let v152 : BitVec 32 := Scalar.subi v149 v151
  let v153 : BitVec 1 := Scalar.cmpi .ne v147 v152
  let v154 : BitVec 32 := Scalar.remsi v141 c4_i32_63
  let c0_i32_68 : BitVec 32 := 0#32
  let v155 : BitVec 1 := Scalar.cmpi .ne v154 c0_i32_68
  let v156 : BitVec 1 := Scalar.andi v153 v155
  let v142 : BitVec 32 := Scalar.divsi v141 c4_i32_63
  let c1_i32_69 : BitVec 32 := 1#32
  let v157 : BitVec 32 := Scalar.subi v142 c1_i32_69
  let v158 : BitVec 32 := Scalar.select v156 v157 v142
  let c16_i32_77 : BitVec 32 := 16#32
  let v169 : BitVec 32 := Scalar.muli v158 c16_i32_77
  let v170 : BitVec 32 := Scalar.addi c0_i32_78 v169
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_79 : BitVec 32 := 4#32
  let v171 : BitVec 32 := Scalar.muli v5 c4_i32_79
  let v172 : BitVec 32 := Scalar.addi v170 v171
  let c4_i32_70 : BitVec 32 := 4#32
  let c0_i32_71 : BitVec 32 := 0#32
  let v159 : BitVec 1 := Scalar.cmpi .eq c4_i32_70 c0_i32_71
  let c1_i32_72 : BitVec 32 := 1#32
  let v160 : BitVec 32 := Scalar.select v159 c1_i32_72 c4_i32_70
  let v161 : BitVec 32 := Scalar.remsi v141 v160
  let c0_i32_74 : BitVec 32 := 0#32
  let v163 : BitVec 1 := Scalar.cmpi .slt v161 c0_i32_74
  let c0_i32_75 : BitVec 32 := 0#32
  let v164 : BitVec 1 := Scalar.cmpi .slt v160 c0_i32_75
  let v165 : BitVec 1 := Scalar.xori v163 v164
  let c0_i32_73 : BitVec 32 := 0#32
  let v162 : BitVec 1 := Scalar.cmpi .ne v161 c0_i32_73
  let v166 : BitVec 1 := Scalar.andi v165 v162
  let v167 : BitVec 32 := Scalar.addi v161 v160
  let v168 : BitVec 32 := Scalar.select v166 v167 v161
  let c1_i32_80 : BitVec 32 := 1#32
  let v173 : BitVec 32 := Scalar.muli v168 c1_i32_80
  let v174 : BitVec 32 := Scalar.addi v172 v173
  v174.toNat
def k0_dev5 (d0 : Dev nD) : Nat :=
  let c0_i32_103 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c2_i32_81 : BitVec 32 := 2#32
  let v175 : BitVec 32 := Scalar.addi v10 c2_i32_81
  let c8_i32_82 : BitVec 32 := 8#32
  let c0_i32_83 : BitVec 32 := 0#32
  let v176 : BitVec 1 := Scalar.cmpi .eq c8_i32_82 c0_i32_83
  let c1_i32_84 : BitVec 32 := 1#32
  let v177 : BitVec 32 := Scalar.select v176 c1_i32_84 c8_i32_82
  let v178 : BitVec 32 := Scalar.remsi v175 v177
  let c0_i32_86 : BitVec 32 := 0#32
  let v180 : BitVec 1 := Scalar.cmpi .slt v178 c0_i32_86
  let c0_i32_87 : BitVec 32 := 0#32
  let v181 : BitVec 1 := Scalar.cmpi .slt v177 c0_i32_87
  let v182 : BitVec 1 := Scalar.xori v180 v181
  let c0_i32_85 : BitVec 32 := 0#32
  let v179 : BitVec 1 := Scalar.cmpi .ne v178 c0_i32_85
  let v183 : BitVec 1 := Scalar.andi v182 v179
  let v184 : BitVec 32 := Scalar.addi v178 v177
  let v185 : BitVec 32 := Scalar.select v183 v184 v178
  let c0_i32_89 : BitVec 32 := 0#32
  let v187 : BitVec 1 := Scalar.cmpi .sgt v185 c0_i32_89
  let v188 : BitVec 32 := Scalar.extui v187
  let c0_i32_90 : BitVec 32 := 0#32
  let v189 : BitVec 1 := Scalar.cmpi .slt v185 c0_i32_90
  let v190 : BitVec 32 := Scalar.extui v189
  let v191 : BitVec 32 := Scalar.subi v188 v190
  let c4_i32_88 : BitVec 32 := 4#32
  let c0_i32_91 : BitVec 32 := 0#32
  let v192 : BitVec 1 := Scalar.cmpi .sgt c4_i32_88 c0_i32_91
  let v193 : BitVec 32 := Scalar.extui v192
  let c0_i32_92 : BitVec 32 := 0#32
  let v194 : BitVec 1 := Scalar.cmpi .slt c4_i32_88 c0_i32_92
  let v195 : BitVec 32 := Scalar.extui v194
  let v196 : BitVec 32 := Scalar.subi v193 v195
  let v197 : BitVec 1 := Scalar.cmpi .ne v191 v196
  let v198 : BitVec 32 := Scalar.remsi v185 c4_i32_88
  let c0_i32_93 : BitVec 32 := 0#32
  let v199 : BitVec 1 := Scalar.cmpi .ne v198 c0_i32_93
  let v200 : BitVec 1 := Scalar.andi v197 v199
  let v186 : BitVec 32 := Scalar.divsi v185 c4_i32_88
  let c1_i32_94 : BitVec 32 := 1#32
  let v201 : BitVec 32 := Scalar.subi v186 c1_i32_94
  let v202 : BitVec 32 := Scalar.select v200 v201 v186
  let c16_i32_102 : BitVec 32 := 16#32
  let v213 : BitVec 32 := Scalar.muli v202 c16_i32_102
  let v214 : BitVec 32 := Scalar.addi c0_i32_103 v213
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_104 : BitVec 32 := 4#32
  let v215 : BitVec 32 := Scalar.muli v5 c4_i32_104
  let v216 : BitVec 32 := Scalar.addi v214 v215
  let c4_i32_95 : BitVec 32 := 4#32
  let c0_i32_96 : BitVec 32 := 0#32
  let v203 : BitVec 1 := Scalar.cmpi .eq c4_i32_95 c0_i32_96
  let c1_i32_97 : BitVec 32 := 1#32
  let v204 : BitVec 32 := Scalar.select v203 c1_i32_97 c4_i32_95
  let v205 : BitVec 32 := Scalar.remsi v185 v204
  let c0_i32_99 : BitVec 32 := 0#32
  let v207 : BitVec 1 := Scalar.cmpi .slt v205 c0_i32_99
  let c0_i32_100 : BitVec 32 := 0#32
  let v208 : BitVec 1 := Scalar.cmpi .slt v204 c0_i32_100
  let v209 : BitVec 1 := Scalar.xori v207 v208
  let c0_i32_98 : BitVec 32 := 0#32
  let v206 : BitVec 1 := Scalar.cmpi .ne v205 c0_i32_98
  let v210 : BitVec 1 := Scalar.andi v209 v206
  let v211 : BitVec 32 := Scalar.addi v205 v204
  let v212 : BitVec 32 := Scalar.select v210 v211 v205
  let c1_i32_105 : BitVec 32 := 1#32
  let v217 : BitVec 32 := Scalar.muli v212 c1_i32_105
  let v218 : BitVec 32 := Scalar.addi v216 v217
  v218.toNat
def k0_dev6 (d0 : Dev nD) : Nat :=
  let c0_i32_128 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c3_i32_106 : BitVec 32 := 3#32
  let v219 : BitVec 32 := Scalar.addi v10 c3_i32_106
  let c8_i32_107 : BitVec 32 := 8#32
  let c0_i32_108 : BitVec 32 := 0#32
  let v220 : BitVec 1 := Scalar.cmpi .eq c8_i32_107 c0_i32_108
  let c1_i32_109 : BitVec 32 := 1#32
  let v221 : BitVec 32 := Scalar.select v220 c1_i32_109 c8_i32_107
  let v222 : BitVec 32 := Scalar.remsi v219 v221
  let c0_i32_111 : BitVec 32 := 0#32
  let v224 : BitVec 1 := Scalar.cmpi .slt v222 c0_i32_111
  let c0_i32_112 : BitVec 32 := 0#32
  let v225 : BitVec 1 := Scalar.cmpi .slt v221 c0_i32_112
  let v226 : BitVec 1 := Scalar.xori v224 v225
  let c0_i32_110 : BitVec 32 := 0#32
  let v223 : BitVec 1 := Scalar.cmpi .ne v222 c0_i32_110
  let v227 : BitVec 1 := Scalar.andi v226 v223
  let v228 : BitVec 32 := Scalar.addi v222 v221
  let v229 : BitVec 32 := Scalar.select v227 v228 v222
  let c0_i32_114 : BitVec 32 := 0#32
  let v231 : BitVec 1 := Scalar.cmpi .sgt v229 c0_i32_114
  let v232 : BitVec 32 := Scalar.extui v231
  let c0_i32_115 : BitVec 32 := 0#32
  let v233 : BitVec 1 := Scalar.cmpi .slt v229 c0_i32_115
  let v234 : BitVec 32 := Scalar.extui v233
  let v235 : BitVec 32 := Scalar.subi v232 v234
  let c4_i32_113 : BitVec 32 := 4#32
  let c0_i32_116 : BitVec 32 := 0#32
  let v236 : BitVec 1 := Scalar.cmpi .sgt c4_i32_113 c0_i32_116
  let v237 : BitVec 32 := Scalar.extui v236
  let c0_i32_117 : BitVec 32 := 0#32
  let v238 : BitVec 1 := Scalar.cmpi .slt c4_i32_113 c0_i32_117
  let v239 : BitVec 32 := Scalar.extui v238
  let v240 : BitVec 32 := Scalar.subi v237 v239
  let v241 : BitVec 1 := Scalar.cmpi .ne v235 v240
  let v242 : BitVec 32 := Scalar.remsi v229 c4_i32_113
  let c0_i32_118 : BitVec 32 := 0#32
  let v243 : BitVec 1 := Scalar.cmpi .ne v242 c0_i32_118
  let v244 : BitVec 1 := Scalar.andi v241 v243
  let v230 : BitVec 32 := Scalar.divsi v229 c4_i32_113
  let c1_i32_119 : BitVec 32 := 1#32
  let v245 : BitVec 32 := Scalar.subi v230 c1_i32_119
  let v246 : BitVec 32 := Scalar.select v244 v245 v230
  let c16_i32_127 : BitVec 32 := 16#32
  let v257 : BitVec 32 := Scalar.muli v246 c16_i32_127
  let v258 : BitVec 32 := Scalar.addi c0_i32_128 v257
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_129 : BitVec 32 := 4#32
  let v259 : BitVec 32 := Scalar.muli v5 c4_i32_129
  let v260 : BitVec 32 := Scalar.addi v258 v259
  let c4_i32_120 : BitVec 32 := 4#32
  let c0_i32_121 : BitVec 32 := 0#32
  let v247 : BitVec 1 := Scalar.cmpi .eq c4_i32_120 c0_i32_121
  let c1_i32_122 : BitVec 32 := 1#32
  let v248 : BitVec 32 := Scalar.select v247 c1_i32_122 c4_i32_120
  let v249 : BitVec 32 := Scalar.remsi v229 v248
  let c0_i32_124 : BitVec 32 := 0#32
  let v251 : BitVec 1 := Scalar.cmpi .slt v249 c0_i32_124
  let c0_i32_125 : BitVec 32 := 0#32
  let v252 : BitVec 1 := Scalar.cmpi .slt v248 c0_i32_125
  let v253 : BitVec 1 := Scalar.xori v251 v252
  let c0_i32_123 : BitVec 32 := 0#32
  let v250 : BitVec 1 := Scalar.cmpi .ne v249 c0_i32_123
  let v254 : BitVec 1 := Scalar.andi v253 v250
  let v255 : BitVec 32 := Scalar.addi v249 v248
  let v256 : BitVec 32 := Scalar.select v254 v255 v249
  let c1_i32_130 : BitVec 32 := 1#32
  let v261 : BitVec 32 := Scalar.muli v256 c1_i32_130
  let v262 : BitVec 32 := Scalar.addi v260 v261
  v262.toNat
def k0_dev7 (d0 : Dev nD) : Nat :=
  let c0_i32_153 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c4_i32_131 : BitVec 32 := 4#32
  let v263 : BitVec 32 := Scalar.addi v10 c4_i32_131
  let c8_i32_132 : BitVec 32 := 8#32
  let c0_i32_133 : BitVec 32 := 0#32
  let v264 : BitVec 1 := Scalar.cmpi .eq c8_i32_132 c0_i32_133
  let c1_i32_134 : BitVec 32 := 1#32
  let v265 : BitVec 32 := Scalar.select v264 c1_i32_134 c8_i32_132
  let v266 : BitVec 32 := Scalar.remsi v263 v265
  let c0_i32_136 : BitVec 32 := 0#32
  let v268 : BitVec 1 := Scalar.cmpi .slt v266 c0_i32_136
  let c0_i32_137 : BitVec 32 := 0#32
  let v269 : BitVec 1 := Scalar.cmpi .slt v265 c0_i32_137
  let v270 : BitVec 1 := Scalar.xori v268 v269
  let c0_i32_135 : BitVec 32 := 0#32
  let v267 : BitVec 1 := Scalar.cmpi .ne v266 c0_i32_135
  let v271 : BitVec 1 := Scalar.andi v270 v267
  let v272 : BitVec 32 := Scalar.addi v266 v265
  let v273 : BitVec 32 := Scalar.select v271 v272 v266
  let c0_i32_139 : BitVec 32 := 0#32
  let v275 : BitVec 1 := Scalar.cmpi .sgt v273 c0_i32_139
  let v276 : BitVec 32 := Scalar.extui v275
  let c0_i32_140 : BitVec 32 := 0#32
  let v277 : BitVec 1 := Scalar.cmpi .slt v273 c0_i32_140
  let v278 : BitVec 32 := Scalar.extui v277
  let v279 : BitVec 32 := Scalar.subi v276 v278
  let c4_i32_138 : BitVec 32 := 4#32
  let c0_i32_141 : BitVec 32 := 0#32
  let v280 : BitVec 1 := Scalar.cmpi .sgt c4_i32_138 c0_i32_141
  let v281 : BitVec 32 := Scalar.extui v280
  let c0_i32_142 : BitVec 32 := 0#32
  let v282 : BitVec 1 := Scalar.cmpi .slt c4_i32_138 c0_i32_142
  let v283 : BitVec 32 := Scalar.extui v282
  let v284 : BitVec 32 := Scalar.subi v281 v283
  let v285 : BitVec 1 := Scalar.cmpi .ne v279 v284
  let v286 : BitVec 32 := Scalar.remsi v273 c4_i32_138
  let c0_i32_143 : BitVec 32 := 0#32
  let v287 : BitVec 1 := Scalar.cmpi .ne v286 c0_i32_143
  let v288 : BitVec 1 := Scalar.andi v285 v287
  let v274 : BitVec 32 := Scalar.divsi v273 c4_i32_138
  let c1_i32_144 : BitVec 32 := 1#32
  let v289 : BitVec 32 := Scalar.subi v274 c1_i32_144
  let v290 : BitVec 32 := Scalar.select v288 v289 v274
  let c16_i32_152 : BitVec 32 := 16#32
  let v301 : BitVec 32 := Scalar.muli v290 c16_i32_152
  let v302 : BitVec 32 := Scalar.addi c0_i32_153 v301
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_154 : BitVec 32 := 4#32
  let v303 : BitVec 32 := Scalar.muli v5 c4_i32_154
  let v304 : BitVec 32 := Scalar.addi v302 v303
  let c4_i32_145 : BitVec 32 := 4#32
  let c0_i32_146 : BitVec 32 := 0#32
  let v291 : BitVec 1 := Scalar.cmpi .eq c4_i32_145 c0_i32_146
  let c1_i32_147 : BitVec 32 := 1#32
  let v292 : BitVec 32 := Scalar.select v291 c1_i32_147 c4_i32_145
  let v293 : BitVec 32 := Scalar.remsi v273 v292
  let c0_i32_149 : BitVec 32 := 0#32
  let v295 : BitVec 1 := Scalar.cmpi .slt v293 c0_i32_149
  let c0_i32_150 : BitVec 32 := 0#32
  let v296 : BitVec 1 := Scalar.cmpi .slt v292 c0_i32_150
  let v297 : BitVec 1 := Scalar.xori v295 v296
  let c0_i32_148 : BitVec 32 := 0#32
  let v294 : BitVec 1 := Scalar.cmpi .ne v293 c0_i32_148
  let v298 : BitVec 1 := Scalar.andi v297 v294
  let v299 : BitVec 32 := Scalar.addi v293 v292
  let v300 : BitVec 32 := Scalar.select v298 v299 v293
  let c1_i32_155 : BitVec 32 := 1#32
  let v305 : BitVec 32 := Scalar.muli v300 c1_i32_155
  let v306 : BitVec 32 := Scalar.addi v304 v305
  v306.toNat
def k0_dev8 (d0 : Dev nD) : Nat :=
  let c0_i32_177 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c5_i32 : BitVec 32 := 5#32
  let v307 : BitVec 32 := Scalar.addi v10 c5_i32
  let c8_i32_156 : BitVec 32 := 8#32
  let c0_i32_157 : BitVec 32 := 0#32
  let v308 : BitVec 1 := Scalar.cmpi .eq c8_i32_156 c0_i32_157
  let c1_i32_158 : BitVec 32 := 1#32
  let v309 : BitVec 32 := Scalar.select v308 c1_i32_158 c8_i32_156
  let v310 : BitVec 32 := Scalar.remsi v307 v309
  let c0_i32_160 : BitVec 32 := 0#32
  let v312 : BitVec 1 := Scalar.cmpi .slt v310 c0_i32_160
  let c0_i32_161 : BitVec 32 := 0#32
  let v313 : BitVec 1 := Scalar.cmpi .slt v309 c0_i32_161
  let v314 : BitVec 1 := Scalar.xori v312 v313
  let c0_i32_159 : BitVec 32 := 0#32
  let v311 : BitVec 1 := Scalar.cmpi .ne v310 c0_i32_159
  let v315 : BitVec 1 := Scalar.andi v314 v311
  let v316 : BitVec 32 := Scalar.addi v310 v309
  let v317 : BitVec 32 := Scalar.select v315 v316 v310
  let c0_i32_163 : BitVec 32 := 0#32
  let v319 : BitVec 1 := Scalar.cmpi .sgt v317 c0_i32_163
  let v320 : BitVec 32 := Scalar.extui v319
  let c0_i32_164 : BitVec 32 := 0#32
  let v321 : BitVec 1 := Scalar.cmpi .slt v317 c0_i32_164
  let v322 : BitVec 32 := Scalar.extui v321
  let v323 : BitVec 32 := Scalar.subi v320 v322
  let c4_i32_162 : BitVec 32 := 4#32
  let c0_i32_165 : BitVec 32 := 0#32
  let v324 : BitVec 1 := Scalar.cmpi .sgt c4_i32_162 c0_i32_165
  let v325 : BitVec 32 := Scalar.extui v324
  let c0_i32_166 : BitVec 32 := 0#32
  let v326 : BitVec 1 := Scalar.cmpi .slt c4_i32_162 c0_i32_166
  let v327 : BitVec 32 := Scalar.extui v326
  let v328 : BitVec 32 := Scalar.subi v325 v327
  let v329 : BitVec 1 := Scalar.cmpi .ne v323 v328
  let v330 : BitVec 32 := Scalar.remsi v317 c4_i32_162
  let c0_i32_167 : BitVec 32 := 0#32
  let v331 : BitVec 1 := Scalar.cmpi .ne v330 c0_i32_167
  let v332 : BitVec 1 := Scalar.andi v329 v331
  let v318 : BitVec 32 := Scalar.divsi v317 c4_i32_162
  let c1_i32_168 : BitVec 32 := 1#32
  let v333 : BitVec 32 := Scalar.subi v318 c1_i32_168
  let v334 : BitVec 32 := Scalar.select v332 v333 v318
  let c16_i32_176 : BitVec 32 := 16#32
  let v345 : BitVec 32 := Scalar.muli v334 c16_i32_176
  let v346 : BitVec 32 := Scalar.addi c0_i32_177 v345
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_178 : BitVec 32 := 4#32
  let v347 : BitVec 32 := Scalar.muli v5 c4_i32_178
  let v348 : BitVec 32 := Scalar.addi v346 v347
  let c4_i32_169 : BitVec 32 := 4#32
  let c0_i32_170 : BitVec 32 := 0#32
  let v335 : BitVec 1 := Scalar.cmpi .eq c4_i32_169 c0_i32_170
  let c1_i32_171 : BitVec 32 := 1#32
  let v336 : BitVec 32 := Scalar.select v335 c1_i32_171 c4_i32_169
  let v337 : BitVec 32 := Scalar.remsi v317 v336
  let c0_i32_173 : BitVec 32 := 0#32
  let v339 : BitVec 1 := Scalar.cmpi .slt v337 c0_i32_173
  let c0_i32_174 : BitVec 32 := 0#32
  let v340 : BitVec 1 := Scalar.cmpi .slt v336 c0_i32_174
  let v341 : BitVec 1 := Scalar.xori v339 v340
  let c0_i32_172 : BitVec 32 := 0#32
  let v338 : BitVec 1 := Scalar.cmpi .ne v337 c0_i32_172
  let v342 : BitVec 1 := Scalar.andi v341 v338
  let v343 : BitVec 32 := Scalar.addi v337 v336
  let v344 : BitVec 32 := Scalar.select v342 v343 v337
  let c1_i32_179 : BitVec 32 := 1#32
  let v349 : BitVec 32 := Scalar.muli v344 c1_i32_179
  let v350 : BitVec 32 := Scalar.addi v348 v349
  v350.toNat
def k0_dev9 (d0 : Dev nD) : Nat :=
  let c0_i32_201 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c6_i32 : BitVec 32 := 6#32
  let v351 : BitVec 32 := Scalar.addi v10 c6_i32
  let c8_i32_180 : BitVec 32 := 8#32
  let c0_i32_181 : BitVec 32 := 0#32
  let v352 : BitVec 1 := Scalar.cmpi .eq c8_i32_180 c0_i32_181
  let c1_i32_182 : BitVec 32 := 1#32
  let v353 : BitVec 32 := Scalar.select v352 c1_i32_182 c8_i32_180
  let v354 : BitVec 32 := Scalar.remsi v351 v353
  let c0_i32_184 : BitVec 32 := 0#32
  let v356 : BitVec 1 := Scalar.cmpi .slt v354 c0_i32_184
  let c0_i32_185 : BitVec 32 := 0#32
  let v357 : BitVec 1 := Scalar.cmpi .slt v353 c0_i32_185
  let v358 : BitVec 1 := Scalar.xori v356 v357
  let c0_i32_183 : BitVec 32 := 0#32
  let v355 : BitVec 1 := Scalar.cmpi .ne v354 c0_i32_183
  let v359 : BitVec 1 := Scalar.andi v358 v355
  let v360 : BitVec 32 := Scalar.addi v354 v353
  let v361 : BitVec 32 := Scalar.select v359 v360 v354
  let c0_i32_187 : BitVec 32 := 0#32
  let v363 : BitVec 1 := Scalar.cmpi .sgt v361 c0_i32_187
  let v364 : BitVec 32 := Scalar.extui v363
  let c0_i32_188 : BitVec 32 := 0#32
  let v365 : BitVec 1 := Scalar.cmpi .slt v361 c0_i32_188
  let v366 : BitVec 32 := Scalar.extui v365
  let v367 : BitVec 32 := Scalar.subi v364 v366
  let c4_i32_186 : BitVec 32 := 4#32
  let c0_i32_189 : BitVec 32 := 0#32
  let v368 : BitVec 1 := Scalar.cmpi .sgt c4_i32_186 c0_i32_189
  let v369 : BitVec 32 := Scalar.extui v368
  let c0_i32_190 : BitVec 32 := 0#32
  let v370 : BitVec 1 := Scalar.cmpi .slt c4_i32_186 c0_i32_190
  let v371 : BitVec 32 := Scalar.extui v370
  let v372 : BitVec 32 := Scalar.subi v369 v371
  let v373 : BitVec 1 := Scalar.cmpi .ne v367 v372
  let v374 : BitVec 32 := Scalar.remsi v361 c4_i32_186
  let c0_i32_191 : BitVec 32 := 0#32
  let v375 : BitVec 1 := Scalar.cmpi .ne v374 c0_i32_191
  let v376 : BitVec 1 := Scalar.andi v373 v375
  let v362 : BitVec 32 := Scalar.divsi v361 c4_i32_186
  let c1_i32_192 : BitVec 32 := 1#32
  let v377 : BitVec 32 := Scalar.subi v362 c1_i32_192
  let v378 : BitVec 32 := Scalar.select v376 v377 v362
  let c16_i32_200 : BitVec 32 := 16#32
  let v389 : BitVec 32 := Scalar.muli v378 c16_i32_200
  let v390 : BitVec 32 := Scalar.addi c0_i32_201 v389
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_202 : BitVec 32 := 4#32
  let v391 : BitVec 32 := Scalar.muli v5 c4_i32_202
  let v392 : BitVec 32 := Scalar.addi v390 v391
  let c4_i32_193 : BitVec 32 := 4#32
  let c0_i32_194 : BitVec 32 := 0#32
  let v379 : BitVec 1 := Scalar.cmpi .eq c4_i32_193 c0_i32_194
  let c1_i32_195 : BitVec 32 := 1#32
  let v380 : BitVec 32 := Scalar.select v379 c1_i32_195 c4_i32_193
  let v381 : BitVec 32 := Scalar.remsi v361 v380
  let c0_i32_197 : BitVec 32 := 0#32
  let v383 : BitVec 1 := Scalar.cmpi .slt v381 c0_i32_197
  let c0_i32_198 : BitVec 32 := 0#32
  let v384 : BitVec 1 := Scalar.cmpi .slt v380 c0_i32_198
  let v385 : BitVec 1 := Scalar.xori v383 v384
  let c0_i32_196 : BitVec 32 := 0#32
  let v382 : BitVec 1 := Scalar.cmpi .ne v381 c0_i32_196
  let v386 : BitVec 1 := Scalar.andi v385 v382
  let v387 : BitVec 32 := Scalar.addi v381 v380
  let v388 : BitVec 32 := Scalar.select v386 v387 v381
  let c1_i32_203 : BitVec 32 := 1#32
  let v393 : BitVec 32 := Scalar.muli v388 c1_i32_203
  let v394 : BitVec 32 := Scalar.addi v392 v393
  v394.toNat
def k0_dev10 (d0 : Dev nD) : Nat :=
  let c0_i32_225 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c7_i32 : BitVec 32 := 7#32
  let v395 : BitVec 32 := Scalar.addi v10 c7_i32
  let c8_i32_204 : BitVec 32 := 8#32
  let c0_i32_205 : BitVec 32 := 0#32
  let v396 : BitVec 1 := Scalar.cmpi .eq c8_i32_204 c0_i32_205
  let c1_i32_206 : BitVec 32 := 1#32
  let v397 : BitVec 32 := Scalar.select v396 c1_i32_206 c8_i32_204
  let v398 : BitVec 32 := Scalar.remsi v395 v397
  let c0_i32_208 : BitVec 32 := 0#32
  let v400 : BitVec 1 := Scalar.cmpi .slt v398 c0_i32_208
  let c0_i32_209 : BitVec 32 := 0#32
  let v401 : BitVec 1 := Scalar.cmpi .slt v397 c0_i32_209
  let v402 : BitVec 1 := Scalar.xori v400 v401
  let c0_i32_207 : BitVec 32 := 0#32
  let v399 : BitVec 1 := Scalar.cmpi .ne v398 c0_i32_207
  let v403 : BitVec 1 := Scalar.andi v402 v399
  let v404 : BitVec 32 := Scalar.addi v398 v397
  let v405 : BitVec 32 := Scalar.select v403 v404 v398
  let c0_i32_211 : BitVec 32 := 0#32
  let v407 : BitVec 1 := Scalar.cmpi .sgt v405 c0_i32_211
  let v408 : BitVec 32 := Scalar.extui v407
  let c0_i32_212 : BitVec 32 := 0#32
  let v409 : BitVec 1 := Scalar.cmpi .slt v405 c0_i32_212
  let v410 : BitVec 32 := Scalar.extui v409
  let v411 : BitVec 32 := Scalar.subi v408 v410
  let c4_i32_210 : BitVec 32 := 4#32
  let c0_i32_213 : BitVec 32 := 0#32
  let v412 : BitVec 1 := Scalar.cmpi .sgt c4_i32_210 c0_i32_213
  let v413 : BitVec 32 := Scalar.extui v412
  let c0_i32_214 : BitVec 32 := 0#32
  let v414 : BitVec 1 := Scalar.cmpi .slt c4_i32_210 c0_i32_214
  let v415 : BitVec 32 := Scalar.extui v414
  let v416 : BitVec 32 := Scalar.subi v413 v415
  let v417 : BitVec 1 := Scalar.cmpi .ne v411 v416
  let v418 : BitVec 32 := Scalar.remsi v405 c4_i32_210
  let c0_i32_215 : BitVec 32 := 0#32
  let v419 : BitVec 1 := Scalar.cmpi .ne v418 c0_i32_215
  let v420 : BitVec 1 := Scalar.andi v417 v419
  let v406 : BitVec 32 := Scalar.divsi v405 c4_i32_210
  let c1_i32_216 : BitVec 32 := 1#32
  let v421 : BitVec 32 := Scalar.subi v406 c1_i32_216
  let v422 : BitVec 32 := Scalar.select v420 v421 v406
  let c16_i32_224 : BitVec 32 := 16#32
  let v433 : BitVec 32 := Scalar.muli v422 c16_i32_224
  let v434 : BitVec 32 := Scalar.addi c0_i32_225 v433
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_226 : BitVec 32 := 4#32
  let v435 : BitVec 32 := Scalar.muli v5 c4_i32_226
  let v436 : BitVec 32 := Scalar.addi v434 v435
  let c4_i32_217 : BitVec 32 := 4#32
  let c0_i32_218 : BitVec 32 := 0#32
  let v423 : BitVec 1 := Scalar.cmpi .eq c4_i32_217 c0_i32_218
  let c1_i32_219 : BitVec 32 := 1#32
  let v424 : BitVec 32 := Scalar.select v423 c1_i32_219 c4_i32_217
  let v425 : BitVec 32 := Scalar.remsi v405 v424
  let c0_i32_221 : BitVec 32 := 0#32
  let v427 : BitVec 1 := Scalar.cmpi .slt v425 c0_i32_221
  let c0_i32_222 : BitVec 32 := 0#32
  let v428 : BitVec 1 := Scalar.cmpi .slt v424 c0_i32_222
  let v429 : BitVec 1 := Scalar.xori v427 v428
  let c0_i32_220 : BitVec 32 := 0#32
  let v426 : BitVec 1 := Scalar.cmpi .ne v425 c0_i32_220
  let v430 : BitVec 1 := Scalar.andi v429 v426
  let v431 : BitVec 32 := Scalar.addi v425 v424
  let v432 : BitVec 32 := Scalar.select v430 v431 v425
  let c1_i32_227 : BitVec 32 := 1#32
  let v437 : BitVec 32 := Scalar.muli v432 c1_i32_227
  let v438 : BitVec 32 := Scalar.addi v436 v437
  v438.toNat
def k0_dev11 (d0 : Dev nD) : Nat :=
  let c0_i32_287 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_286 : BitVec 32 := 16#32
  let v534 : BitVec 32 := Scalar.muli v2 c16_i32_286
  let v535 : BitVec 32 := Scalar.addi c0_i32_287 v534
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_275 : BitVec 32 := 1#32
  let v523 : BitVec 32 := Scalar.addi v5 c1_i32_275
  let c4_i32_276 : BitVec 32 := 4#32
  let c0_i32_277 : BitVec 32 := 0#32
  let v524 : BitVec 1 := Scalar.cmpi .eq c4_i32_276 c0_i32_277
  let c1_i32_278 : BitVec 32 := 1#32
  let v525 : BitVec 32 := Scalar.select v524 c1_i32_278 c4_i32_276
  let v526 : BitVec 32 := Scalar.remsi v523 v525
  let c0_i32_280 : BitVec 32 := 0#32
  let v528 : BitVec 1 := Scalar.cmpi .slt v526 c0_i32_280
  let c0_i32_281 : BitVec 32 := 0#32
  let v529 : BitVec 1 := Scalar.cmpi .slt v525 c0_i32_281
  let v530 : BitVec 1 := Scalar.xori v528 v529
  let c0_i32_279 : BitVec 32 := 0#32
  let v527 : BitVec 1 := Scalar.cmpi .ne v526 c0_i32_279
  let v531 : BitVec 1 := Scalar.andi v530 v527
  let v532 : BitVec 32 := Scalar.addi v526 v525
  let v533 : BitVec 32 := Scalar.select v531 v532 v526
  let c4_i32_288 : BitVec 32 := 4#32
  let v536 : BitVec 32 := Scalar.muli v533 c4_i32_288
  let v537 : BitVec 32 := Scalar.addi v535 v536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_289 : BitVec 32 := 1#32
  let v538 : BitVec 32 := Scalar.muli v8 c1_i32_289
  let v539 : BitVec 32 := Scalar.addi v537 v538
  v539.toNat
def k0_dev12 (d0 : Dev nD) : Nat :=
  let c0_i32_299 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_298 : BitVec 32 := 16#32
  let v548 : BitVec 32 := Scalar.muli v2 c16_i32_298
  let v549 : BitVec 32 := Scalar.addi c0_i32_299 v548
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_275 : BitVec 32 := 1#32
  let v523 : BitVec 32 := Scalar.addi v5 c1_i32_275
  let c4_i32_276 : BitVec 32 := 4#32
  let c0_i32_277 : BitVec 32 := 0#32
  let v524 : BitVec 1 := Scalar.cmpi .eq c4_i32_276 c0_i32_277
  let c1_i32_278 : BitVec 32 := 1#32
  let v525 : BitVec 32 := Scalar.select v524 c1_i32_278 c4_i32_276
  let v526 : BitVec 32 := Scalar.remsi v523 v525
  let c0_i32_280 : BitVec 32 := 0#32
  let v528 : BitVec 1 := Scalar.cmpi .slt v526 c0_i32_280
  let c0_i32_281 : BitVec 32 := 0#32
  let v529 : BitVec 1 := Scalar.cmpi .slt v525 c0_i32_281
  let v530 : BitVec 1 := Scalar.xori v528 v529
  let c0_i32_279 : BitVec 32 := 0#32
  let v527 : BitVec 1 := Scalar.cmpi .ne v526 c0_i32_279
  let v531 : BitVec 1 := Scalar.andi v530 v527
  let v532 : BitVec 32 := Scalar.addi v526 v525
  let v533 : BitVec 32 := Scalar.select v531 v532 v526
  let c4_i32_300 : BitVec 32 := 4#32
  let v550 : BitVec 32 := Scalar.muli v533 c4_i32_300
  let v551 : BitVec 32 := Scalar.addi v549 v550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_301 : BitVec 32 := 1#32
  let v552 : BitVec 32 := Scalar.muli v8 c1_i32_301
  let v553 : BitVec 32 := Scalar.addi v551 v552
  v553.toNat
def k0_dev13 (d0 : Dev nD) : Nat :=
  let c0_i32_318 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_317 : BitVec 32 := 16#32
  let v573 : BitVec 32 := Scalar.muli v2 c16_i32_317
  let v574 : BitVec 32 := Scalar.addi c0_i32_318 v573
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_306 : BitVec 32 := 2#32
  let v562 : BitVec 32 := Scalar.addi v5 c2_i32_306
  let c4_i32_307 : BitVec 32 := 4#32
  let c0_i32_308 : BitVec 32 := 0#32
  let v563 : BitVec 1 := Scalar.cmpi .eq c4_i32_307 c0_i32_308
  let c1_i32_309 : BitVec 32 := 1#32
  let v564 : BitVec 32 := Scalar.select v563 c1_i32_309 c4_i32_307
  let v565 : BitVec 32 := Scalar.remsi v562 v564
  let c0_i32_311 : BitVec 32 := 0#32
  let v567 : BitVec 1 := Scalar.cmpi .slt v565 c0_i32_311
  let c0_i32_312 : BitVec 32 := 0#32
  let v568 : BitVec 1 := Scalar.cmpi .slt v564 c0_i32_312
  let v569 : BitVec 1 := Scalar.xori v567 v568
  let c0_i32_310 : BitVec 32 := 0#32
  let v566 : BitVec 1 := Scalar.cmpi .ne v565 c0_i32_310
  let v570 : BitVec 1 := Scalar.andi v569 v566
  let v571 : BitVec 32 := Scalar.addi v565 v564
  let v572 : BitVec 32 := Scalar.select v570 v571 v565
  let c4_i32_319 : BitVec 32 := 4#32
  let v575 : BitVec 32 := Scalar.muli v572 c4_i32_319
  let v576 : BitVec 32 := Scalar.addi v574 v575
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_320 : BitVec 32 := 1#32
  let v577 : BitVec 32 := Scalar.muli v8 c1_i32_320
  let v578 : BitVec 32 := Scalar.addi v576 v577
  v578.toNat
def k0_dev14 (d0 : Dev nD) : Nat :=
  let c0_i32_330 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_329 : BitVec 32 := 16#32
  let v587 : BitVec 32 := Scalar.muli v2 c16_i32_329
  let v588 : BitVec 32 := Scalar.addi c0_i32_330 v587
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_306 : BitVec 32 := 2#32
  let v562 : BitVec 32 := Scalar.addi v5 c2_i32_306
  let c4_i32_307 : BitVec 32 := 4#32
  let c0_i32_308 : BitVec 32 := 0#32
  let v563 : BitVec 1 := Scalar.cmpi .eq c4_i32_307 c0_i32_308
  let c1_i32_309 : BitVec 32 := 1#32
  let v564 : BitVec 32 := Scalar.select v563 c1_i32_309 c4_i32_307
  let v565 : BitVec 32 := Scalar.remsi v562 v564
  let c0_i32_311 : BitVec 32 := 0#32
  let v567 : BitVec 1 := Scalar.cmpi .slt v565 c0_i32_311
  let c0_i32_312 : BitVec 32 := 0#32
  let v568 : BitVec 1 := Scalar.cmpi .slt v564 c0_i32_312
  let v569 : BitVec 1 := Scalar.xori v567 v568
  let c0_i32_310 : BitVec 32 := 0#32
  let v566 : BitVec 1 := Scalar.cmpi .ne v565 c0_i32_310
  let v570 : BitVec 1 := Scalar.andi v569 v566
  let v571 : BitVec 32 := Scalar.addi v565 v564
  let v572 : BitVec 32 := Scalar.select v570 v571 v565
  let c4_i32_331 : BitVec 32 := 4#32
  let v589 : BitVec 32 := Scalar.muli v572 c4_i32_331
  let v590 : BitVec 32 := Scalar.addi v588 v589
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_332 : BitVec 32 := 1#32
  let v591 : BitVec 32 := Scalar.muli v8 c1_i32_332
  let v592 : BitVec 32 := Scalar.addi v590 v591
  v592.toNat
def k0_dev15 (d0 : Dev nD) : Nat :=
  let c0_i32_349 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_348 : BitVec 32 := 16#32
  let v612 : BitVec 32 := Scalar.muli v2 c16_i32_348
  let v613 : BitVec 32 := Scalar.addi c0_i32_349 v612
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_337 : BitVec 32 := 3#32
  let v601 : BitVec 32 := Scalar.addi v5 c3_i32_337
  let c4_i32_338 : BitVec 32 := 4#32
  let c0_i32_339 : BitVec 32 := 0#32
  let v602 : BitVec 1 := Scalar.cmpi .eq c4_i32_338 c0_i32_339
  let c1_i32_340 : BitVec 32 := 1#32
  let v603 : BitVec 32 := Scalar.select v602 c1_i32_340 c4_i32_338
  let v604 : BitVec 32 := Scalar.remsi v601 v603
  let c0_i32_342 : BitVec 32 := 0#32
  let v606 : BitVec 1 := Scalar.cmpi .slt v604 c0_i32_342
  let c0_i32_343 : BitVec 32 := 0#32
  let v607 : BitVec 1 := Scalar.cmpi .slt v603 c0_i32_343
  let v608 : BitVec 1 := Scalar.xori v606 v607
  let c0_i32_341 : BitVec 32 := 0#32
  let v605 : BitVec 1 := Scalar.cmpi .ne v604 c0_i32_341
  let v609 : BitVec 1 := Scalar.andi v608 v605
  let v610 : BitVec 32 := Scalar.addi v604 v603
  let v611 : BitVec 32 := Scalar.select v609 v610 v604
  let c4_i32_350 : BitVec 32 := 4#32
  let v614 : BitVec 32 := Scalar.muli v611 c4_i32_350
  let v615 : BitVec 32 := Scalar.addi v613 v614
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_351 : BitVec 32 := 1#32
  let v616 : BitVec 32 := Scalar.muli v8 c1_i32_351
  let v617 : BitVec 32 := Scalar.addi v615 v616
  v617.toNat
def k0_dev16 (d0 : Dev nD) : Nat :=
  let c0_i32_361 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_360 : BitVec 32 := 16#32
  let v626 : BitVec 32 := Scalar.muli v2 c16_i32_360
  let v627 : BitVec 32 := Scalar.addi c0_i32_361 v626
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_337 : BitVec 32 := 3#32
  let v601 : BitVec 32 := Scalar.addi v5 c3_i32_337
  let c4_i32_338 : BitVec 32 := 4#32
  let c0_i32_339 : BitVec 32 := 0#32
  let v602 : BitVec 1 := Scalar.cmpi .eq c4_i32_338 c0_i32_339
  let c1_i32_340 : BitVec 32 := 1#32
  let v603 : BitVec 32 := Scalar.select v602 c1_i32_340 c4_i32_338
  let v604 : BitVec 32 := Scalar.remsi v601 v603
  let c0_i32_342 : BitVec 32 := 0#32
  let v606 : BitVec 1 := Scalar.cmpi .slt v604 c0_i32_342
  let c0_i32_343 : BitVec 32 := 0#32
  let v607 : BitVec 1 := Scalar.cmpi .slt v603 c0_i32_343
  let v608 : BitVec 1 := Scalar.xori v606 v607
  let c0_i32_341 : BitVec 32 := 0#32
  let v605 : BitVec 1 := Scalar.cmpi .ne v604 c0_i32_341
  let v609 : BitVec 1 := Scalar.andi v608 v605
  let v610 : BitVec 32 := Scalar.addi v604 v603
  let v611 : BitVec 32 := Scalar.select v609 v610 v604
  let c4_i32_362 : BitVec 32 := 4#32
  let v628 : BitVec 32 := Scalar.muli v611 c4_i32_362
  let v629 : BitVec 32 := Scalar.addi v627 v628
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_363 : BitVec 32 := 1#32
  let v630 : BitVec 32 := Scalar.muli v8 c1_i32_363
  let v631 : BitVec 32 := Scalar.addi v629 v630
  v631.toNat
def k0_dev17 (d0 : Dev nD) : Nat :=
  let c0_i32_499 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_498 : BitVec 32 := 16#32
  let v827 : BitVec 32 := Scalar.muli v2 c16_i32_498
  let v828 : BitVec 32 := Scalar.addi c0_i32_499 v827
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_487 : BitVec 32 := 1#32
  let v816 : BitVec 32 := Scalar.subi v5 c1_i32_487
  let c4_i32_488 : BitVec 32 := 4#32
  let c0_i32_489 : BitVec 32 := 0#32
  let v817 : BitVec 1 := Scalar.cmpi .eq c4_i32_488 c0_i32_489
  let c1_i32_490 : BitVec 32 := 1#32
  let v818 : BitVec 32 := Scalar.select v817 c1_i32_490 c4_i32_488
  let v819 : BitVec 32 := Scalar.remsi v816 v818
  let c0_i32_492 : BitVec 32 := 0#32
  let v821 : BitVec 1 := Scalar.cmpi .slt v819 c0_i32_492
  let c0_i32_493 : BitVec 32 := 0#32
  let v822 : BitVec 1 := Scalar.cmpi .slt v818 c0_i32_493
  let v823 : BitVec 1 := Scalar.xori v821 v822
  let c0_i32_491 : BitVec 32 := 0#32
  let v820 : BitVec 1 := Scalar.cmpi .ne v819 c0_i32_491
  let v824 : BitVec 1 := Scalar.andi v823 v820
  let v825 : BitVec 32 := Scalar.addi v819 v818
  let v826 : BitVec 32 := Scalar.select v824 v825 v819
  let c4_i32_500 : BitVec 32 := 4#32
  let v829 : BitVec 32 := Scalar.muli v826 c4_i32_500
  let v830 : BitVec 32 := Scalar.addi v828 v829
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_501 : BitVec 32 := 1#32
  let v831 : BitVec 32 := Scalar.muli v8 c1_i32_501
  let v832 : BitVec 32 := Scalar.addi v830 v831
  v832.toNat
def k0_dev18 (d0 : Dev nD) : Nat :=
  let c0_i32_573 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_572 : BitVec 32 := 16#32
  let v912 : BitVec 32 := Scalar.muli v2 c16_i32_572
  let v913 : BitVec 32 := Scalar.addi c0_i32_573 v912
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_561 : BitVec 32 := 2#32
  let v901 : BitVec 32 := Scalar.subi v5 c2_i32_561
  let c4_i32_562 : BitVec 32 := 4#32
  let c0_i32_563 : BitVec 32 := 0#32
  let v902 : BitVec 1 := Scalar.cmpi .eq c4_i32_562 c0_i32_563
  let c1_i32_564 : BitVec 32 := 1#32
  let v903 : BitVec 32 := Scalar.select v902 c1_i32_564 c4_i32_562
  let v904 : BitVec 32 := Scalar.remsi v901 v903
  let c0_i32_566 : BitVec 32 := 0#32
  let v906 : BitVec 1 := Scalar.cmpi .slt v904 c0_i32_566
  let c0_i32_567 : BitVec 32 := 0#32
  let v907 : BitVec 1 := Scalar.cmpi .slt v903 c0_i32_567
  let v908 : BitVec 1 := Scalar.xori v906 v907
  let c0_i32_565 : BitVec 32 := 0#32
  let v905 : BitVec 1 := Scalar.cmpi .ne v904 c0_i32_565
  let v909 : BitVec 1 := Scalar.andi v908 v905
  let v910 : BitVec 32 := Scalar.addi v904 v903
  let v911 : BitVec 32 := Scalar.select v909 v910 v904
  let c4_i32_574 : BitVec 32 := 4#32
  let v914 : BitVec 32 := Scalar.muli v911 c4_i32_574
  let v915 : BitVec 32 := Scalar.addi v913 v914
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v916 : BitVec 32 := Scalar.muli v8 c1_i32_575
  let v917 : BitVec 32 := Scalar.addi v915 v916
  v917.toNat
def k0_dev19 (d0 : Dev nD) : Nat :=
  let c0_i32_647 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_646 : BitVec 32 := 16#32
  let v997 : BitVec 32 := Scalar.muli v2 c16_i32_646
  let v998 : BitVec 32 := Scalar.addi c0_i32_647 v997
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_635 : BitVec 32 := 3#32
  let v986 : BitVec 32 := Scalar.subi v5 c3_i32_635
  let c4_i32_636 : BitVec 32 := 4#32
  let c0_i32_637 : BitVec 32 := 0#32
  let v987 : BitVec 1 := Scalar.cmpi .eq c4_i32_636 c0_i32_637
  let c1_i32_638 : BitVec 32 := 1#32
  let v988 : BitVec 32 := Scalar.select v987 c1_i32_638 c4_i32_636
  let v989 : BitVec 32 := Scalar.remsi v986 v988
  let c0_i32_640 : BitVec 32 := 0#32
  let v991 : BitVec 1 := Scalar.cmpi .slt v989 c0_i32_640
  let c0_i32_641 : BitVec 32 := 0#32
  let v992 : BitVec 1 := Scalar.cmpi .slt v988 c0_i32_641
  let v993 : BitVec 1 := Scalar.xori v991 v992
  let c0_i32_639 : BitVec 32 := 0#32
  let v990 : BitVec 1 := Scalar.cmpi .ne v989 c0_i32_639
  let v994 : BitVec 1 := Scalar.andi v993 v990
  let v995 : BitVec 32 := Scalar.addi v989 v988
  let v996 : BitVec 32 := Scalar.select v994 v995 v989
  let c4_i32_648 : BitVec 32 := 4#32
  let v999 : BitVec 32 := Scalar.muli v996 c4_i32_648
  let v1000 : BitVec 32 := Scalar.addi v998 v999
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_649 : BitVec 32 := 1#32
  let v1001 : BitVec 32 := Scalar.muli v8 c1_i32_649
  let v1002 : BitVec 32 := Scalar.addi v1000 v1001
  v1002.toNat
def k0_off1 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c64_i32 : BitVec 32 := 64#32
  let v1065 : BitVec 32 := Scalar.muli v10 c64_i32
  let v1066 : Index := Scalar.indexCast v1065
  let c0_711 : Index := 0#32
  ![v1066.toNat, 0]
def k0_off2 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c64_i32_722 : BitVec 32 := 64#32
  let v1080 : BitVec 32 := Scalar.muli v10 c64_i32_722
  let c0_i32_742 : BitVec 32 := 0#32
  ![v1080.toNat, 0]
def k0_dev20 (d0 : Dev nD) : Nat :=
  let c0_i32_739 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c1_i32_714 : BitVec 32 := 1#32
  let v1068 : BitVec 32 := Scalar.addi v10 c1_i32_714
  let c8_i32_715 : BitVec 32 := 8#32
  let c0_i32_716 : BitVec 32 := 0#32
  let v1069 : BitVec 1 := Scalar.cmpi .eq c8_i32_715 c0_i32_716
  let c1_i32_717 : BitVec 32 := 1#32
  let v1070 : BitVec 32 := Scalar.select v1069 c1_i32_717 c8_i32_715
  let v1071 : BitVec 32 := Scalar.remsi v1068 v1070
  let c0_i32_719 : BitVec 32 := 0#32
  let v1073 : BitVec 1 := Scalar.cmpi .slt v1071 c0_i32_719
  let c0_i32_720 : BitVec 32 := 0#32
  let v1074 : BitVec 1 := Scalar.cmpi .slt v1070 c0_i32_720
  let v1075 : BitVec 1 := Scalar.xori v1073 v1074
  let c0_i32_718 : BitVec 32 := 0#32
  let v1072 : BitVec 1 := Scalar.cmpi .ne v1071 c0_i32_718
  let v1076 : BitVec 1 := Scalar.andi v1075 v1072
  let v1077 : BitVec 32 := Scalar.addi v1071 v1070
  let v1078 : BitVec 32 := Scalar.select v1076 v1077 v1071
  let c0_i32_724 : BitVec 32 := 0#32
  let v1082 : BitVec 1 := Scalar.cmpi .sgt v1078 c0_i32_724
  let v1083 : BitVec 32 := Scalar.extui v1082
  let c0_i32_725 : BitVec 32 := 0#32
  let v1084 : BitVec 1 := Scalar.cmpi .slt v1078 c0_i32_725
  let v1085 : BitVec 32 := Scalar.extui v1084
  let v1086 : BitVec 32 := Scalar.subi v1083 v1085
  let c4_i32_723 : BitVec 32 := 4#32
  let c0_i32_726 : BitVec 32 := 0#32
  let v1087 : BitVec 1 := Scalar.cmpi .sgt c4_i32_723 c0_i32_726
  let v1088 : BitVec 32 := Scalar.extui v1087
  let c0_i32_727 : BitVec 32 := 0#32
  let v1089 : BitVec 1 := Scalar.cmpi .slt c4_i32_723 c0_i32_727
  let v1090 : BitVec 32 := Scalar.extui v1089
  let v1091 : BitVec 32 := Scalar.subi v1088 v1090
  let v1092 : BitVec 1 := Scalar.cmpi .ne v1086 v1091
  let v1093 : BitVec 32 := Scalar.remsi v1078 c4_i32_723
  let c0_i32_728 : BitVec 32 := 0#32
  let v1094 : BitVec 1 := Scalar.cmpi .ne v1093 c0_i32_728
  let v1095 : BitVec 1 := Scalar.andi v1092 v1094
  let v1081 : BitVec 32 := Scalar.divsi v1078 c4_i32_723
  let c1_i32_729 : BitVec 32 := 1#32
  let v1096 : BitVec 32 := Scalar.subi v1081 c1_i32_729
  let v1097 : BitVec 32 := Scalar.select v1095 v1096 v1081
  let c16_i32_738 : BitVec 32 := 16#32
  let v1108 : BitVec 32 := Scalar.muli v1097 c16_i32_738
  let v1109 : BitVec 32 := Scalar.addi c0_i32_739 v1108
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_740 : BitVec 32 := 4#32
  let v1110 : BitVec 32 := Scalar.muli v5 c4_i32_740
  let v1111 : BitVec 32 := Scalar.addi v1109 v1110
  let c4_i32_730 : BitVec 32 := 4#32
  let c0_i32_731 : BitVec 32 := 0#32
  let v1098 : BitVec 1 := Scalar.cmpi .eq c4_i32_730 c0_i32_731
  let c1_i32_732 : BitVec 32 := 1#32
  let v1099 : BitVec 32 := Scalar.select v1098 c1_i32_732 c4_i32_730
  let v1100 : BitVec 32 := Scalar.remsi v1078 v1099
  let c0_i32_734 : BitVec 32 := 0#32
  let v1102 : BitVec 1 := Scalar.cmpi .slt v1100 c0_i32_734
  let c0_i32_735 : BitVec 32 := 0#32
  let v1103 : BitVec 1 := Scalar.cmpi .slt v1099 c0_i32_735
  let v1104 : BitVec 1 := Scalar.xori v1102 v1103
  let c0_i32_733 : BitVec 32 := 0#32
  let v1101 : BitVec 1 := Scalar.cmpi .ne v1100 c0_i32_733
  let v1105 : BitVec 1 := Scalar.andi v1104 v1101
  let v1106 : BitVec 32 := Scalar.addi v1100 v1099
  let v1107 : BitVec 32 := Scalar.select v1105 v1106 v1100
  let c1_i32_741 : BitVec 32 := 1#32
  let v1112 : BitVec 32 := Scalar.muli v1107 c1_i32_741
  let v1113 : BitVec 32 := Scalar.addi v1111 v1112
  v1113.toNat
def k0_dev21 (d0 : Dev nD) : Nat :=
  let c0_i32_769 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c2_i32_744 : BitVec 32 := 2#32
  let v1120 : BitVec 32 := Scalar.addi v10 c2_i32_744
  let c8_i32_745 : BitVec 32 := 8#32
  let c0_i32_746 : BitVec 32 := 0#32
  let v1121 : BitVec 1 := Scalar.cmpi .eq c8_i32_745 c0_i32_746
  let c1_i32_747 : BitVec 32 := 1#32
  let v1122 : BitVec 32 := Scalar.select v1121 c1_i32_747 c8_i32_745
  let v1123 : BitVec 32 := Scalar.remsi v1120 v1122
  let c0_i32_749 : BitVec 32 := 0#32
  let v1125 : BitVec 1 := Scalar.cmpi .slt v1123 c0_i32_749
  let c0_i32_750 : BitVec 32 := 0#32
  let v1126 : BitVec 1 := Scalar.cmpi .slt v1122 c0_i32_750
  let v1127 : BitVec 1 := Scalar.xori v1125 v1126
  let c0_i32_748 : BitVec 32 := 0#32
  let v1124 : BitVec 1 := Scalar.cmpi .ne v1123 c0_i32_748
  let v1128 : BitVec 1 := Scalar.andi v1127 v1124
  let v1129 : BitVec 32 := Scalar.addi v1123 v1122
  let v1130 : BitVec 32 := Scalar.select v1128 v1129 v1123
  let c0_i32_754 : BitVec 32 := 0#32
  let v1134 : BitVec 1 := Scalar.cmpi .sgt v1130 c0_i32_754
  let v1135 : BitVec 32 := Scalar.extui v1134
  let c0_i32_755 : BitVec 32 := 0#32
  let v1136 : BitVec 1 := Scalar.cmpi .slt v1130 c0_i32_755
  let v1137 : BitVec 32 := Scalar.extui v1136
  let v1138 : BitVec 32 := Scalar.subi v1135 v1137
  let c4_i32_753 : BitVec 32 := 4#32
  let c0_i32_756 : BitVec 32 := 0#32
  let v1139 : BitVec 1 := Scalar.cmpi .sgt c4_i32_753 c0_i32_756
  let v1140 : BitVec 32 := Scalar.extui v1139
  let c0_i32_757 : BitVec 32 := 0#32
  let v1141 : BitVec 1 := Scalar.cmpi .slt c4_i32_753 c0_i32_757
  let v1142 : BitVec 32 := Scalar.extui v1141
  let v1143 : BitVec 32 := Scalar.subi v1140 v1142
  let v1144 : BitVec 1 := Scalar.cmpi .ne v1138 v1143
  let v1145 : BitVec 32 := Scalar.remsi v1130 c4_i32_753
  let c0_i32_758 : BitVec 32 := 0#32
  let v1146 : BitVec 1 := Scalar.cmpi .ne v1145 c0_i32_758
  let v1147 : BitVec 1 := Scalar.andi v1144 v1146
  let v1133 : BitVec 32 := Scalar.divsi v1130 c4_i32_753
  let c1_i32_759 : BitVec 32 := 1#32
  let v1148 : BitVec 32 := Scalar.subi v1133 c1_i32_759
  let v1149 : BitVec 32 := Scalar.select v1147 v1148 v1133
  let c16_i32_768 : BitVec 32 := 16#32
  let v1160 : BitVec 32 := Scalar.muli v1149 c16_i32_768
  let v1161 : BitVec 32 := Scalar.addi c0_i32_769 v1160
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_770 : BitVec 32 := 4#32
  let v1162 : BitVec 32 := Scalar.muli v5 c4_i32_770
  let v1163 : BitVec 32 := Scalar.addi v1161 v1162
  let c4_i32_760 : BitVec 32 := 4#32
  let c0_i32_761 : BitVec 32 := 0#32
  let v1150 : BitVec 1 := Scalar.cmpi .eq c4_i32_760 c0_i32_761
  let c1_i32_762 : BitVec 32 := 1#32
  let v1151 : BitVec 32 := Scalar.select v1150 c1_i32_762 c4_i32_760
  let v1152 : BitVec 32 := Scalar.remsi v1130 v1151
  let c0_i32_764 : BitVec 32 := 0#32
  let v1154 : BitVec 1 := Scalar.cmpi .slt v1152 c0_i32_764
  let c0_i32_765 : BitVec 32 := 0#32
  let v1155 : BitVec 1 := Scalar.cmpi .slt v1151 c0_i32_765
  let v1156 : BitVec 1 := Scalar.xori v1154 v1155
  let c0_i32_763 : BitVec 32 := 0#32
  let v1153 : BitVec 1 := Scalar.cmpi .ne v1152 c0_i32_763
  let v1157 : BitVec 1 := Scalar.andi v1156 v1153
  let v1158 : BitVec 32 := Scalar.addi v1152 v1151
  let v1159 : BitVec 32 := Scalar.select v1157 v1158 v1152
  let c1_i32_771 : BitVec 32 := 1#32
  let v1164 : BitVec 32 := Scalar.muli v1159 c1_i32_771
  let v1165 : BitVec 32 := Scalar.addi v1163 v1164
  v1165.toNat
def k0_dev22 (d0 : Dev nD) : Nat :=
  let c0_i32_799 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c3_i32_774 : BitVec 32 := 3#32
  let v1172 : BitVec 32 := Scalar.addi v10 c3_i32_774
  let c8_i32_775 : BitVec 32 := 8#32
  let c0_i32_776 : BitVec 32 := 0#32
  let v1173 : BitVec 1 := Scalar.cmpi .eq c8_i32_775 c0_i32_776
  let c1_i32_777 : BitVec 32 := 1#32
  let v1174 : BitVec 32 := Scalar.select v1173 c1_i32_777 c8_i32_775
  let v1175 : BitVec 32 := Scalar.remsi v1172 v1174
  let c0_i32_779 : BitVec 32 := 0#32
  let v1177 : BitVec 1 := Scalar.cmpi .slt v1175 c0_i32_779
  let c0_i32_780 : BitVec 32 := 0#32
  let v1178 : BitVec 1 := Scalar.cmpi .slt v1174 c0_i32_780
  let v1179 : BitVec 1 := Scalar.xori v1177 v1178
  let c0_i32_778 : BitVec 32 := 0#32
  let v1176 : BitVec 1 := Scalar.cmpi .ne v1175 c0_i32_778
  let v1180 : BitVec 1 := Scalar.andi v1179 v1176
  let v1181 : BitVec 32 := Scalar.addi v1175 v1174
  let v1182 : BitVec 32 := Scalar.select v1180 v1181 v1175
  let c0_i32_784 : BitVec 32 := 0#32
  let v1186 : BitVec 1 := Scalar.cmpi .sgt v1182 c0_i32_784
  let v1187 : BitVec 32 := Scalar.extui v1186
  let c0_i32_785 : BitVec 32 := 0#32
  let v1188 : BitVec 1 := Scalar.cmpi .slt v1182 c0_i32_785
  let v1189 : BitVec 32 := Scalar.extui v1188
  let v1190 : BitVec 32 := Scalar.subi v1187 v1189
  let c4_i32_783 : BitVec 32 := 4#32
  let c0_i32_786 : BitVec 32 := 0#32
  let v1191 : BitVec 1 := Scalar.cmpi .sgt c4_i32_783 c0_i32_786
  let v1192 : BitVec 32 := Scalar.extui v1191
  let c0_i32_787 : BitVec 32 := 0#32
  let v1193 : BitVec 1 := Scalar.cmpi .slt c4_i32_783 c0_i32_787
  let v1194 : BitVec 32 := Scalar.extui v1193
  let v1195 : BitVec 32 := Scalar.subi v1192 v1194
  let v1196 : BitVec 1 := Scalar.cmpi .ne v1190 v1195
  let v1197 : BitVec 32 := Scalar.remsi v1182 c4_i32_783
  let c0_i32_788 : BitVec 32 := 0#32
  let v1198 : BitVec 1 := Scalar.cmpi .ne v1197 c0_i32_788
  let v1199 : BitVec 1 := Scalar.andi v1196 v1198
  let v1185 : BitVec 32 := Scalar.divsi v1182 c4_i32_783
  let c1_i32_789 : BitVec 32 := 1#32
  let v1200 : BitVec 32 := Scalar.subi v1185 c1_i32_789
  let v1201 : BitVec 32 := Scalar.select v1199 v1200 v1185
  let c16_i32_798 : BitVec 32 := 16#32
  let v1212 : BitVec 32 := Scalar.muli v1201 c16_i32_798
  let v1213 : BitVec 32 := Scalar.addi c0_i32_799 v1212
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_800 : BitVec 32 := 4#32
  let v1214 : BitVec 32 := Scalar.muli v5 c4_i32_800
  let v1215 : BitVec 32 := Scalar.addi v1213 v1214
  let c4_i32_790 : BitVec 32 := 4#32
  let c0_i32_791 : BitVec 32 := 0#32
  let v1202 : BitVec 1 := Scalar.cmpi .eq c4_i32_790 c0_i32_791
  let c1_i32_792 : BitVec 32 := 1#32
  let v1203 : BitVec 32 := Scalar.select v1202 c1_i32_792 c4_i32_790
  let v1204 : BitVec 32 := Scalar.remsi v1182 v1203
  let c0_i32_794 : BitVec 32 := 0#32
  let v1206 : BitVec 1 := Scalar.cmpi .slt v1204 c0_i32_794
  let c0_i32_795 : BitVec 32 := 0#32
  let v1207 : BitVec 1 := Scalar.cmpi .slt v1203 c0_i32_795
  let v1208 : BitVec 1 := Scalar.xori v1206 v1207
  let c0_i32_793 : BitVec 32 := 0#32
  let v1205 : BitVec 1 := Scalar.cmpi .ne v1204 c0_i32_793
  let v1209 : BitVec 1 := Scalar.andi v1208 v1205
  let v1210 : BitVec 32 := Scalar.addi v1204 v1203
  let v1211 : BitVec 32 := Scalar.select v1209 v1210 v1204
  let c1_i32_801 : BitVec 32 := 1#32
  let v1216 : BitVec 32 := Scalar.muli v1211 c1_i32_801
  let v1217 : BitVec 32 := Scalar.addi v1215 v1216
  v1217.toNat
def k0_dev23 (d0 : Dev nD) : Nat :=
  let c0_i32_829 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c4_i32_804 : BitVec 32 := 4#32
  let v1224 : BitVec 32 := Scalar.addi v10 c4_i32_804
  let c8_i32_805 : BitVec 32 := 8#32
  let c0_i32_806 : BitVec 32 := 0#32
  let v1225 : BitVec 1 := Scalar.cmpi .eq c8_i32_805 c0_i32_806
  let c1_i32_807 : BitVec 32 := 1#32
  let v1226 : BitVec 32 := Scalar.select v1225 c1_i32_807 c8_i32_805
  let v1227 : BitVec 32 := Scalar.remsi v1224 v1226
  let c0_i32_809 : BitVec 32 := 0#32
  let v1229 : BitVec 1 := Scalar.cmpi .slt v1227 c0_i32_809
  let c0_i32_810 : BitVec 32 := 0#32
  let v1230 : BitVec 1 := Scalar.cmpi .slt v1226 c0_i32_810
  let v1231 : BitVec 1 := Scalar.xori v1229 v1230
  let c0_i32_808 : BitVec 32 := 0#32
  let v1228 : BitVec 1 := Scalar.cmpi .ne v1227 c0_i32_808
  let v1232 : BitVec 1 := Scalar.andi v1231 v1228
  let v1233 : BitVec 32 := Scalar.addi v1227 v1226
  let v1234 : BitVec 32 := Scalar.select v1232 v1233 v1227
  let c0_i32_814 : BitVec 32 := 0#32
  let v1238 : BitVec 1 := Scalar.cmpi .sgt v1234 c0_i32_814
  let v1239 : BitVec 32 := Scalar.extui v1238
  let c0_i32_815 : BitVec 32 := 0#32
  let v1240 : BitVec 1 := Scalar.cmpi .slt v1234 c0_i32_815
  let v1241 : BitVec 32 := Scalar.extui v1240
  let v1242 : BitVec 32 := Scalar.subi v1239 v1241
  let c4_i32_813 : BitVec 32 := 4#32
  let c0_i32_816 : BitVec 32 := 0#32
  let v1243 : BitVec 1 := Scalar.cmpi .sgt c4_i32_813 c0_i32_816
  let v1244 : BitVec 32 := Scalar.extui v1243
  let c0_i32_817 : BitVec 32 := 0#32
  let v1245 : BitVec 1 := Scalar.cmpi .slt c4_i32_813 c0_i32_817
  let v1246 : BitVec 32 := Scalar.extui v1245
  let v1247 : BitVec 32 := Scalar.subi v1244 v1246
  let v1248 : BitVec 1 := Scalar.cmpi .ne v1242 v1247
  let v1249 : BitVec 32 := Scalar.remsi v1234 c4_i32_813
  let c0_i32_818 : BitVec 32 := 0#32
  let v1250 : BitVec 1 := Scalar.cmpi .ne v1249 c0_i32_818
  let v1251 : BitVec 1 := Scalar.andi v1248 v1250
  let v1237 : BitVec 32 := Scalar.divsi v1234 c4_i32_813
  let c1_i32_819 : BitVec 32 := 1#32
  let v1252 : BitVec 32 := Scalar.subi v1237 c1_i32_819
  let v1253 : BitVec 32 := Scalar.select v1251 v1252 v1237
  let c16_i32_828 : BitVec 32 := 16#32
  let v1264 : BitVec 32 := Scalar.muli v1253 c16_i32_828
  let v1265 : BitVec 32 := Scalar.addi c0_i32_829 v1264
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_830 : BitVec 32 := 4#32
  let v1266 : BitVec 32 := Scalar.muli v5 c4_i32_830
  let v1267 : BitVec 32 := Scalar.addi v1265 v1266
  let c4_i32_820 : BitVec 32 := 4#32
  let c0_i32_821 : BitVec 32 := 0#32
  let v1254 : BitVec 1 := Scalar.cmpi .eq c4_i32_820 c0_i32_821
  let c1_i32_822 : BitVec 32 := 1#32
  let v1255 : BitVec 32 := Scalar.select v1254 c1_i32_822 c4_i32_820
  let v1256 : BitVec 32 := Scalar.remsi v1234 v1255
  let c0_i32_824 : BitVec 32 := 0#32
  let v1258 : BitVec 1 := Scalar.cmpi .slt v1256 c0_i32_824
  let c0_i32_825 : BitVec 32 := 0#32
  let v1259 : BitVec 1 := Scalar.cmpi .slt v1255 c0_i32_825
  let v1260 : BitVec 1 := Scalar.xori v1258 v1259
  let c0_i32_823 : BitVec 32 := 0#32
  let v1257 : BitVec 1 := Scalar.cmpi .ne v1256 c0_i32_823
  let v1261 : BitVec 1 := Scalar.andi v1260 v1257
  let v1262 : BitVec 32 := Scalar.addi v1256 v1255
  let v1263 : BitVec 32 := Scalar.select v1261 v1262 v1256
  let c1_i32_831 : BitVec 32 := 1#32
  let v1268 : BitVec 32 := Scalar.muli v1263 c1_i32_831
  let v1269 : BitVec 32 := Scalar.addi v1267 v1268
  v1269.toNat
def k0_dev24 (d0 : Dev nD) : Nat :=
  let c0_i32_859 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c5_i32_834 : BitVec 32 := 5#32
  let v1276 : BitVec 32 := Scalar.addi v10 c5_i32_834
  let c8_i32_835 : BitVec 32 := 8#32
  let c0_i32_836 : BitVec 32 := 0#32
  let v1277 : BitVec 1 := Scalar.cmpi .eq c8_i32_835 c0_i32_836
  let c1_i32_837 : BitVec 32 := 1#32
  let v1278 : BitVec 32 := Scalar.select v1277 c1_i32_837 c8_i32_835
  let v1279 : BitVec 32 := Scalar.remsi v1276 v1278
  let c0_i32_839 : BitVec 32 := 0#32
  let v1281 : BitVec 1 := Scalar.cmpi .slt v1279 c0_i32_839
  let c0_i32_840 : BitVec 32 := 0#32
  let v1282 : BitVec 1 := Scalar.cmpi .slt v1278 c0_i32_840
  let v1283 : BitVec 1 := Scalar.xori v1281 v1282
  let c0_i32_838 : BitVec 32 := 0#32
  let v1280 : BitVec 1 := Scalar.cmpi .ne v1279 c0_i32_838
  let v1284 : BitVec 1 := Scalar.andi v1283 v1280
  let v1285 : BitVec 32 := Scalar.addi v1279 v1278
  let v1286 : BitVec 32 := Scalar.select v1284 v1285 v1279
  let c0_i32_844 : BitVec 32 := 0#32
  let v1290 : BitVec 1 := Scalar.cmpi .sgt v1286 c0_i32_844
  let v1291 : BitVec 32 := Scalar.extui v1290
  let c0_i32_845 : BitVec 32 := 0#32
  let v1292 : BitVec 1 := Scalar.cmpi .slt v1286 c0_i32_845
  let v1293 : BitVec 32 := Scalar.extui v1292
  let v1294 : BitVec 32 := Scalar.subi v1291 v1293
  let c4_i32_843 : BitVec 32 := 4#32
  let c0_i32_846 : BitVec 32 := 0#32
  let v1295 : BitVec 1 := Scalar.cmpi .sgt c4_i32_843 c0_i32_846
  let v1296 : BitVec 32 := Scalar.extui v1295
  let c0_i32_847 : BitVec 32 := 0#32
  let v1297 : BitVec 1 := Scalar.cmpi .slt c4_i32_843 c0_i32_847
  let v1298 : BitVec 32 := Scalar.extui v1297
  let v1299 : BitVec 32 := Scalar.subi v1296 v1298
  let v1300 : BitVec 1 := Scalar.cmpi .ne v1294 v1299
  let v1301 : BitVec 32 := Scalar.remsi v1286 c4_i32_843
  let c0_i32_848 : BitVec 32 := 0#32
  let v1302 : BitVec 1 := Scalar.cmpi .ne v1301 c0_i32_848
  let v1303 : BitVec 1 := Scalar.andi v1300 v1302
  let v1289 : BitVec 32 := Scalar.divsi v1286 c4_i32_843
  let c1_i32_849 : BitVec 32 := 1#32
  let v1304 : BitVec 32 := Scalar.subi v1289 c1_i32_849
  let v1305 : BitVec 32 := Scalar.select v1303 v1304 v1289
  let c16_i32_858 : BitVec 32 := 16#32
  let v1316 : BitVec 32 := Scalar.muli v1305 c16_i32_858
  let v1317 : BitVec 32 := Scalar.addi c0_i32_859 v1316
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_860 : BitVec 32 := 4#32
  let v1318 : BitVec 32 := Scalar.muli v5 c4_i32_860
  let v1319 : BitVec 32 := Scalar.addi v1317 v1318
  let c4_i32_850 : BitVec 32 := 4#32
  let c0_i32_851 : BitVec 32 := 0#32
  let v1306 : BitVec 1 := Scalar.cmpi .eq c4_i32_850 c0_i32_851
  let c1_i32_852 : BitVec 32 := 1#32
  let v1307 : BitVec 32 := Scalar.select v1306 c1_i32_852 c4_i32_850
  let v1308 : BitVec 32 := Scalar.remsi v1286 v1307
  let c0_i32_854 : BitVec 32 := 0#32
  let v1310 : BitVec 1 := Scalar.cmpi .slt v1308 c0_i32_854
  let c0_i32_855 : BitVec 32 := 0#32
  let v1311 : BitVec 1 := Scalar.cmpi .slt v1307 c0_i32_855
  let v1312 : BitVec 1 := Scalar.xori v1310 v1311
  let c0_i32_853 : BitVec 32 := 0#32
  let v1309 : BitVec 1 := Scalar.cmpi .ne v1308 c0_i32_853
  let v1313 : BitVec 1 := Scalar.andi v1312 v1309
  let v1314 : BitVec 32 := Scalar.addi v1308 v1307
  let v1315 : BitVec 32 := Scalar.select v1313 v1314 v1308
  let c1_i32_861 : BitVec 32 := 1#32
  let v1320 : BitVec 32 := Scalar.muli v1315 c1_i32_861
  let v1321 : BitVec 32 := Scalar.addi v1319 v1320
  v1321.toNat
def k0_dev25 (d0 : Dev nD) : Nat :=
  let c0_i32_889 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c6_i32_864 : BitVec 32 := 6#32
  let v1328 : BitVec 32 := Scalar.addi v10 c6_i32_864
  let c8_i32_865 : BitVec 32 := 8#32
  let c0_i32_866 : BitVec 32 := 0#32
  let v1329 : BitVec 1 := Scalar.cmpi .eq c8_i32_865 c0_i32_866
  let c1_i32_867 : BitVec 32 := 1#32
  let v1330 : BitVec 32 := Scalar.select v1329 c1_i32_867 c8_i32_865
  let v1331 : BitVec 32 := Scalar.remsi v1328 v1330
  let c0_i32_869 : BitVec 32 := 0#32
  let v1333 : BitVec 1 := Scalar.cmpi .slt v1331 c0_i32_869
  let c0_i32_870 : BitVec 32 := 0#32
  let v1334 : BitVec 1 := Scalar.cmpi .slt v1330 c0_i32_870
  let v1335 : BitVec 1 := Scalar.xori v1333 v1334
  let c0_i32_868 : BitVec 32 := 0#32
  let v1332 : BitVec 1 := Scalar.cmpi .ne v1331 c0_i32_868
  let v1336 : BitVec 1 := Scalar.andi v1335 v1332
  let v1337 : BitVec 32 := Scalar.addi v1331 v1330
  let v1338 : BitVec 32 := Scalar.select v1336 v1337 v1331
  let c0_i32_874 : BitVec 32 := 0#32
  let v1342 : BitVec 1 := Scalar.cmpi .sgt v1338 c0_i32_874
  let v1343 : BitVec 32 := Scalar.extui v1342
  let c0_i32_875 : BitVec 32 := 0#32
  let v1344 : BitVec 1 := Scalar.cmpi .slt v1338 c0_i32_875
  let v1345 : BitVec 32 := Scalar.extui v1344
  let v1346 : BitVec 32 := Scalar.subi v1343 v1345
  let c4_i32_873 : BitVec 32 := 4#32
  let c0_i32_876 : BitVec 32 := 0#32
  let v1347 : BitVec 1 := Scalar.cmpi .sgt c4_i32_873 c0_i32_876
  let v1348 : BitVec 32 := Scalar.extui v1347
  let c0_i32_877 : BitVec 32 := 0#32
  let v1349 : BitVec 1 := Scalar.cmpi .slt c4_i32_873 c0_i32_877
  let v1350 : BitVec 32 := Scalar.extui v1349
  let v1351 : BitVec 32 := Scalar.subi v1348 v1350
  let v1352 : BitVec 1 := Scalar.cmpi .ne v1346 v1351
  let v1353 : BitVec 32 := Scalar.remsi v1338 c4_i32_873
  let c0_i32_878 : BitVec 32 := 0#32
  let v1354 : BitVec 1 := Scalar.cmpi .ne v1353 c0_i32_878
  let v1355 : BitVec 1 := Scalar.andi v1352 v1354
  let v1341 : BitVec 32 := Scalar.divsi v1338 c4_i32_873
  let c1_i32_879 : BitVec 32 := 1#32
  let v1356 : BitVec 32 := Scalar.subi v1341 c1_i32_879
  let v1357 : BitVec 32 := Scalar.select v1355 v1356 v1341
  let c16_i32_888 : BitVec 32 := 16#32
  let v1368 : BitVec 32 := Scalar.muli v1357 c16_i32_888
  let v1369 : BitVec 32 := Scalar.addi c0_i32_889 v1368
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_890 : BitVec 32 := 4#32
  let v1370 : BitVec 32 := Scalar.muli v5 c4_i32_890
  let v1371 : BitVec 32 := Scalar.addi v1369 v1370
  let c4_i32_880 : BitVec 32 := 4#32
  let c0_i32_881 : BitVec 32 := 0#32
  let v1358 : BitVec 1 := Scalar.cmpi .eq c4_i32_880 c0_i32_881
  let c1_i32_882 : BitVec 32 := 1#32
  let v1359 : BitVec 32 := Scalar.select v1358 c1_i32_882 c4_i32_880
  let v1360 : BitVec 32 := Scalar.remsi v1338 v1359
  let c0_i32_884 : BitVec 32 := 0#32
  let v1362 : BitVec 1 := Scalar.cmpi .slt v1360 c0_i32_884
  let c0_i32_885 : BitVec 32 := 0#32
  let v1363 : BitVec 1 := Scalar.cmpi .slt v1359 c0_i32_885
  let v1364 : BitVec 1 := Scalar.xori v1362 v1363
  let c0_i32_883 : BitVec 32 := 0#32
  let v1361 : BitVec 1 := Scalar.cmpi .ne v1360 c0_i32_883
  let v1365 : BitVec 1 := Scalar.andi v1364 v1361
  let v1366 : BitVec 32 := Scalar.addi v1360 v1359
  let v1367 : BitVec 32 := Scalar.select v1365 v1366 v1360
  let c1_i32_891 : BitVec 32 := 1#32
  let v1372 : BitVec 32 := Scalar.muli v1367 c1_i32_891
  let v1373 : BitVec 32 := Scalar.addi v1371 v1372
  v1373.toNat
def k0_dev26 (d0 : Dev nD) : Nat :=
  let c0_i32_919 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c7_i32_894 : BitVec 32 := 7#32
  let v1380 : BitVec 32 := Scalar.addi v10 c7_i32_894
  let c8_i32_895 : BitVec 32 := 8#32
  let c0_i32_896 : BitVec 32 := 0#32
  let v1381 : BitVec 1 := Scalar.cmpi .eq c8_i32_895 c0_i32_896
  let c1_i32_897 : BitVec 32 := 1#32
  let v1382 : BitVec 32 := Scalar.select v1381 c1_i32_897 c8_i32_895
  let v1383 : BitVec 32 := Scalar.remsi v1380 v1382
  let c0_i32_899 : BitVec 32 := 0#32
  let v1385 : BitVec 1 := Scalar.cmpi .slt v1383 c0_i32_899
  let c0_i32_900 : BitVec 32 := 0#32
  let v1386 : BitVec 1 := Scalar.cmpi .slt v1382 c0_i32_900
  let v1387 : BitVec 1 := Scalar.xori v1385 v1386
  let c0_i32_898 : BitVec 32 := 0#32
  let v1384 : BitVec 1 := Scalar.cmpi .ne v1383 c0_i32_898
  let v1388 : BitVec 1 := Scalar.andi v1387 v1384
  let v1389 : BitVec 32 := Scalar.addi v1383 v1382
  let v1390 : BitVec 32 := Scalar.select v1388 v1389 v1383
  let c0_i32_904 : BitVec 32 := 0#32
  let v1394 : BitVec 1 := Scalar.cmpi .sgt v1390 c0_i32_904
  let v1395 : BitVec 32 := Scalar.extui v1394
  let c0_i32_905 : BitVec 32 := 0#32
  let v1396 : BitVec 1 := Scalar.cmpi .slt v1390 c0_i32_905
  let v1397 : BitVec 32 := Scalar.extui v1396
  let v1398 : BitVec 32 := Scalar.subi v1395 v1397
  let c4_i32_903 : BitVec 32 := 4#32
  let c0_i32_906 : BitVec 32 := 0#32
  let v1399 : BitVec 1 := Scalar.cmpi .sgt c4_i32_903 c0_i32_906
  let v1400 : BitVec 32 := Scalar.extui v1399
  let c0_i32_907 : BitVec 32 := 0#32
  let v1401 : BitVec 1 := Scalar.cmpi .slt c4_i32_903 c0_i32_907
  let v1402 : BitVec 32 := Scalar.extui v1401
  let v1403 : BitVec 32 := Scalar.subi v1400 v1402
  let v1404 : BitVec 1 := Scalar.cmpi .ne v1398 v1403
  let v1405 : BitVec 32 := Scalar.remsi v1390 c4_i32_903
  let c0_i32_908 : BitVec 32 := 0#32
  let v1406 : BitVec 1 := Scalar.cmpi .ne v1405 c0_i32_908
  let v1407 : BitVec 1 := Scalar.andi v1404 v1406
  let v1393 : BitVec 32 := Scalar.divsi v1390 c4_i32_903
  let c1_i32_909 : BitVec 32 := 1#32
  let v1408 : BitVec 32 := Scalar.subi v1393 c1_i32_909
  let v1409 : BitVec 32 := Scalar.select v1407 v1408 v1393
  let c16_i32_918 : BitVec 32 := 16#32
  let v1420 : BitVec 32 := Scalar.muli v1409 c16_i32_918
  let v1421 : BitVec 32 := Scalar.addi c0_i32_919 v1420
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_920 : BitVec 32 := 4#32
  let v1422 : BitVec 32 := Scalar.muli v5 c4_i32_920
  let v1423 : BitVec 32 := Scalar.addi v1421 v1422
  let c4_i32_910 : BitVec 32 := 4#32
  let c0_i32_911 : BitVec 32 := 0#32
  let v1410 : BitVec 1 := Scalar.cmpi .eq c4_i32_910 c0_i32_911
  let c1_i32_912 : BitVec 32 := 1#32
  let v1411 : BitVec 32 := Scalar.select v1410 c1_i32_912 c4_i32_910
  let v1412 : BitVec 32 := Scalar.remsi v1390 v1411
  let c0_i32_914 : BitVec 32 := 0#32
  let v1414 : BitVec 1 := Scalar.cmpi .slt v1412 c0_i32_914
  let c0_i32_915 : BitVec 32 := 0#32
  let v1415 : BitVec 1 := Scalar.cmpi .slt v1411 c0_i32_915
  let v1416 : BitVec 1 := Scalar.xori v1414 v1415
  let c0_i32_913 : BitVec 32 := 0#32
  let v1413 : BitVec 1 := Scalar.cmpi .ne v1412 c0_i32_913
  let v1417 : BitVec 1 := Scalar.andi v1416 v1413
  let v1418 : BitVec 32 := Scalar.addi v1412 v1411
  let v1419 : BitVec 32 := Scalar.select v1417 v1418 v1412
  let c1_i32_921 : BitVec 32 := 1#32
  let v1424 : BitVec 32 := Scalar.muli v1419 c1_i32_921
  let v1425 : BitVec 32 := Scalar.addi v1423 v1424
  v1425.toNat
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S2048 : Shape := ⟨1, ![2048]⟩
abbrev S8x512x1024 : Shape := ⟨3, ![8, 512, 1024]⟩
abbrev S8x1024x512 : Shape := ⟨3, ![8, 1024, 512]⟩
abbrev S_ : Shape := ⟨0, ![]⟩
abbrev S1x512x1024 : Shape := ⟨3, ![1, 512, 1024]⟩
abbrev S512x1024 : Shape := ⟨2, ![512, 1024]⟩
abbrev S2048x1024 : Shape := ⟨2, ![2048, 1024]⟩
abbrev S1x1024x512 : Shape := ⟨3, ![1, 1024, 512]⟩
abbrev S1024x512 : Shape := ⟨2, ![1024, 512]⟩
abbrev S2048x1 : Shape := ⟨2, ![2048, 1]⟩

abbrev nBuf : Space → Nat
  | .hbm => 126
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048, .i32⟩
  | .hbm, ⟨2, _⟩ => ⟨S8x512x1024, .f32⟩
  | .hbm, ⟨3, _⟩ => ⟨S8x1024x512, .f32⟩
  | .hbm, ⟨4, _⟩ => ⟨S_, .f32⟩
  | .hbm, ⟨5, _⟩ => ⟨S2048x512, .f32⟩
  | .hbm, ⟨6, _⟩ => ⟨S1x512x1024, .f32⟩
  | .hbm, ⟨7, _⟩ => ⟨S512x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S1x1024x512, .f32⟩
  | .hbm, ⟨13, _⟩ => ⟨S1024x512, .f32⟩
  | .hbm, ⟨14, _⟩ => ⟨S2048x512, .f32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048x1, .i1⟩
  | .hbm, ⟨19, _⟩ => ⟨S2048x512, .i1⟩
  | .hbm, ⟨20, _⟩ => ⟨S2048x512, .f32⟩
  | .hbm, ⟨21, _⟩ => ⟨S1x512x1024, .f32⟩
  | .hbm, ⟨22, _⟩ => ⟨S512x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S1x1024x512, .f32⟩
  | .hbm, ⟨28, _⟩ => ⟨S1024x512, .f32⟩
  | .hbm, ⟨29, _⟩ => ⟨S2048x512, .f32⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S2048x1, .i1⟩
  | .hbm, ⟨34, _⟩ => ⟨S2048x512, .i1⟩
  | .hbm, ⟨35, _⟩ => ⟨S2048x512, .f32⟩
  | .hbm, ⟨36, _⟩ => ⟨S1x512x1024, .f32⟩
  | .hbm, ⟨37, _⟩ => ⟨S512x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S1x1024x512, .f32⟩
  | .hbm, ⟨43, _⟩ => ⟨S1024x512, .f32⟩
  | .hbm, ⟨44, _⟩ => ⟨S2048x512, .f32⟩
  | .hbm, ⟨45, _⟩ => ⟨S_, .i32⟩
  | .hbm, ⟨46, _⟩ => ⟨S2048, .i32⟩
  | .hbm, ⟨47, _⟩ => ⟨S2048, .i1⟩
  | .hbm, ⟨48, _⟩ => ⟨S2048x1, .i1⟩
  | .hbm, ⟨49, _⟩ => ⟨S2048x512, .i1⟩
  | .hbm, ⟨50, _⟩ => ⟨S2048x512, .f32⟩
  | .hbm, ⟨51, _⟩ => ⟨S1x512x1024, .f32⟩
  | .hbm, ⟨52, _⟩ => ⟨S512x1024, .f32⟩
  | .hbm, ⟨53, _⟩ => ⟨S2048x1024, .f32⟩
  | .hbm, ⟨54, _⟩ => ⟨S_, .f32⟩
  | .hbm, ⟨55, _⟩ => ⟨S2048x1024, .f32⟩
  | .hbm, ⟨56, _⟩ => ⟨S2048x1024, .f32⟩
  | .hbm, ⟨57, _⟩ => ⟨S1x1024x512, .f32⟩
  | .hbm, ⟨58, _⟩ => ⟨S1024x512, .f32⟩
  | .hbm, ⟨59, _⟩ => ⟨S2048x512, .f32⟩
  | .hbm, ⟨60, _⟩ => ⟨S_, .i32⟩
  | .hbm, ⟨61, _⟩ => ⟨S2048, .i32⟩
  | .hbm, ⟨62, _⟩ => ⟨S2048, .i1⟩
  | .hbm, ⟨63, _⟩ => ⟨S2048x1, .i1⟩
  | .hbm, ⟨64, _⟩ => ⟨S2048x512, .i1⟩
  | .hbm, ⟨65, _⟩ => ⟨S2048x512, .f32⟩
  | .hbm, ⟨66, _⟩ => ⟨S1x512x1024, .f32⟩
  | .hbm, ⟨67, _⟩ => ⟨S512x1024, .f32⟩
  | .hbm, ⟨68, _⟩ => ⟨S2048x1024, .f32⟩
  | .hbm, ⟨69, _⟩ => ⟨S_, .f32⟩
  | .hbm, ⟨70, _⟩ => ⟨S2048x1024, .f32⟩
  | .hbm, ⟨71, _⟩ => ⟨S2048x1024, .f32⟩
  | .hbm, ⟨72, _⟩ => ⟨S1x1024x512, .f32⟩
  | .hbm, ⟨73, _⟩ => ⟨S1024x512, .f32⟩
  | .hbm, ⟨74, _⟩ => ⟨S2048x512, .f32⟩
  | .hbm, ⟨75, _⟩ => ⟨S_, .i32⟩
  | .hbm, ⟨76, _⟩ => ⟨S2048, .i32⟩
  | .hbm, ⟨77, _⟩ => ⟨S2048, .i1⟩
  | .hbm, ⟨78, _⟩ => ⟨S2048x1, .i1⟩
  | .hbm, ⟨79, _⟩ => ⟨S2048x512, .i1⟩
  | .hbm, ⟨80, _⟩ => ⟨S2048x512, .f32⟩
  | .hbm, ⟨81, _⟩ => ⟨S1x512x1024, .f32⟩
  | .hbm, ⟨82, _⟩ => ⟨S512x1024, .f32⟩
  | .hbm, ⟨83, _⟩ => ⟨S2048x1024, .f32⟩
  | .hbm, ⟨84, _⟩ => ⟨S_, .f32⟩
  | .hbm, ⟨85, _⟩ => ⟨S2048x1024, .f32⟩
  | .hbm, ⟨86, _⟩ => ⟨S2048x1024, .f32⟩
  | .hbm, ⟨87, _⟩ => ⟨S1x1024x512, .f32⟩
  | .hbm, ⟨88, _⟩ => ⟨S1024x512, .f32⟩
  | .hbm, ⟨89, _⟩ => ⟨S2048x512, .f32⟩
  | .hbm, ⟨90, _⟩ => ⟨S_, .i32⟩
  | .hbm, ⟨91, _⟩ => ⟨S2048, .i32⟩
  | .hbm, ⟨92, _⟩ => ⟨S2048, .i1⟩
  | .hbm, ⟨93, _⟩ => ⟨S2048x1, .i1⟩
  | .hbm, ⟨94, _⟩ => ⟨S2048x512, .i1⟩
  | .hbm, ⟨95, _⟩ => ⟨S2048x512, .f32⟩
  | .hbm, ⟨96, _⟩ => ⟨S1x512x1024, .f32⟩
  | .hbm, ⟨97, _⟩ => ⟨S512x1024, .f32⟩
  | .hbm, ⟨98, _⟩ => ⟨S2048x1024, .f32⟩
  | .hbm, ⟨99, _⟩ => ⟨S_, .f32⟩
  | .hbm, ⟨100, _⟩ => ⟨S2048x1024, .f32⟩
  | .hbm, ⟨101, _⟩ => ⟨S2048x1024, .f32⟩
  | .hbm, ⟨102, _⟩ => ⟨S1x1024x512, .f32⟩
  | .hbm, ⟨103, _⟩ => ⟨S1024x512, .f32⟩
  | .hbm, ⟨104, _⟩ => ⟨S2048x512, .f32⟩
  | .hbm, ⟨105, _⟩ => ⟨S_, .i32⟩
  | .hbm, ⟨106, _⟩ => ⟨S2048, .i32⟩
  | .hbm, ⟨107, _⟩ => ⟨S2048, .i1⟩
  | .hbm, ⟨108, _⟩ => ⟨S2048x1, .i1⟩
  | .hbm, ⟨109, _⟩ => ⟨S2048x512, .i1⟩
  | .hbm, ⟨110, _⟩ => ⟨S2048x512, .f32⟩
  | .hbm, ⟨111, _⟩ => ⟨S1x512x1024, .f32⟩
  | .hbm, ⟨112, _⟩ => ⟨S512x1024, .f32⟩
  | .hbm, ⟨113, _⟩ => ⟨S2048x1024, .f32⟩
  | .hbm, ⟨114, _⟩ => ⟨S_, .f32⟩
  | .hbm, ⟨115, _⟩ => ⟨S2048x1024, .f32⟩
  | .hbm, ⟨116, _⟩ => ⟨S2048x1024, .f32⟩
  | .hbm, ⟨117, _⟩ => ⟨S1x1024x512, .f32⟩
  | .hbm, ⟨118, _⟩ => ⟨S1024x512, .f32⟩
  | .hbm, ⟨119, _⟩ => ⟨S2048x512, .f32⟩
  | .hbm, ⟨120, _⟩ => ⟨S_, .i32⟩
  | .hbm, ⟨121, _⟩ => ⟨S2048, .i32⟩
  | .hbm, ⟨122, _⟩ => ⟨S2048, .i1⟩
  | .hbm, ⟨123, _⟩ => ⟨S2048x1, .i1⟩
  | .hbm, ⟨124, _⟩ => ⟨S2048x512, .i1⟩
  | .hbm, ⟨125, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call2_v0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call3_v0 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c_8 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_call4_v0 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_c_10 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call5_v0 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_11 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_c_12 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_call6_v0 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_13 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_c_14 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_call7_v0 : Ref sig .tc := ⟨.hbm, 124, rfl⟩
abbrev main_v96 : Ref sig .tc := ⟨.hbm, 125, rfl⟩

abbrev nD : Nat := 1
abbrev τ : Topo := Topo.v7x

variable {F : FTy → Type} [FloatOps F]
-- ==== Proof.Protocol.lean ====
/-
# The protocol of the expert-parallel kernel

Thirty-two devices on a mesh `x = 2, y = 4, z = 4`. The experts are spread over `y`; a device sends its three `y`-peers
the rows they must process (with the expert choice of each row), gets back the processed rows, and then spreads its
64 finished rows over the seven devices that share its `y`.

The payments one device makes are numbered 0 … 25 in program order (26 … 41 are the send halves of its transfers,
which come back to itself): 0–2 entry signals to its `y`-peers, 3–9 entry signals to the seven devices of its `y`,
10–15 rows and expert choices to the `y`-peers in turn, 16–18 processed rows back, 19–25 finished rows to the seven.
-/
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the staging library's copy and this protocol's, duties the 42 payments -/

abbrev UB : Type := URounds (GSem nD τ sig) (Fin 42)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Who pays whom -/

set_option backward.proofsInPublic true in
/-- The device `k` further along `y`. -/
def yp (k : ℕ) (c : Dev nD) : Dev nD := ⟨(c.val / 16) * 16 + ((c.val / 4 % 4 + k) % 4) * 4 + c.val % 4, by
  have h : c.val < 32 := c.isLt
  show _ < 32
  omega⟩

/-- The number of a device among the eight of its `y`. -/
def r8 (c : Dev nD) : ℕ := (c.val / 16) * 4 + c.val % 4

set_option backward.proofsInPublic true in
/-- The device `q` further among the eight of the same `y`. -/
def rq (q : ℕ) (c : Dev nD) : Dev nD :=
  ⟨((((c.val / 16) * 4 + c.val % 4 + q) % 8) / 4) * 16 + (c.val / 4 % 4) * 4 + (((c.val / 16) * 4 + c.val % 4 + q) % 8) % 4, by
  have h : c.val < 32 := c.isLt
  show _ < 32
  omega⟩

/-- The distance of payment `j`: which `y`-peer, or which of the eight. -/
abbrev stepOf : Fin 42 → ℕ := ![1, 2, 3, 1, 2, 3, 4, 5, 6, 7, 1, 1, 2, 2, 3, 3, 3, 2, 1, 1, 2, 3, 4, 5, 6, 7,
  0, 0, 0, 0, 0, 0, 0, 0, 0, 0, 0, 0, 0, 0, 0, 0]
/-- Whether payment `j` goes among the eight of one `y`. -/
abbrev inEight (j : Fin 42) : Bool := (3 ≤ j.val && j.val < 10) || (19 ≤ j.val && j.val < 26)

/-- The device payment `j` of `c` goes to, -/
def tgt (j : Fin 42) (c : Dev nD) : Dev nD := if inEight j then rq (stepOf j) c else yp (stepOf j) c
/-- and the device whose payment `j` comes to `c`. -/
def org (j : Fin 42) (c : Dev nD) : Dev nD := if inEight j then rq (8 - stepOf j) c else yp (4 - stepOf j) c

/-- `k` further along `y` and `4 - k` further undo each other. -/
theorem yp_yp : ∀ (k : Fin 4) (c : Dev nD), yp (4 - k.val) (yp k.val c) = c ∧ yp k.val (yp (4 - k.val) c) = c := by decide +kernel
/-- `k` further among the eight and `8 - k` further undo each other. -/
theorem rq_rq : ∀ (k : Fin 8) (c : Dev nD), rq (8 - k.val) (rq k.val c) = c ∧ rq k.val (rq (8 - k.val) c) = c := by decide +kernel

/-- The origin of payment `j` at its target is the payer. -/
theorem org_tgt (j : Fin 42) (c : Dev nD) : org j (tgt j c) = c := by
  revert c; revert j; decide +kernel
/-- The target of payment `j` of its origin is the receiver. -/
theorem tgt_org (j : Fin 42) (c : Dev nD) : tgt j (org j c) = c := by
  revert c; revert j; decide +kernel

def tgtEquiv (j : Fin 42) : Dev nD ≃ Dev nD := ⟨tgt j, org j, org_tgt j, tgt_org j⟩

/-! ## The cells -/

/-- The semaphores of the protocol: the entry semaphore of the launch, the kernel's own, its 32 transfer semaphores. -/
def csem (k : Fin 34) : SemLoc sig :=
  if k.val = 0 then .reg (1 : Fin 2) else if k.val = 1 then .reg (0 : Fin 2) else .dma (⟨k.val + 3, by omega⟩ : Fin 37)

/-- The 34 counters are different. -/
theorem csem_inj : Function.Injective csem := by decide +kernel

/-- The cell payment `j` raises. -/
def cel : Fin 42 → Fin 34 := ![0, 0, 0, 1, 1, 1, 1, 1, 1, 1, 8, 11, 9, 12, 10, 13, 17, 18, 19, 27, 28, 29, 30, 31, 32, 33,
  2, 5, 3, 6, 4, 7, 14, 15, 16, 20, 21, 22, 23, 24, 25, 26]

abbrev cell (ck : Dev nD × Fin 34) : GSem nD τ sig := ((ck.1 : Thread nD τ), csem ck.2)

/-- The payment a transfer makes to its own device, of the transfer numbered `j`. -/
def sd (j : Fin 42) : Fin 42 := if h : j.val < 26 then ⟨j.val + 16, by omega⟩ else j

/-! ## Credits -/

abbrev xsM : Memref sig .tc .vmem S3x32x512 .f32 := Memref.whole cc0_scratch0
abbrev csM : Memref sig .tc .vmem S3x32x1 .f32 := Memref.whole cc0_scratch1
abbrev oM : Memref sig .tc .vmem S512x512 .f32 := Memref.whole cc0_stg4_0

/-- One slot of rows, -/
abbrev rX (i : Fin 3) : Rect S3x32x512 := Rect.unit (s := S3x32x512) ![i.val, 0, 0] S1x32x512.size (by revert i; decide)
/-- of expert choices, -/
abbrev rC (i : Fin 3) : Rect S3x32x1 := Rect.unit (s := S3x32x1) ![i.val, 0, 0] S1x32x1.size (by revert i; decide)

def NX : ℕ := ((xsM.slice (rX 0) (fun _ => rfl)).squeeze S32x512 squeezes_S1x32x512_S32x512).view.dmaCredit
def NC : ℕ := ((csM.slice (rC 0) (fun _ => rfl)).squeeze S32x1 squeezes_S1x32x1_S32x1).view.dmaCredit
def NO : ℕ := (oM.slice (Rect.unit (s := S512x512) ![0, 0] S64x512.size (by decide)) (fun _ => rfl)).view.dmaCredit

/-- A copy of rows has units. -/
theorem NX_pos : 0 < NX := View.dmaCredit_pos _ (by decide)
/-- A copy of codes has units. -/
theorem NC_pos : 0 < NC := View.dmaCredit_pos _ (by decide)
/-- A gathering copy has units. -/
theorem NO_pos : 0 < NO := View.dmaCredit_pos _ (by decide)

/-- The units of payment `j`. -/
def amt : Fin 42 → ℕ := ![1, 1, 1, 1, 1, 1, 1, 1, 1, 1, NX, NC, NX, NC, NX, NC, NX, NX, NX, NO, NO, NO, NO, NO, NO, NO,
  NX, NC, NX, NC, NX, NC, NX, NX, NX, NO, NO, NO, NO, NO, NO, NO]

/-- Every payment has units. -/
theorem amt_pos (j : Fin 42) : 0 < amt j := by
  fin_cases j <;> first | exact Nat.one_pos | exact NX_pos | exact NC_pos | exact NO_pos

/-- The units a cell collects. -/
def ex (k : Fin 34) : ℕ := ∑ j ∈ Finset.univ.filter (fun j => cel j = k), amt j

end Cert.KernelIdeal.Hand
-- ==== Proof.Slots.lean ====
/-
# Slots and row blocks

The exchange buffers hold three slots (the scatter matrices four), indexed by their leading axis; the result holds
eight blocks of 64 rows. Which elements each view of the kernel names, what a store or a landing leaves there.
-/
module

public import proofs.«01_k».proof.Proof.Protocol

@[expose] public section

noncomputable section

namespace Cert.KernelIdeal.Hand

open Cert.KernelIdeal Cert.KernelIdeal.Gen

open Idealize.ShloMosaic
open Idealize.ShloMosaic.TcCoe

variable {F : FTy → Type} [FloatOps F]

/-- A buffer of `n` slots of `A × B` elements. -/
abbrev Sh (n A B : ℕ) : Shape := ⟨3, ![n, A, B]⟩

/-- The place of an element within its slot. -/
def inSlot {n A B : ℕ} (i : (Sh n A B).Idx) : (Sh 1 A B).Idx := fun a =>
  match a with
  | ⟨0, _⟩ => (0 : Fin 1)
  | ⟨1, _⟩ => (i 1 : Fin A)
  | ⟨2, _⟩ => (i 2 : Fin B)

/-- The buffer whose slot `s` holds `v s`. -/
def fill {n A B : ℕ} {T : Type} (v : Fin n → (Sh 1 A B).Idx → T) : (Sh n A B).Idx → T := fun i => v (i 0) (inSlot i)

/-- The elements of slot `s`. -/
def sl (n A B : ℕ) (s : Fin n) : Finset (Sh n A B).Idx := Finset.univ.filter fun i => (i 0 : Fin n).val = s.val

/-- Membership of a slot. -/
theorem mem_sl {n A B : ℕ} {s : Fin n} {i : (Sh n A B).Idx} : i ∈ sl n A B s ↔ (i 0 : Fin n).val = s.val := by simp [sl]

/-- Slot `s` as a rectangle. -/
abbrev rS {n A B : ℕ} (s : Fin n) (inb : ∀ a, (![s.val, 0, 0] : Fin 3 → ℕ) a + (Sh 1 A B).size a ≤ (Sh n A B).size a) : Rect (Sh n A B) :=
  Rect.unit (s := Sh n A B) ![s.val, 0, 0] (Sh 1 A B).size inb

/-- The elements of the rectangle of slot `s`. -/
theorem rS_set {n A B : ℕ} (s : Fin n) (inb) : (rS (A := A) (B := B) s inb).set = sl n A B s := by
  ext i
  rw [Rect.mem_set_unit, mem_sl]
  constructor
  · intro h
    have h0 := h 0
    have h1 : (![s.val, 0, 0] : Fin 3 → ℕ) 0 = s.val := rfl
    have h2 : (Sh 1 A B).size 0 = 1 := rfl
    rw [h1, h2] at h0
    show (i 0).val = s.val
    omega
  · rintro h a
    match a with
    | ⟨0, _⟩ =>
      show s.val ≤ (i 0).val ∧ (i 0).val < s.val + 1
      rw [h]; omega
    | ⟨1, _⟩ =>
      show 0 ≤ (i 1).val ∧ (i 1).val < 0 + A
      have : (i 1).val < A := (i 1).isLt
      omega
    | ⟨2, _⟩ =>
      show 0 ≤ (i 2).val ∧ (i 2).val < 0 + B
      have : (i 2).val < B := (i 2).isLt
      omega

/-- The place in a slot leads back to the element. -/
theorem rS_idx_inSlot {n A B : ℕ} (s : Fin n) (inb) (i : (Sh n A B).Idx) (h : (i 0 : Fin n).val = s.val) : (rS (A := A) (B := B) s inb).idx (inSlot i) = i := by
  funext a
  apply Fin.ext
  rw [LoadRect.idx_apply]
  match a with
  | ⟨0, _⟩ =>
    show s.val + 1 * 0 = (i 0).val
    rw [h]; omega
  | ⟨1, _⟩ =>
    show 0 + 1 * (i 1).val = (i 1).val
    omega
  | ⟨2, _⟩ =>
    show 0 + 1 * (i 2).val = (i 2).val
    omega

/-- The elements of row block `r` of the result. -/
def rows (r : ℕ) : Finset S512x512.Idx := Finset.univ.filter fun i => (i 0 : ℕ) / 64 = r

/-- Membership of a row block. -/
theorem mem_rows {r : ℕ} {i : S512x512.Idx} : i ∈ rows r ↔ (i 0 : ℕ) / 64 = r := by simp [rows]

/-- Row block `r` as a rectangle. -/
abbrev rR (o : Fin 2 → ℕ) (inb : ∀ a, o a + S64x512.size a ≤ S512x512.size a) : Rect S512x512 :=
  Rect.unit (s := S512x512) o S64x512.size inb

/-- The elements of the rectangle of row block `r`. -/
theorem rR_set (r : ℕ) (o : Fin 2 → ℕ) (ho : o = ![64 * r, 0]) (inb) : (rR o inb).set = rows r := by
  subst ho
  ext i
  rw [Rect.mem_set_unit, mem_rows]
  constructor
  · intro h
    have h0 := h 0
    have h1 : (![64 * r, 0] : Fin 2 → ℕ) 0 = 64 * r := rfl
    have h2 : S64x512.size 0 = 64 := rfl
    rw [h1, h2] at h0
    omega
  · rintro h a
    match a with
    | ⟨0, _⟩ =>
      show 64 * r ≤ (i 0).val ∧ (i 0).val < 64 * r + 64
      omega
    | ⟨1, _⟩ =>
      show 0 ≤ (i 1).val ∧ (i 1).val < 0 + 512
      have : (i 1).val < 512 := (i 1).isLt
      omega

/-! ## The views of the kernel -/

section Views

variable {κ : Kind} {sig' : RefSig}

/-- A rectangle of a whole buffer names its elements, -/
theorem access_set (b : Ref sig' κ) (r : Rect b.ty.shape) : ((Memref.whole b).access r : View sig' κ _ _ _).set = r.set :=
  View.set_slice_whole b r

/-- What a load from a rectangle of a whole buffer reads. -/
theorem setOn_load (b : Ref sig' κ) (r : Rect b.ty.shape) : (Memref.whole b).view.setOn r.toLoadRect.set = r.set := by
  show r.set.map (View.whole b).emb = r.set
  rw [View.emb_whole, Finset.map_refl]

/-- The elements of a slice of a whole buffer. -/
theorem slice_set (b : Ref sig' κ) (r : Rect b.ty.shape) (h) : ((Memref.whole b).slice r h).view.set = r.set :=
  View.set_slice_whole b r

/-- The elements of a slice of a whole buffer, an axis dropped. -/
theorem squeeze_set (b : Ref sig' κ) (r : Rect b.ty.shape) (h) (s') (hq : r.shape.Squeezes s') :
    (((Memref.whole b).slice r h).squeeze s' hq).view.set = (r.set : Finset b.ty.shape.Idx) := by
  exact (View.set_reshape ((View.whole b).slice r) _).trans (View.set_slice_whole b r)

/-- What is written through a view agrees, on the view's elements, with any contents the view reads the same. -/
theorem write_agrees (Val : EltTy → Type) {sp : Space} {s : Shape} {e : EltTy} (v : View sig' κ sp s e) (fd g : v.ty.Contents Val)
    (w : s.Idx → Val e) (h : ∀ x, w x = v.read Val g x) : ∀ i ∈ v.set, v.write Val fd w Finset.univ i = g i := by
  intro i hi
  obtain ⟨x, -, rfl⟩ := Finset.mem_map.mp hi
  rw [View.write_emb_of_mem (v := v) fd w (Finset.mem_univ x), h x, View.read_apply (v := v)]
  simp

end Views

/-- What a slot reads of a buffer filled slot by slot. -/
theorem fill_rS {n A B : ℕ} {T : Type} (v : Fin n → (Sh 1 A B).Idx → T) (s : Fin n) (inb) (x : (Sh 1 A B).Idx) :
    fill v ((rS (A := A) (B := B) s inb).idx x) = v s x := by
  have h0 : ((rS (A := A) (B := B) s inb).idx x) 0 = s := by
    apply Fin.ext
    rw [LoadRect.idx_apply]
    show s.val + 1 * (x 0).val = s.val
    have : (x 0).val < 1 := (x 0).isLt
    omega
  have h1 : inSlot ((rS (A := A) (B := B) s inb).idx x) = x := by
    funext a
    apply Fin.ext
    match a with
    | ⟨0, _⟩ =>
      show 0 = (x 0).val
      have : (x 0).val < 1 := (x 0).isLt
      omega
    | ⟨1, _⟩ =>
      show ((rS (A := A) (B := B) s inb).idx x 1).val = (x 1).val
      rw [LoadRect.idx_apply]
      show 0 + 1 * (x 1).val = (x 1).val
      omega
    | ⟨2, _⟩ =>
      show ((rS (A := A) (B := B) s inb).idx x 2).val = (x 2).val
      rw [LoadRect.idx_apply]
      show 0 + 1 * (x 2).val = (x 2).val
      omega
  unfold fill
  rw [h0, h1]

end Cert.KernelIdeal.Hand
-- ==== Proof.Values.lean ====
/-
# What the devices compute and exchange

From the four blocks of each device: the rows and expert choices it gathers for each peer, what it computes on the rows
it receives, the rows it scatters back, its block of the result.
-/
module

public import proofs.«01_k».proof.Proof.Slots

@[expose] public section

noncomputable section

namespace Cert.KernelIdeal.Hand

open Cert.KernelIdeal Cert.KernelIdeal.Gen

open Idealize.ShloMosaic
open Idealize.ShloMosaic.TcCoe

variable {F : FTy → Type} [FloatOps F]

/-- A device's blocks of the arguments. -/
structure Ins (F : FTy → Type) where
  X : FVec F S64x512 .f32
  A : Vec F S64 .i32
  W1 : FVec F S2x512x1024 .f32
  W2 : FVec F S2x1024x512 .f32

/-- The weights of one of the two experts of a device. -/
def w1 (I : Ins F) (e : Fin 2) : FVec F S1x512x1024 .f32 := fun i =>
  I.W1 ((rS (n := 2) (A := 512) (B := 1024) e (by revert e; decide)).idx i)
def w2 (I : Ins F) (e : Fin 2) : FVec F S1x1024x512 .f32 := fun i =>
  I.W2 ((rS (n := 2) (A := 1024) (B := 512) e (by revert e; decide)).idx i)

/-- The number of devices along `y`, as the program selects it. -/
def four : BitVec 32 := Scalar.select (Scalar.cmpi .eq 4#32 0#32) 1#32 4#32

variable (I : Dev nD → Ins F)

/-- The slot of each token of device `c`, as a column, -/
def slotC (c : Dev nD) : FVec F S64x1 .f32 := k0_pay4 (k0_pay2 (F := F) c (I c).A) four
/-- as a row, -/
def slotR (c : Dev nD) : FVec F S1x64 .f32 := k0_pay5 (k0_pay2 (F := F) c (I c).A) four
/-- and which of the two experts of its device it goes to. -/
def expC (c : Dev nD) : FVec F S64x1 .f32 := k0_pay6 (k0_pay1 (F := F) (I c).A)

/-- The rows gathered for each peer, -/
def XS (c : Dev nD) : Fin 3 → FVec F S1x32x512 .f32 := ![
  k0_pay10 (slotR I c) (k0_pay7 (slotR I c)) k0_pay8 (I c).X,
  k0_pay14 (k0_pay13 (slotR I c) (k0_pay7 (slotR I c)) k0_pay8 (I c).X),
  k0_pay17 (slotR I c) (k0_pay7 (slotR I c)) k0_pay8 (I c).X]
/-- the expert choices gathered, -/
def CS (c : Dev nD) : Fin 3 → FVec F S1x32x1 .f32 := ![
  k0_pay11 (slotR I c) (expC I c) (k0_pay7 (slotR I c)) k0_pay8,
  k0_pay15 (expC I c) (k0_pay12 (slotR I c) (k0_pay7 (slotR I c)) k0_pay8),
  k0_pay18 (slotR I c) (expC I c) (k0_pay7 (slotR I c)) k0_pay8]
/-- the scatter matrices. -/
def PM (c : Dev nD) : Fin 4 → FVec F S1x64x32 .f32 := ![
  k0_pay23 (k0_pay21 (slotC I c)) (k0_pay22 (slotC I c)),
  k0_pay24 (slotC I c) (k0_pay19 (slotC I c)) k0_pay20,
  k0_pay25 (slotC I c) (k0_pay19 (slotC I c)) k0_pay20,
  k0_pay27 (k0_pay26 (slotC I c) (k0_pay19 (slotC I c)) k0_pay20) (Scalar.ofBits .f32 0x3F800000#32)]

/-- The rows and expert choices device `c` receives in slot `s`. -/
def XG (c : Dev nD) (s : Fin 3) : FVec F S1x32x512 .f32 := XS I (yp (3 - s.val) c) s
def CG (c : Dev nD) (s : Fin 3) : FVec F S1x32x1 .f32 := CS I (yp (3 - s.val) c) s

/-- What device `c` computes on the rows of slot `s`. -/
def PT (c : Dev nD) : Fin 3 → FVec F S1x32x512 .f32 := ![
  k0_pay38 (k0_pay35 (CG I c 0)) (k0_pay36 (XG I c 0) (w1 (I c) 0) (w2 (I c) 0)) (k0_pay37 (XG I c 0) (w1 (I c) 1)) (w2 (I c) 1),
  k0_pay44 (k0_pay41 (XG I c 1) (w1 (I c) 1) (w2 (I c) 1)) (k0_pay42 (XG I c 1) (CG I c 1) (w1 (I c) 0) (w2 (I c) 0)) (k0_pay43 (CG I c 1)),
  k0_pay47 (k0_pay45 (XG I c 2)) (k0_pay46 (CG I c 2)) (w1 (I c) 0) (w2 (I c) 0) (w1 (I c) 1) (w2 (I c) 1)]

/-- What comes back to device `c` for slot `s`. -/
def AC (c : Dev nD) (s : Fin 3) : FVec F S1x32x512 .f32 := PT I (yp (s.val + 1) c) s

/-- What device `c` computes on its own rows, scattered. -/
def OWN (c : Dev nD) : FVec F S64x512 .f32 :=
  k0_pay33 (k0_pay29 (slotR I c) (k0_pay7 (slotR I c)) k0_pay8 (I c).X) (k0_pay30 (slotR I c) (expC I c) (k0_pay7 (slotR I c)) k0_pay8)
    (k0_pay31 (PM I c 0)) (k0_pay32 (slotR I c) (k0_pay7 (slotR I c)) k0_pay8 (I c).X (w1 (I c) 0) (w2 (I c) 0)) (w1 (I c) 1) (w2 (I c) 1)

/-- Device `c`'s rows of the result. -/
def RES (c : Dev nD) : FVec F S64x512 .f32 :=
  k0_pay49 (k0_pay48 (OWN I c) (PM I c 1) (AC I c 0) (PM I c 2) (AC I c 1)) (PM I c 3) (AC I c 2)

set_option backward.proofsInPublic true in
/-- The device numbered `r` among the eight of `c`'s `y`. -/
def dAt (c : Dev nD) (r : ℕ) : Dev nD := ⟨(r % 8) / 4 * 16 + (c.val / 4 % 4) * 4 + r % 4, by
  have h : c.val < 32 := c.isLt
  show _ < 32
  omega⟩

/-- The place of a row of the result within its block of 64. -/
def inRow (i : S512x512.Idx) : S64x512.Idx := fun a =>
  match a with
  | ⟨0, _⟩ => (⟨(i 0 : ℕ) % 64, Nat.mod_lt _ (by decide)⟩ : Fin 64)
  | ⟨1, _⟩ => (i 1 : Fin 512)

/-- The result on device `c`: the rows of the eight devices of its `y`. -/
def OUT (c : Dev nD) : FVec F S512x512 .f32 := fun i => RES I (dAt c ((i 0 : ℕ) / 64)) (inRow i)

/-- The owner of a row block is the same for all eight devices of one `y`. -/
theorem dAt_rq : ∀ (q : Fin 8) (c : Dev nD) (r : Fin 8), dAt (rq q.val c) r.val = dAt c r.val := by decide +kernel
/-- The owner of the device's own row block is the device. -/
theorem dAt_r8 : ∀ c : Dev nD, dAt c (r8 c) = c := by decide +kernel

/-- The eight devices of one `y` have the same result. -/
theorem OUT_rq (q : Fin 8) (c : Dev nD) : OUT I (rq q.val c) = OUT I c := by
  funext i
  unfold OUT
  have h : (i 0 : ℕ) / 64 < 8 := by
    have : (i 0).val < 512 := (i 0).isLt
    omega
  rw [show ((i 0 : ℕ) / 64) = ((⟨(i 0 : ℕ) / 64, h⟩ : Fin 8) : ℕ) from rfl, dAt_rq]

end Cert.KernelIdeal.Hand
-- ==== Proof.Schedule.lean ====
/-
# The schedule of the exchange

One round per cell. Each of the 42 payments of a device (ten signals, sixteen transfers arriving elsewhere, the same
sixteen leaving here) hands the receiving cell's owner memory: the signals the destinations of later transfers, the
arrivals what was sent, the departures the source back.
-/
module

public import proofs.«01_k».proof.Proof.Values

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Pieces of the buffers -/

/-- A slot of each exchange buffer of device `p`, at given contents. -/
def sXs (p : Dev nD) (s : Fin 3) (f : FVec F S3x32x512 .f32) : sProp 𝕄 := ((p : Thread nD τ).loc cc0_scratch0) ↦[sl 3 32 512 s]{fullShare} f
def sCs (p : Dev nD) (s : Fin 3) (f : FVec F S3x32x1 .f32) : sProp 𝕄 := ((p : Thread nD τ).loc cc0_scratch1) ↦[sl 3 32 1 s]{fullShare} f
def sXg (p : Dev nD) (s : Fin 3) (f : FVec F S3x32x512 .f32) : sProp 𝕄 := ((p : Thread nD τ).loc cc0_scratch2) ↦[sl 3 32 512 s]{fullShare} f
def sCg (p : Dev nD) (s : Fin 3) (f : FVec F S3x32x1 .f32) : sProp 𝕄 := ((p : Thread nD τ).loc cc0_scratch3) ↦[sl 3 32 1 s]{fullShare} f
def sAc (p : Dev nD) (s : Fin 3) (f : FVec F S3x32x512 .f32) : sProp 𝕄 := ((p : Thread nD τ).loc cc0_scratch4) ↦[sl 3 32 512 s]{fullShare} f
def sPt (p : Dev nD) (s : Fin 3) (f : FVec F S3x32x512 .f32) : sProp 𝕄 := ((p : Thread nD τ).loc cc0_scratch5) ↦[sl 3 32 512 s]{fullShare} f
def sPm (p : Dev nD) (s : Fin 4) (f : FVec F S4x64x32 .f32) : sProp 𝕄 := ((p : Thread nD τ).loc cc0_scratch6) ↦[sl 4 64 32 s]{fullShare} f
/-- A share of a row block of the result of device `p`. -/
def sOq (p : Dev nD) (r : ℕ) (q : PosShare TreeShare) (f : FVec F S512x512 .f32) : sProp 𝕄 :=
  ((p : Thread nD τ).loc cc0_stg4_0) ↦[rows r]{q} f
abbrev sO (p : Dev nD) (r : ℕ) (f : FVec F S512x512 .f32) : sProp 𝕄 := sOq p r fullShare f

variable (I : Dev nD → Ins F)

/-! ## The payloads -/

/-- The slot a payment concerns. -/
abbrev slo : Fin 42 → Fin 3 := ![0, 1, 2, 0, 0, 0, 0, 0, 0, 0, 0, 0, 1, 1, 2, 2, 0, 1, 2, 0, 0, 0, 0, 0, 0, 0,
  0, 0, 1, 1, 2, 2, 0, 1, 2, 0, 0, 0, 0, 0, 0, 0]
/-- The share of its rows a gathering transfer reads. -/
abbrev sho (j : Fin 42) : Fin 7 := ⟨(j.val - 35) % 7, Nat.mod_lt _ (by decide)⟩
/-- Whether the transfer carries expert choices. -/
abbrev isC : Fin 42 → Bool := ![false, false, false, false, false, false, false, false, false, false, false, true, false, true, false, true,
  false, false, false, false, false, false, false, false, false, false, false, true, false, true, false, true,
  false, false, false, false, false, false, false, false, false, false]

/-- What payment `j` of device `p` hands to the owner of the cell it raises. -/
def pay (j : Fin 42) (p : Dev nD) : sProp 𝕄 :=
  if j.val < 3 then iprop((∃ f, sXg p (Fin.rev (slo j)) f) ∗ (∃ f, sCg p (Fin.rev (slo j)) f) ∗ (∃ f, sAc p (slo j) f))
  else if j.val < 10 then iprop(∃ f, sO p (r8 (tgt j p)) f)
  else if j.val < 16 then (if isC j then sCg (tgt j p) (slo j) (fill (CS I p)) else sXg (tgt j p) (slo j) (fill (XS I p)))
  else if j.val < 19 then sAc (tgt j p) (slo j) (fill (PT I p))
  else if j.val < 26 then sO (tgt j p) (r8 p) (OUT I p)
  else if j.val < 32 then (if isC j then sCs p (slo j) (fill (CS I p)) else sXs p (slo j) (fill (XS I p)))
  else if j.val < 35 then sPt p (slo j) (fill (PT I p))
  else sOq p (r8 p) (Transfers.shareTok fullShare 7 (sho j)) (OUT I p)

instance pay_storable (j : Fin 42) (p : Dev nD) : BI.Storable (upEmb : UEmb _ 𝕄) (pay I j p) := by
  unfold pay sO sXs sCs sXg sCg sAc sPt sOq
  (repeat' split) <;> infer_instance

/-- The schedule: in its one round, a cell's duties are the payments that raise it. -/
def Rd : Rounds.Schedule (GSem nD τ sig) (Fin 42) 𝕄 where
  duties g r := if r = 0 ∧ g.1.2 = .tc then Finset.univ.filter (fun j => csem (cel j) = g.2) else ∅
  unitless _ := False
  amount _ _ j := amt j
  payload g _ j := pay I j (org j g.1.1)
  amount_pos _ _ j _ := amt_pos j

instance Rd_payload_storable (g : GSem nD τ sig) (r : ℕ) (d : Fin 42) : BI.Storable (upEmb : UEmb _ 𝕄) ((Rd (F := F) I).payload g r d) :=
  pay_storable I d (org d g.1.1)

/-- A counter's duties are the payments that raise it. -/
theorem duties_cell (c : Dev nD) (k : Fin 34) : (Rd (F := F) I).duties (cell (c, k)) 0 = Finset.univ.filter (fun j => cel j = k) := by
  dsimp only [Rd]
  rw [if_pos ⟨rfl, rfl⟩]
  exact Finset.filter_congr fun j _ => ⟨fun h => csem_inj h, fun h => congrArg csem h⟩

/-- A payment is among the duties of its counter. -/
theorem mem_duties (c : Dev nD) (j : Fin 42) : j ∈ (Rd (F := F) I).duties (cell (c, cel j)) 0 := by
  rw [duties_cell]; simp

/-- There is one round alone. -/
theorem duties_later (g : GSem nD τ sig) : ∀ r, 1 ≤ r → (Rd (F := F) I).duties g r = ∅ :=
  fun r hr => by dsimp only [Rd]; rw [if_neg fun h => by omega]

/-- A counter expects the units that its payments bring. -/
theorem expect_cell (c : Dev nD) (k : Fin 34) : (Rd (F := F) I).expect (cell (c, k)) 0 = ex k := by
  unfold Schedule.expect Schedule.amountOf
  rw [duties_cell]; rfl

/-- The one payment a cell of a transfer is raised by. -/
theorem cel_single (j : Fin 42) (hj : 10 ≤ j.val) : Finset.univ.filter (fun i => cel i = cel j) = {j} := by
  revert j; decide +kernel

/-- A copy's counter collects that copy's units. -/
theorem ex_cel (j : Fin 42) (hj : 10 ≤ j.val) : ex (cel j) = amt j := by
  unfold ex; rw [cel_single j hj, Finset.sum_singleton]

/-- The barrier collects 3. -/
theorem ex_0 : ex 0 = 3 := by
  unfold ex; rw [show Finset.univ.filter (fun j => cel j = 0) = {0, 1, 2} by decide +kernel]; rfl
/-- The second handshake collects 7. -/
theorem ex_1 : ex 1 = 7 := by
  unfold ex; rw [show Finset.univ.filter (fun j => cel j = 1) = {3, 4, 5, 6, 7, 8, 9} by decide +kernel]; rfl

/-! ## Levels -/

/-- The level of a cell: the entry semaphore below the rows' arrivals, below the results' arrivals, below the kernel's
    own semaphore, below the gathered rows' arrivals; the departures at zero. -/
def lvk : Fin 34 → ℕ := ![1, 4, 0, 0, 0, 0, 0, 0, 2, 2, 2, 2, 2, 2, 0, 0, 0, 3, 3, 3, 0, 0, 0, 0, 0, 0, 0, 5, 5, 5, 5, 5, 5, 5]

def L (g : GSem nD τ sig) : Finset Unit := if g.1.2 = .tc then {()} else ∅
def lv (g : GSem nD τ sig) (_ : Unit) : ℕ := ∑ k ∈ Finset.univ.filter (fun k => csem k = g.2), lvk k

/-- Counters of other cores take no part. -/
theorem L_of_ne (g : GSem nD τ sig) (h : g.1.2 ≠ .tc) : L g = ∅ := if_neg h
/-- Every counter of the core has one level. -/
theorem L_tc (c : Dev nD) (sm : SemLoc sig) : L ((c : Thread nD τ), sm) = {()} := if_pos rfl

/-- The level of a counter of the protocol. -/
theorem lv_cell (ck : Dev nD × Fin 34) : lv (cell ck) () = lvk ck.2 := by
  unfold lv
  rw [show Finset.univ.filter (fun k => csem k = (cell ck).2) = {ck.2} from by
    ext k; simp only [Finset.mem_filter, Finset.mem_univ, true_and, Finset.mem_singleton]; exact ⟨fun h => csem_inj h, fun h => congrArg csem h⟩,
    Finset.sum_singleton]

/-! ## What a device owes, holds and awaits -/

/-- The order of the waits. -/
def wc : Fin 34 → Fin 34 := ![0, 8, 11, 9, 12, 10, 13, 17, 18, 19, 1, 27, 28, 29, 30, 31, 32, 33, 2, 5, 14, 3, 6, 15, 4, 7, 16,
  20, 21, 22, 23, 24, 25, 26]
/-- The place of a cell in it. -/
def wpos : Fin 34 → Fin 34 := ![0, 10, 18, 21, 24, 19, 22, 25, 1, 3, 5, 2, 4, 6, 20, 23, 26, 7, 8, 9, 27, 28, 29, 30, 31, 32, 33,
  11, 12, 13, 14, 15, 16, 17]
/-- How many payments a device has made once it may wait at the cell: for a departure, those up to the transfer. -/
def iss : Fin 34 → ℕ := ![0, 0, 11, 13, 15, 12, 14, 16, 0, 0, 0, 0, 0, 0, 17, 18, 19, 0, 0, 0, 20, 21, 22, 23, 24, 25, 26,
  0, 0, 0, 0, 0, 0, 0]

/-- The place of the counter of wait `b` is `b`. -/
theorem wpos_wc : ∀ b, wpos (wc b) = b := by decide +kernel
/-- The counter at the place of `k` is `k`. -/
theorem wc_wpos : ∀ k, wc (wpos k) = k := by decide +kernel

/-- What device `c` still owes after `a` payments. -/
def owe (c : Dev nD) (a : ℕ) : CellTallies nD τ sig Unit :=
  ∑ j ∈ Finset.univ.filter (fun j : Fin 42 => a ≤ j.val ∧ j.val < 26), tallyAt (cell (tgt j c, cel j)) () (amt j)

/-- The payments from `a` on are `a` and those after it. -/
theorem filter_pay (a : Fin 42) (h : a.val < 26) : Finset.univ.filter (fun j : Fin 42 => a.val ≤ j.val ∧ j.val < 26)
    = insert a (Finset.univ.filter (fun j : Fin 42 => a.val + 1 ≤ j.val ∧ j.val < 26)) := by
  ext j
  simp only [Finset.mem_filter, Finset.mem_univ, true_and, Finset.mem_insert]
  constructor
  · rintro ⟨h1, h2⟩
    by_cases e : j = a
    · exact .inl e
    · have := Fin.val_ne_of_ne e
      exact .inr ⟨by omega, h2⟩
  · rintro (rfl | ⟨h1, h2⟩)
    · exact ⟨le_refl _, h⟩
    · exact ⟨by omega, h2⟩

/-- Payment `a` is not after itself. -/
theorem notin_pay (a : Fin 42) : a ∉ Finset.univ.filter (fun j : Fin 42 => a.val + 1 ≤ j.val ∧ j.val < 26) := by
  simp

/-- What is owed before payment `a` is that payment and what is owed after it. -/
theorem owe_step (c : Dev nD) (a : Fin 42) (h : a.val < 26) :
    owe c a.val = owe c (a.val + 1) + tallyAt (cell (tgt a c, cel a)) () (amt a) := by
  unfold owe
  rw [filter_pay a h, Finset.sum_insert (notin_pay a), add_comm]

/-- After 26 payments nothing is owed. -/
theorem owe_done (c : Dev nD) : owe c 26 = 0 := by
  unfold owe
  rw [Finset.filter_false_of_mem (fun j _ => by omega), Finset.sum_empty]

/-- What is owed to a counter is owed by a payment still to be made. -/
theorem owe_pos {c : Dev nD} {a : ℕ} {g : GSem nD τ sig} {u : Unit} (h : 0 < owe c a g u) :
    ∃ j : Fin 42, a ≤ j.val ∧ j.val < 26 ∧ g = cell (tgt j c, cel j) := by
  unfold owe at h
  rw [Finset.sum_apply, Finsupp.finset_sum_apply] at h
  obtain ⟨j, hj, hne⟩ := Finset.exists_ne_zero_of_sum_ne_zero (Nat.pos_iff_ne_zero.mp h)
  simp only [Finset.mem_filter, Finset.mem_univ, true_and] at hj
  rw [tallyAt_apply] at hne
  by_cases e : g = cell (tgt j c, cel j) ∧ u = ()
  · exact ⟨j, hj.1, hj.2, e.1⟩
  · rw [if_neg e] at hne; exact absurd rfl hne

/-- A device waits at a cell while every payment it owes is at a higher level. -/
theorem mayWait (c : Dev nD) (sm : SemLoc sig) (a : ℕ)
    (h : ∀ j : Fin 42, a ≤ j.val → j.val < 26 → lv ((c : Thread nD τ), sm) () < lvk (cel j)) :
    (levAts L lv : sProp 𝕄) ⊢ MayWait (c : Thread nD τ) sm () (owe c a) :=
  MayOwe.of_cut (L := L) (lev := lv) (lv ((c : Thread nD τ), sm) ()) (fun p hp => by rw [Finset.mem_singleton.mp hp, L_tc]; exact Finset.mem_singleton_self _)
    (fun g u hg => by
      obtain ⟨j, -, -, rfl⟩ := owe_pos hg
      exact Finset.mem_singleton_self _)
    (fun p hp => by rw [Finset.mem_singleton.mp hp])
    (fun g u hg => by
      obtain ⟨j, h1, h2, rfl⟩ := owe_pos hg
      rw [lv_cell]
      exact h j h1 h2)

end Cert.KernelIdeal.Hand
-- ==== Proof.Steps.lean ====
/-
# The state of a device during the body, and the rule of each kind of step

`St I c a b` is what device `c` holds of the protocol after `a` payments and `b` waits. A signal or a transfer takes it
from `a` to `a + 1`, a wait from `b` to `b + 1`.
-/
module

public import proofs.«01_k».proof.Proof.Schedule

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (I : Dev nD → Ins F)

/-- A conjunction over a set with one more element, -/
theorem conj_insert {A : Type} [DecidableEq A] {i : A} {s : Finset A} (h : i ∉ s) {Φ : A → sProp 𝕄} :
    bigSep (insert i s) Φ = iprop(Φ i ∗ bigSep s Φ) :=
  bigSep_insert h
/-- and one of its conjuncts. -/
theorem conj_at {A : Type} [DecidableEq A] {i : A} {s : Finset A} (h : i ∈ s) {Φ : A → sProp 𝕄} : (bigSep s Φ : sProp 𝕄) ⊢ Φ i :=
  bigSep_elim h

/-- Every cell's invariant, and that its one round has begun. -/
def records (K : Dev nD × Fin 34 → ℕ) : sProp 𝕄 :=
  iprop((bigSep Finset.univ fun ck : Dev nD × Fin 34 => cellInv ER (Rd I) (K ck) (cell ck))
    ∗ bigSep Finset.univ fun ck : Dev nD × Fin 34 => reached ER (cell ck) 0)

instance records_persistent (K : Dev nD × Fin 34 → ℕ) : BI.Persistent (records I K) := by unfold records; infer_instance

/-- A counter's invariant, from the record of all. -/
theorem records_inv (K : Dev nD × Fin 34 → ℕ) (ck : Dev nD × Fin 34) : records I K ⊢ cellInv ER (Rd I) (K ck) (cell ck) := by
  unfold records
  iintro ⟨#H, #-⟩
  iapply (conj_at (Finset.mem_univ ck) (Φ := fun ck : Dev nD × Fin 34 => (cellInv ER (Rd I) (K ck) (cell ck) : sProp 𝕄))); iexact H

/-- That a counter's round has begun, from the record of all. -/
theorem records_reached (K : Dev nD × Fin 34 → ℕ) (ck : Dev nD × Fin 34) : records I K ⊢ reached ER (cell ck) 0 := by
  unfold records
  iintro ⟨#-, #H⟩
  iapply (conj_at (Finset.mem_univ ck) (Φ := fun ck : Dev nD × Fin 34 => (reached ER (cell ck) 0 : sProp 𝕄))); iexact H

/-- The token of payment `j` of device `c`, and of the departure that comes with it. -/
def payTok (c : Dev nD) (j : Fin 42) : sProp 𝕄 :=
  iprop(dutyTok ER (cell (tgt j c, cel j)) 0 j ∗ (if 10 ≤ j.val then dutyTok ER (cell (c, cel (sd j))) 0 (sd j) else iprop(emp)))

abbrev toPay (a : ℕ) : Finset (Fin 42) := Finset.univ.filter fun j => a ≤ j.val ∧ j.val < 26
abbrev toWait (b : ℕ) : Finset (Fin 34) := Finset.univ.filter fun k => b ≤ (wpos k).val
abbrev waited (b : ℕ) : Finset (Fin 34) := Finset.univ.filter fun k => (wpos k).val < b
abbrev mayWt (a b : ℕ) : Finset (Fin 34) := Finset.univ.filter fun k => iss k ≤ a ∧ b ≤ (wpos k).val

/-- Device `c`'s part of the protocol after `a` payments and `b` waits. -/
def St (c : Dev nD) (a b : ℕ) : sProp 𝕄 :=
  iprop((∃ K, records I K) ∗ levAts L lv ∗ (∃ W, owes (c : Thread nD τ) (owe c a) W)
    ∗ bigSep (toPay a) (fun j => payTok c j)
    ∗ bigSep (toWait b) (fun k => atPos ER (cell (c, k)) 0 ∅ 0)
    ∗ bigSep (mayWt a b) (fun k => cred (tallyAt (cell (c, k)) () (ex k)))
    ∗ bigSep (waited b) (fun k => semVal (cell (c, k)) 0))

/-! ## The steps of the sets -/

/-- A signal allows no further wait. -/
theorem mayWt_signal (a : Fin 42) (ha : a.val < 10) (b : ℕ) : mayWt (a.val + 1) b = mayWt a.val b := by
  have h : ∀ (a : Fin 10) k, iss k ≤ a.val + 1 ↔ iss k ≤ a.val := by decide +kernel
  exact Finset.filter_congr fun k _ => and_congr (h ⟨a.val, ha⟩ k) Iff.rfl

/-- A copy allows the wait at its departure and no other. -/
theorem iss_send : ∀ (a : Fin 42), 10 ≤ a.val → a.val < 26 → ∀ k, iss k ≤ a.val + 1 ↔ k = cel (sd a) ∨ iss k ≤ a.val := by decide +kernel
/-- A departure's wait is not allowed before its copy, comes late in the order, and has the copy's units. -/
theorem iss_sd : ∀ (a : Fin 42), 10 ≤ a.val → a.val < 26 → ¬ iss (cel (sd a)) ≤ a.val ∧ 18 ≤ (wpos (cel (sd a))).val ∧ 10 ≤ (sd a).val ∧ amt (sd a) = amt a := by
  intro a h1 h2
  refine ⟨?_, ?_, ?_, ?_⟩
  · revert a; decide +kernel
  · revert a; decide +kernel
  · revert a; decide +kernel
  · fin_cases a <;> first | rfl | (exfalso; revert h1; decide) | (exfalso; revert h2; decide)

/-- After a copy the wait at its departure is allowed besides. -/
theorem mayWt_send (a : Fin 42) (h1 : 10 ≤ a.val) (h2 : a.val < 26) (b : ℕ) (hb : b ≤ 18) :
    mayWt (a.val + 1) b = insert (cel (sd a)) (mayWt a.val b) := by
  ext k
  simp only [Finset.mem_filter, Finset.mem_univ, true_and, Finset.mem_insert, iss_send a h1 h2 k]
  constructor
  · rintro ⟨rfl | h, h'⟩
    · exact .inl rfl
    · exact .inr ⟨h, h'⟩
  · rintro (rfl | h)
    · exact ⟨.inl rfl, by have := (iss_sd a h1 h2).2.1; omega⟩
    · exact ⟨.inr h.1, h.2⟩

/-- The counter at place `b` is that of wait `b`. -/
theorem wpos_eq {b : Fin 34} {k : Fin 34} : (wpos k).val = b.val ↔ k = wc b :=
  ⟨fun h => by rw [← wc_wpos k, Fin.ext h], fun h => by rw [h, wpos_wc]⟩

/-- What is to be waited for before wait `b` is its counter and what comes after. -/
theorem toWait_step (b : Fin 34) : toWait b.val = insert (wc b) (toWait (b.val + 1)) := by
  ext k
  simp only [Finset.mem_filter, Finset.mem_univ, true_and, Finset.mem_insert, ← wpos_eq]
  omega
/-- The counter of wait `b` does not come after it. -/
theorem notin_toWait (b : Fin 34) : wc b ∉ toWait (b.val + 1) := by simp [wpos_wc]
/-- After wait `b` its counter has been waited for besides. -/
theorem waited_step (b : Fin 34) : waited (b.val + 1) = insert (wc b) (waited b.val) := by
  ext k
  simp only [Finset.mem_filter, Finset.mem_univ, true_and, Finset.mem_insert, ← wpos_eq]
  omega
/-- The counter of wait `b` has not been waited for before it. -/
theorem notin_waited (b : Fin 34) : wc b ∉ waited b.val := by simp [wpos_wc]
/-- The waits allowed are the next one and those after it. -/
theorem mayWt_step (a : ℕ) (b : Fin 34) (h : iss (wc b) ≤ a) : mayWt a b.val = insert (wc b) (mayWt a (b.val + 1)) := by
  ext k
  simp only [Finset.mem_filter, Finset.mem_univ, true_and, Finset.mem_insert]
  constructor
  · rintro ⟨h1, h2⟩
    by_cases e : k = wc b
    · exact .inl e
    · exact .inr ⟨h1, by have := mt wpos_eq.mp e; omega⟩
  · rintro (rfl | ⟨h1, h2⟩)
    · exact ⟨h, by rw [wpos_wc]⟩
    · exact ⟨h1, by omega⟩
/-- The counter of wait `b` is not among those after it. -/
theorem notin_mayWt (a : ℕ) (b : Fin 34) : wc b ∉ mayWt a (b.val + 1) := by simp [wpos_wc]

/-- A departure at a device comes from that device. -/
theorem org_sd : ∀ (j : Fin 42), 10 ≤ j.val → j.val < 26 → ∀ c : Dev nD, org (sd j) c = c := by decide +kernel

/-! ## The steps -/

/-- A signal. -/
theorem wp_sig {α : Type} {Q : α → sProp 𝕄} {k : PUnit → Prog (TpuEff nD τ sig (Elt F) Λ₀ .tc) α} (c : Dev nD) (a : Fin 42) (ha : a.val < 10) (b : ℕ) {n : Dev nD} {sem : Sem sig} {z : ℤ}
    (hn : n = tgt a c) (hs : SemLoc.reg sem = csem (cel a)) (hz : z = ((1 : ℕ) : ℤ)) :
    iprop(St I c a.val b ∗ pay I a c)
      ⊢ iprop((St I c (a.val + 1) b -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) sem z) k) Q) := by
  subst hn hz
  have hamt : amt a = 1 := by
    fin_cases a <;> first | rfl | (exfalso; revert ha; decide)
  unfold St
  rw [mayWt_signal a ha b, owe_step c a (by omega), show toPay a.val = _ from filter_pay a (by omega), conj_insert (notin_pay a)]
  unfold payTok
  rw [if_neg (by omega : ¬ 10 ≤ a.val), hamt]
  iintro ⟨⟨⟨%K, #HR⟩, #Hlev, ⟨%W, HO⟩, ⟨⟨Ht, -⟩, Hts⟩, Hp, Hc, Hz⟩, Hpay⟩ Hk
  iapply (Rounds.wp_signal 𝒱₀ ER (Rd I) (c : Thread nD τ) none (dst := (tgt a c : Thread nD τ)) (κ := K (tgt a c, cel a)) (d := a)
      (by rw [hs]; exact mem_duties I (tgt a c) a) hamt () (owe c (a.val + 1)) (by rw [hs])) $$ [HO Ht Hpay]
  · rw [hs]
    isplitr; · iapply (records_inv I K (tgt a c, cel a)); iexact HR
    isplitl [HO]; · iexact HO
    isplitl [Ht]; · iexact Ht
    isplitl [Hpay]
    · rw [show (Rd I).payload (cell (tgt a c, cel a)) 0 a = pay I a c from congrArg (pay I a) (org_tgt a c)]; iexact Hpay
    · iapply (records_reached I K (tgt a c, cel a)); iexact HR
  iintro HO
  iapply Hk
  isplitr; · iexists K; iexact HR
  isplitr; · iexact Hlev
  isplitl [HO]; · iexists W; iexact HO
  isplitl [Hts]; · iexact Hts
  isplitl [Hp]; · iexact Hp
  isplitl [Hc] <;> iassumption

/-- A transfer. -/
theorem wp_snd {α : Type} {Q : α → sProp 𝕄} {k : PUnit → Prog (TpuEff nD τ sig (Elt F) Λ₀ .tc) α} (c : Dev nD) (j : Fin 42) (h1 : 10 ≤ j.val) (h2 : j.val < 26) (b : ℕ) (hb : b ≤ 18) {sp sp' : Space} {s : Shape} {e : EltTy} {n : Dev nD}
    (hn : n = tgt j c)
    {src : Memref sig .tc sp s e} {dst : Memref sig (Dev.tc n : Thread nD τ).2.kind sp' s e} {hsc : dst.view.ref.isScScratch = false} {q1 q2 : DmaSem sig}
    {hsrc : src.view.WordExact} {hdst : dst.view.WordExact} {hsem : DmaTarget.Typed sp (.dma q2) (.remote (Dev.tc n : Thread nD τ) dst (.dma q1) hsc)}
    {q : PosShare TreeShare} (fs : Buf (Elt F) (src.view.loc (c : Thread nD τ))) (fd : Buf (Elt F) (dst.view.loc (Dev.tc n : Thread nD τ)))
    (hq1 : SemLoc.dma q1 = csem (cel (sd j))) (hq2 : SemLoc.dma q2 = csem (cel j)) (hN : dst.view.dmaCredit = amt j)
    (hp1 : (src.view.loc (c : Thread nD τ) ↦[src.view.set]{q} fs) ⊢ pay I (sd j) c)
    (hp2 : (dst.view.loc (Dev.tc n : Thread nD τ) ↦[dst.view.set]{fullShare} (dst.view.write (Elt F) fd (src.view.read (Elt F) fs) Finset.univ)) ⊢ pay I j c) :
    iprop(St I c j.val b ∗ (src.view.loc (c : Thread nD τ) ↦[src.view.set]{q} fs) ∗ (dst.view.loc (Dev.tc n : Thread nD τ) ↦[dst.view.set]{fullShare} fd))
      ⊢ iprop((St I c (j.val + 1) b -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma q1) hsc) (.dma q2) hsrc hdst hsem) k) Q) := by
  subst hn
  obtain ⟨hi1, hi2, hi3, hi4⟩ := iss_sd j h1 h2
  unfold St
  rw [mayWt_send j h1 h2 b hb, conj_insert (by simp [hi1]), owe_step c j h2, show toPay j.val = _ from filter_pay j h2, conj_insert (notin_pay j),
    ex_cel (sd j) hi3, hi4]
  unfold payTok
  rw [if_pos h1]
  iintro ⟨⟨⟨%K, #HR⟩, #Hlev, ⟨%W, HO⟩, ⟨⟨Ht, Ht'⟩, Hts⟩, Hp, Hc, Hz⟩, Hs, Hd⟩ Hk
  iapply (Rounds.wp_send_pointsTo 𝒱₀ ER (Rd I) (c : Thread nD τ) none (κ₁ := K (c, cel (sd j))) (κ₂ := K (tgt j c, cel j))
    (r₁ := 0) (r₂ := 0) (d₁ := sd j) (d₂ := j) (fs := fs) (fd := fd)
    (sS := .dma q1) (sem := .dma q2) (by rw [hq1]; exact mem_duties I c (sd j)) (by rw [hq2]; exact mem_duties I (tgt j c) j)
    () () (amt j) hN hi4 rfl (owe c (j.val + 1)) (by rw [hq2]) (W := W)
    (by show _ ⊢ pay I (sd j) (org (sd j) c); rw [org_sd j h1 h2 c]; exact hp1)
    (by show _ ⊢ pay I j (org j (tgt j c)); rw [org_tgt]; exact hp2)) $$ [HO Ht Ht' Hs Hd]
  · rw [hq1, hq2]
    isplitr; · iapply (records_inv I K (c, cel (sd j))); iexact HR
    isplitr; · iapply (records_inv I K (tgt j c, cel j)); iexact HR
    isplitl [Hs]; · iexact Hs
    isplitl [Hd]; · iexact Hd
    isplitl [HO]; · iexact HO
    isplitl [Ht']; · iexact Ht'
    isplitr; · iapply (records_reached I K (c, cel (sd j))); iexact HR
    isplitl [Ht]; · iexact Ht
    iapply (records_reached I K (tgt j c, cel j)); iexact HR
  rw [hq1]
  iintro ⟨Hcr, HO⟩
  iapply Hk
  isplitr; · iexists K; iexact HR
  isplitr; · iexact Hlev
  isplitl [HO]; · iexists W; iexact HO
  isplitl [Hts]; · iexact Hts
  isplitl [Hp]; · iexact Hp
  isplitl [Hcr Hc]
  · isplitl [Hcr] <;> iassumption
  iexact Hz

/-- What a cell's payments hand its owner. -/
def got (c : Dev nD) (k : Fin 34) : sProp 𝕄 := bigSep (Finset.univ.filter (fun j => cel j = k)) (fun j => pay I j (org j c))

/-- A wait. -/
theorem wp_wt {α : Type} {Q : α → sProp 𝕄} {k : PUnit → Prog (TpuEff nD τ sig (Elt F) Λ₀ .tc) α} (c : Dev nD) (a : ℕ) (b : Fin 34) (hi : iss (wc b) ≤ a)
    (hlv : ∀ j : Fin 42, a ≤ j.val → j.val < 26 → lvk (wc b) < lvk (cel j))
    {w : TpuEff nD τ sig (Elt F) Λ₀ .tc PUnit} {sm : SemLoc sig} {k' : ℕ} (hs : sm = csem (wc b)) (hk' : k' = ex (wc b))
    (hw : ∀ K : PUnit → sProp 𝕄, wpE (defs₀ (F := F)) 𝒱₀ (c : Thread nD τ) none Set.univ w K = waitSpec (c : Thread nD τ) Set.univ sm k' K) :
    St I c a b.val
      ⊢ iprop(((St I c a (b.val + 1) ∗ got I c (wc b)) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hs hk'
  unfold St
  rw [toWait_step b, conj_insert (notin_toWait b), mayWt_step a b hi, conj_insert (notin_mayWt a b), waited_step b, conj_insert (notin_waited b)]
  iintro ⟨⟨%K, #HR⟩, #Hlev, ⟨%W, HO⟩, Hts, ⟨Hat, Hp⟩, ⟨Hcr, Hc⟩, Hz⟩ Hk
  iapply (Rounds.wp_wait_rest_token 𝒱₀ ER (Rd I) (c : Thread nD τ) none (κ := K (c, wc b)) hw (Set.mem_univ _) () (O := owe c a) (W := W) (R := 0) (m := 0) (T := ∅)
      (by rw [Nat.zero_add, expect_cell])) $$ [HO Hcr Hat]
  · isplitr; · iapply (records_inv I K (c, wc b)); iexact HR
    isplitl [Hcr]; · iexact Hcr
    isplitl [HO]; · iexact HO
    isplitr
    · iapply (mayWait (F := F) c (csem (wc b)) a (fun j h1 h2 => by rw [lv_cell (c, wc b)]; exact hlv j h1 h2)); iexact Hlev
    iexact Hat
  iintro ⟨HO, Hat, -, Hpay⟩
  imod (Rounds.cell_close ER (Rd I) (Set.mem_univ (K (c, wc b))) (fun h => h) (R := 0 + 1) (duties_later I (cell (c, wc b)))) $$ [Hat] with Hz'
  · isplitr; · iapply (records_inv I K (c, wc b)); iexact HR
    iexact Hat
  iapply Hk
  isplitr [Hpay]
  · isplitr; · iexists K; iexact HR
    isplitr; · iexact Hlev
    isplitl [HO]; · iexists _; iexact HO
    isplitl [Hts]; · iexact Hts
    isplitl [Hp]; · iexact Hp
    isplitl [Hc]; · iexact Hc
    isplitl [Hz'] <;> iassumption
  · rw [Finset.sdiff_empty, duties_cell]; unfold got; iexact Hpay

end Cert.KernelIdeal.Hand
-- ==== Proof.Kinds.lean ====
/-
# The transfers of the kernel, by kind
-/
module

public import proofs.«01_k».proof.Proof.Steps

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F)

/-! ## The payloads by kind -/

/-- The copy of packed rows in slot `i` hands the filled slot to its target and the source slot back to the sender. -/
theorem pay_x (i : Fin 3) (j : Fin 42) (hj : j.val = 10 + 2 * i.val) (c : Dev nD) :
    pay I j c = sXg (tgt j c) i (fill (XS I c)) ∧ pay I (sd j) c = sXs c i (fill (XS I c)) := by
  obtain ⟨j, hj'⟩ := j
  obtain rfl : j = _ := hj
  fin_cases i
  · exact ⟨rfl, (congrArg (fun z => pay I z c) (show sd 10 = 26 by decide)).trans rfl⟩
  · exact ⟨rfl, (congrArg (fun z => pay I z c) (show sd 12 = 28 by decide)).trans rfl⟩
  · exact ⟨rfl, (congrArg (fun z => pay I z c) (show sd 14 = 30 by decide)).trans rfl⟩

/-- The copy of packed codes in slot `i` hands the filled slot to its target and the source slot back to the sender. -/
theorem pay_c (i : Fin 3) (j : Fin 42) (hj : j.val = 11 + 2 * i.val) (c : Dev nD) :
    pay I j c = sCg (tgt j c) i (fill (CS I c)) ∧ pay I (sd j) c = sCs c i (fill (CS I c)) := by
  obtain ⟨j, hj'⟩ := j
  obtain rfl : j = _ := hj
  fin_cases i
  · exact ⟨rfl, (congrArg (fun z => pay I z c) (show sd 11 = 27 by decide)).trans rfl⟩
  · exact ⟨rfl, (congrArg (fun z => pay I z c) (show sd 13 = 29 by decide)).trans rfl⟩
  · exact ⟨rfl, (congrArg (fun z => pay I z c) (show sd 15 = 31 by decide)).trans rfl⟩

/-- The copy of partial results in slot `i` hands the filled slot to its target and the source slot back to the sender. -/
theorem pay_p (i : Fin 3) (j : Fin 42) (hj : j.val = 16 + i.val) (c : Dev nD) :
    pay I j c = sAc (tgt j c) i (fill (PT I c)) ∧ pay I (sd j) c = sPt c i (fill (PT I c)) := by
  obtain ⟨j, hj'⟩ := j
  obtain rfl : j = _ := hj
  fin_cases i
  · exact ⟨rfl, (congrArg (fun z => pay I z c) (show sd 16 = 32 by decide)).trans rfl⟩
  · exact ⟨rfl, (congrArg (fun z => pay I z c) (show sd 17 = 33 by decide)).trans rfl⟩
  · exact ⟨rfl, (congrArg (fun z => pay I z c) (show sd 18 = 34 by decide)).trans rfl⟩

/-- The gathering copy `i` hands the sender's rows to its target and share `i` of the source back to the sender. -/
theorem pay_o (i : Fin 7) (j : Fin 42) (hj : j.val = 19 + i.val) (c : Dev nD) :
    pay I j c = sO (tgt j c) (r8 c) (OUT I c) ∧ pay I (sd j) c = sOq c (r8 c) (Transfers.shareTok fullShare 7 i) (OUT I c) := by
  obtain ⟨j, hj'⟩ := j
  obtain rfl : j = _ := hj
  fin_cases i
  · exact ⟨rfl, (congrArg (fun z => pay I z c) (show sd 19 = 35 by decide)).trans rfl⟩
  · exact ⟨rfl, (congrArg (fun z => pay I z c) (show sd 20 = 36 by decide)).trans rfl⟩
  · exact ⟨rfl, (congrArg (fun z => pay I z c) (show sd 21 = 37 by decide)).trans rfl⟩
  · exact ⟨rfl, (congrArg (fun z => pay I z c) (show sd 22 = 38 by decide)).trans rfl⟩
  · exact ⟨rfl, (congrArg (fun z => pay I z c) (show sd 23 = 39 by decide)).trans rfl⟩
  · exact ⟨rfl, (congrArg (fun z => pay I z c) (show sd 24 = 40 by decide)).trans rfl⟩
  · exact ⟨rfl, (congrArg (fun z => pay I z c) (show sd 25 = 41 by decide)).trans rfl⟩

/-- The units of a copy of packed rows. -/
theorem amt_x (i : Fin 3) (j : Fin 42) (hj : j.val = 10 + 2 * i.val) : amt j = NX := by
  obtain ⟨j, hj'⟩ := j
  obtain rfl : j = _ := hj
  fin_cases i <;> rfl
/-- The units of a copy of packed codes. -/
theorem amt_c (i : Fin 3) (j : Fin 42) (hj : j.val = 11 + 2 * i.val) : amt j = NC := by
  obtain ⟨j, hj'⟩ := j
  obtain rfl : j = _ := hj
  fin_cases i <;> rfl
/-- The units of a copy of partial results. -/
theorem amt_p (i : Fin 3) (j : Fin 42) (hj : j.val = 16 + i.val) : amt j = NX := by
  obtain ⟨j, hj'⟩ := j
  obtain rfl : j = _ := hj
  fin_cases i <;> rfl
/-- The units of a gathering copy. -/
theorem amt_o (i : Fin 7) (j : Fin 42) (hj : j.val = 19 + i.val) : amt j = NO := by
  obtain ⟨j, hj'⟩ := j
  obtain rfl : j = _ := hj
  fin_cases i <;> rfl

/-! ## The slots as the program's views -/

abbrev xgM : Memref sig .tc .vmem S3x32x512 .f32 := Memref.whole cc0_scratch2
abbrev cgM : Memref sig .tc .vmem S3x32x1 .f32 := Memref.whole cc0_scratch3
abbrev acM : Memref sig .tc .vmem S3x32x512 .f32 := Memref.whole cc0_scratch4
abbrev ptM : Memref sig .tc .vmem S3x32x512 .f32 := Memref.whole cc0_scratch5
abbrev pmM : Memref sig .tc .vmem S4x64x32 .f32 := Memref.whole cc0_scratch6

/-- A rectangle of one slot, its offset given otherwise. -/
theorem unit_set {n A B : ℕ} (s : Fin n) {o : Fin 3 → ℕ} (ho : o = ![s.val, 0, 0]) (inb) :
    (Rect.unit (s := Sh n A B) o (Sh 1 A B).size inb).set = sl n A B s := by
  subst ho
  exact rS_set s inb

/-! ## The transfers -/

/-- What a copy of packed rows writes into its slot is what the source slot held. -/
theorem land_x (i : Fin 3) {inb inb'} {hr hr'} {hsq hsq' : S1x32x512.Squeezes S32x512} (fd g : FVec F S3x32x512 .f32) :
    ∀ y ∈ ((xgM.slice (Rect.unit (s := S3x32x512) ![i.val, 0, 0] S1x32x512.size inb') hr').squeeze S32x512 hsq').view.set,
      View.write (Elt F) ((xgM.slice (Rect.unit (s := S3x32x512) ![i.val, 0, 0] S1x32x512.size inb') hr').squeeze S32x512 hsq').view fd (View.read (Elt F) ((xsM.slice (Rect.unit (s := S3x32x512) ![i.val, 0, 0] S1x32x512.size inb) hr).squeeze S32x512 hsq).view g) Finset.univ y = g y :=
  write_agrees (Elt F) ((xgM.slice (Rect.unit (s := S3x32x512) ![i.val, 0, 0] S1x32x512.size inb') hr').squeeze S32x512 hsq').view fd g _ (fun x => rfl)

/-- A transfer of rows to a peer. -/
theorem wp_snd_x {α : Type} {Q : α → sProp 𝕄} {k : PUnit → Prog (TpuEff nD τ sig (Elt F) Λ₀ .tc) α} (c : Dev nD) (i : Fin 3) (j : Fin 42) (hj : j.val = 10 + 2 * i.val) (b : ℕ) (hb : b ≤ 18) {o o' : Fin 3 → ℕ}
    (ho : o = ![i.val, 0, 0]) (ho' : o' = ![i.val, 0, 0]) {inb : ∀ a, o a + S1x32x512.size a ≤ S3x32x512.size a} {inb' : ∀ a, o' a + S1x32x512.size a ≤ S3x32x512.size a} {hr hr'}
    {hsq hsq' : S1x32x512.Squeezes S32x512} {n : Dev nD} (hn : n = tgt j c) {q1 q2 : DmaSem sig} {hsc}
    {hsrc : ((xsM.slice (Rect.unit (s := S3x32x512) o S1x32x512.size inb) hr).squeeze S32x512 hsq).view.WordExact} {hdst : ((xgM.slice (Rect.unit (s := S3x32x512) o' S1x32x512.size inb') hr').squeeze S32x512 hsq').view.WordExact}
    {hsem : DmaTarget.Typed .vmem (.dma q2) (.remote (Dev.tc n : Thread nD τ) ((xgM.slice (Rect.unit (s := S3x32x512) o' S1x32x512.size inb') hr').squeeze S32x512 hsq') (.dma q1) hsc)}
    (hq1 : SemLoc.dma q1 = csem (cel (sd j))) (hq2 : SemLoc.dma q2 = csem (cel j)) (fd : FVec F S3x32x512 .f32) :
    iprop(St I c j.val b ∗ sXs c i (fill (XS I c)) ∗ sXg (tgt j c) i fd)
      ⊢ iprop((St I c (j.val + 1) b -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((xsM.slice (Rect.unit (s := S3x32x512) o S1x32x512.size inb) hr).squeeze S32x512 hsq) (.remote (Dev.tc n : Thread nD τ) ((xgM.slice (Rect.unit (s := S3x32x512) o' S1x32x512.size inb') hr').squeeze S32x512 hsq') (.dma q1) hsc) (.dma q2) hsrc hdst hsem) k) Q) := by
  subst hn ho ho'
  obtain ⟨hp, hp'⟩ := pay_x I i j hj c
  have e1 := (squeeze_set cc0_scratch0 (Rect.unit (s := S3x32x512) ![i.val, 0, 0] S1x32x512.size inb) hr S32x512 hsq).trans (rS_set i inb)
  have e2 := (squeeze_set cc0_scratch2 (Rect.unit (s := S3x32x512) ![i.val, 0, 0] S1x32x512.size inb') hr' S32x512 hsq').trans (rS_set i inb')
  have key := wp_snd I (k := k) (Q := Q) c j (by omega) (by omega) b hb rfl (hsrc := hsrc) (hdst := hdst) (hsem := hsem) (q := fullShare) (fill (XS I c)) fd hq1 hq2
    ((rfl : _ = NX).trans (amt_x i j hj).symm) (by rw [hp', e1]; exact .refl)
    (by
      rw [hp]
      refine (Entails.of_eq (pointsTo_congr (land_x i fd (fill (XS I c))))).trans ?_
      rw [e2]; exact .refl)
  rw [e1, e2] at key
  exact key

/-- What a copy of packed codes writes into its slot is what the source slot held. -/
theorem land_c (i : Fin 3) {inb inb'} {hr hr'} {hsq hsq' : S1x32x1.Squeezes S32x1} (fd g : FVec F S3x32x1 .f32) :
    ∀ y ∈ ((cgM.slice (Rect.unit (s := S3x32x1) ![i.val, 0, 0] S1x32x1.size inb') hr').squeeze S32x1 hsq').view.set,
      View.write (Elt F) ((cgM.slice (Rect.unit (s := S3x32x1) ![i.val, 0, 0] S1x32x1.size inb') hr').squeeze S32x1 hsq').view fd (View.read (Elt F) ((csM.slice (Rect.unit (s := S3x32x1) ![i.val, 0, 0] S1x32x1.size inb) hr).squeeze S32x1 hsq).view g) Finset.univ y = g y :=
  write_agrees (Elt F) ((cgM.slice (Rect.unit (s := S3x32x1) ![i.val, 0, 0] S1x32x1.size inb') hr').squeeze S32x1 hsq').view fd g _ (fun x => rfl)

/-- A transfer of expert choices to a peer. -/
theorem wp_snd_c {α : Type} {Q : α → sProp 𝕄} {k : PUnit → Prog (TpuEff nD τ sig (Elt F) Λ₀ .tc) α} (c : Dev nD) (i : Fin 3) (j : Fin 42) (hj : j.val = 11 + 2 * i.val) (b : ℕ) (hb : b ≤ 18) {o o' : Fin 3 → ℕ}
    (ho : o = ![i.val, 0, 0]) (ho' : o' = ![i.val, 0, 0]) {inb : ∀ a, o a + S1x32x1.size a ≤ S3x32x1.size a} {inb' : ∀ a, o' a + S1x32x1.size a ≤ S3x32x1.size a} {hr hr'}
    {hsq hsq' : S1x32x1.Squeezes S32x1} {n : Dev nD} (hn : n = tgt j c) {q1 q2 : DmaSem sig} {hsc}
    {hsrc : ((csM.slice (Rect.unit (s := S3x32x1) o S1x32x1.size inb) hr).squeeze S32x1 hsq).view.WordExact} {hdst : ((cgM.slice (Rect.unit (s := S3x32x1) o' S1x32x1.size inb') hr').squeeze S32x1 hsq').view.WordExact}
    {hsem : DmaTarget.Typed .vmem (.dma q2) (.remote (Dev.tc n : Thread nD τ) ((cgM.slice (Rect.unit (s := S3x32x1) o' S1x32x1.size inb') hr').squeeze S32x1 hsq') (.dma q1) hsc)}
    (hq1 : SemLoc.dma q1 = csem (cel (sd j))) (hq2 : SemLoc.dma q2 = csem (cel j)) (fd : FVec F S3x32x1 .f32) :
    iprop(St I c j.val b ∗ sCs c i (fill (CS I c)) ∗ sCg (tgt j c) i fd)
      ⊢ iprop((St I c (j.val + 1) b -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((csM.slice (Rect.unit (s := S3x32x1) o S1x32x1.size inb) hr).squeeze S32x1 hsq) (.remote (Dev.tc n : Thread nD τ) ((cgM.slice (Rect.unit (s := S3x32x1) o' S1x32x1.size inb') hr').squeeze S32x1 hsq') (.dma q1) hsc) (.dma q2) hsrc hdst hsem) k) Q) := by
  subst hn ho ho'
  obtain ⟨hp, hp'⟩ := pay_c I i j hj c
  have e1 := (squeeze_set cc0_scratch1 (Rect.unit (s := S3x32x1) ![i.val, 0, 0] S1x32x1.size inb) hr S32x1 hsq).trans (rS_set i inb)
  have e2 := (squeeze_set cc0_scratch3 (Rect.unit (s := S3x32x1) ![i.val, 0, 0] S1x32x1.size inb') hr' S32x1 hsq').trans (rS_set i inb')
  have key := wp_snd I (k := k) (Q := Q) c j (by omega) (by omega) b hb rfl (hsrc := hsrc) (hdst := hdst) (hsem := hsem) (q := fullShare) (fill (CS I c)) fd hq1 hq2
    ((rfl : _ = NC).trans (amt_c i j hj).symm) (by rw [hp', e1]; exact .refl)
    (by
      rw [hp]
      refine (Entails.of_eq (pointsTo_congr (land_c i fd (fill (CS I c))))).trans ?_
      rw [e2]; exact .refl)
  rw [e1, e2] at key
  exact key

/-- What a copy of partial results writes into its slot is what the source slot held. -/
theorem land_p (i : Fin 3) {inb inb'} {hr hr'} {hsq hsq' : S1x32x512.Squeezes S32x512} (fd g : FVec F S3x32x512 .f32) :
    ∀ y ∈ ((acM.slice (Rect.unit (s := S3x32x512) ![i.val, 0, 0] S1x32x512.size inb') hr').squeeze S32x512 hsq').view.set,
      View.write (Elt F) ((acM.slice (Rect.unit (s := S3x32x512) ![i.val, 0, 0] S1x32x512.size inb') hr').squeeze S32x512 hsq').view fd (View.read (Elt F) ((ptM.slice (Rect.unit (s := S3x32x512) ![i.val, 0, 0] S1x32x512.size inb) hr).squeeze S32x512 hsq).view g) Finset.univ y = g y :=
  write_agrees (Elt F) ((acM.slice (Rect.unit (s := S3x32x512) ![i.val, 0, 0] S1x32x512.size inb') hr').squeeze S32x512 hsq').view fd g _ (fun x => rfl)

/-- A transfer of results back to a peer. -/
theorem wp_snd_p {α : Type} {Q : α → sProp 𝕄} {k : PUnit → Prog (TpuEff nD τ sig (Elt F) Λ₀ .tc) α} (c : Dev nD) (i : Fin 3) (j : Fin 42) (hj : j.val = 16 + i.val) (b : ℕ) (hb : b ≤ 18) {o o' : Fin 3 → ℕ}
    (ho : o = ![i.val, 0, 0]) (ho' : o' = ![i.val, 0, 0]) {inb : ∀ a, o a + S1x32x512.size a ≤ S3x32x512.size a} {inb' : ∀ a, o' a + S1x32x512.size a ≤ S3x32x512.size a} {hr hr'}
    {hsq hsq' : S1x32x512.Squeezes S32x512} {n : Dev nD} (hn : n = tgt j c) {q1 q2 : DmaSem sig} {hsc}
    {hsrc : ((ptM.slice (Rect.unit (s := S3x32x512) o S1x32x512.size inb) hr).squeeze S32x512 hsq).view.WordExact} {hdst : ((acM.slice (Rect.unit (s := S3x32x512) o' S1x32x512.size inb') hr').squeeze S32x512 hsq').view.WordExact}
    {hsem : DmaTarget.Typed .vmem (.dma q2) (.remote (Dev.tc n : Thread nD τ) ((acM.slice (Rect.unit (s := S3x32x512) o' S1x32x512.size inb') hr').squeeze S32x512 hsq') (.dma q1) hsc)}
    (hq1 : SemLoc.dma q1 = csem (cel (sd j))) (hq2 : SemLoc.dma q2 = csem (cel j)) (fd : FVec F S3x32x512 .f32) :
    iprop(St I c j.val b ∗ sPt c i (fill (PT I c)) ∗ sAc (tgt j c) i fd)
      ⊢ iprop((St I c (j.val + 1) b -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((ptM.slice (Rect.unit (s := S3x32x512) o S1x32x512.size inb) hr).squeeze S32x512 hsq) (.remote (Dev.tc n : Thread nD τ) ((acM.slice (Rect.unit (s := S3x32x512) o' S1x32x512.size inb') hr').squeeze S32x512 hsq') (.dma q1) hsc) (.dma q2) hsrc hdst hsem) k) Q) := by
  subst hn ho ho'
  obtain ⟨hp, hp'⟩ := pay_p I i j hj c
  have e1 := (squeeze_set cc0_scratch5 (Rect.unit (s := S3x32x512) ![i.val, 0, 0] S1x32x512.size inb) hr S32x512 hsq).trans (rS_set i inb)
  have e2 := (squeeze_set cc0_scratch4 (Rect.unit (s := S3x32x512) ![i.val, 0, 0] S1x32x512.size inb') hr' S32x512 hsq').trans (rS_set i inb')
  have key := wp_snd I (k := k) (Q := Q) c j (by omega) (by omega) b hb rfl (hsrc := hsrc) (hdst := hdst) (hsem := hsem) (q := fullShare) (fill (PT I c)) fd hq1 hq2
    ((rfl : _ = NX).trans (amt_p i j hj).symm) (by rw [hp', e1]; exact .refl)
    (by
      rw [hp]
      refine (Entails.of_eq (pointsTo_congr (land_p i fd (fill (PT I c))))).trans ?_
      rw [e2]; exact .refl)
  rw [e1, e2] at key
  exact key

/-- What a gathering copy writes into the rows is what the same rows of the source held. -/
theorem land_o (o : Fin 2 → ℕ) {inb inb'} {hr hr'} (fd g : FVec F S512x512 .f32) :
    ∀ y ∈ (oM.slice (Rect.unit (s := S512x512) o S64x512.size inb') hr').view.set,
      View.write (Elt F) (oM.slice (Rect.unit (s := S512x512) o S64x512.size inb') hr').view fd
        (View.read (Elt F) (oM.slice (Rect.unit (s := S512x512) o S64x512.size inb) hr).view g) Finset.univ y = g y :=
  write_agrees (Elt F) (oM.slice (Rect.unit (s := S512x512) o S64x512.size inb') hr').view fd g _ (fun x => rfl)

/-- A transfer of a device's rows of the result. -/
theorem wp_snd_o {α : Type} {Q : α → sProp 𝕄} {k : PUnit → Prog (TpuEff nD τ sig (Elt F) Λ₀ .tc) α} (c : Dev nD) (i : Fin 7) (j : Fin 42) (hj : j.val = 19 + i.val) (b : ℕ) (hb : b ≤ 18) {o o' : Fin 2 → ℕ}
    (ho : o = ![64 * r8 c, 0]) (ho' : o' = ![64 * r8 c, 0]) {inb : ∀ a, o a + S64x512.size a ≤ S512x512.size a} {inb' : ∀ a, o' a + S64x512.size a ≤ S512x512.size a} {hr hr'}
    {n : Dev nD} (hn : n = tgt j c) {q1 q2 : DmaSem sig} {hsc}
    {hsrc : (oM.slice (Rect.unit (s := S512x512) o S64x512.size inb) hr).view.WordExact} {hdst : (oM.slice (Rect.unit (s := S512x512) o' S64x512.size inb') hr').view.WordExact}
    {hsem : DmaTarget.Typed .vmem (.dma q2) (.remote (Dev.tc n : Thread nD τ) (oM.slice (Rect.unit (s := S512x512) o' S64x512.size inb') hr') (.dma q1) hsc)}
    (hq1 : SemLoc.dma q1 = csem (cel (sd j))) (hq2 : SemLoc.dma q2 = csem (cel j)) (fd : FVec F S512x512 .f32) :
    iprop(St I c j.val b ∗ sOq c (r8 c) (Transfers.shareTok fullShare 7 i) (OUT I c) ∗ sO (tgt j c) (r8 c) fd)
      ⊢ iprop((St I c (j.val + 1) b -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM.slice (Rect.unit (s := S512x512) o S64x512.size inb) hr) (.remote (Dev.tc n : Thread nD τ) (oM.slice (Rect.unit (s := S512x512) o' S64x512.size inb') hr') (.dma q1) hsc) (.dma q2) hsrc hdst hsem) k) Q) := by
  subst hn ho ho'
  obtain ⟨hp, hp'⟩ := pay_o I i j hj c
  have e1 := (slice_set cc0_stg4_0 (Rect.unit (s := S512x512) ![64 * r8 c, 0] S64x512.size inb) hr).trans (rR_set (r8 c) _ rfl inb)
  have e2 := (slice_set cc0_stg4_0 (Rect.unit (s := S512x512) ![64 * r8 c, 0] S64x512.size inb') hr').trans (rR_set (r8 c) _ rfl inb')
  have key := wp_snd I (k := k) (Q := Q) c j (by omega) (by omega) b hb rfl (hsrc := hsrc) (hdst := hdst) (hsem := hsem) (q := Transfers.shareTok fullShare 7 i) (OUT I c) fd hq1 hq2
    ((rfl : _ = NO).trans (amt_o i j hj).symm) (by rw [hp', e1]; exact .refl)
    (by
      rw [hp]
      refine (Entails.of_eq (pointsTo_congr (land_o _ fd (OUT I c)))).trans ?_
      rw [e2]; exact .refl)
  rw [e1] at key
  exact key

/-- The rows that the program names in a second place begin at 64 times the number of the device among the eight. -/
theorem off2_r8 (c : Dev nD) : k0_off2 c = ![64 * r8 c, 0] := by
  rw [k0_off2_eq]
  unfold r8
  congr 1
  omega
/-- The rows that the program names in a first place begin at 64 times the number of the device among the eight. -/
theorem off1_r8 (c : Dev nD) : k0_off1 c = ![64 * r8 c, 0] := by
  rw [k0_off1_eq]
  unfold r8
  congr 1
  omega

end Cert.KernelIdeal.Hand
-- ==== Proof.Mem.lean ====
/-
# Loads, stores, and what the waits hand over
-/
module

public import proofs.«01_k».proof.Proof.Kinds

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F)

/-- The staged arguments. -/
def hX (c : Dev nD) : sProp 𝕄 := ((c : Thread nD τ).loc cc0_stg0_0) ↦{fullShare} (I c).X
def hA (c : Dev nD) : sProp 𝕄 := ((c : Thread nD τ).loc cc0_stg1_0) ↦{fullShare} (I c).A
def hW1 (c : Dev nD) : sProp 𝕄 := ((c : Thread nD τ).loc cc0_stg2_0) ↦{fullShare} (I c).W1
def hW2 (c : Dev nD) : sProp 𝕄 := ((c : Thread nD τ).loc cc0_stg3_0) ↦{fullShare} (I c).W2

/-! ## Loads -/

/-- A load of a slot of rows to send. -/
theorem ld_xs {α : Type} {Q : α → sProp 𝕄} {k : (S1x32x512.Idx → Elt F .f32) → Prog (TpuEff nD τ sig (Elt F) Λ₀ .tc) α} (c : Dev nD) (s : Fin 3) (f : FVec F S3x32x512 .f32) {o : Fin 3 → ℕ}
    (ho : o = ![s.val, 0, 0]) {inb : ∀ a, o a + S1x32x512.size a ≤ S3x32x512.size a} {hl} (w : FVec F S1x32x512 .f32) (hw : ∀ inb x, f ((rS (n := 3) (A := 32) (B := 512) s inb).idx x) = w x) :
    sXs c s f ⊢ iprop((sXs c s f -∗ wp frame (wpE (defs₀ (F := F)) 𝒱₀ (c : Thread nD τ) none) Set.univ (k w) Q)
      -∗ wp frame (wpE (defs₀ (F := F)) 𝒱₀ (c : Thread nD τ) none) Set.univ (.op (.load (Memref.whole cc0_scratch0 : Memref sig .tc .vmem S3x32x512 .f32) (Rect.unit (s := S3x32x512) o S1x32x512.size inb).toLoadRect hl) k) Q) := by
  subst ho
  have h := wp_load (k := k) (hl := hl) (defs := defs₀ (F := F)) (Γ := .empty) (Q := Q) 𝒱₀ (c : Thread nD τ) none Set.univ (m := (Memref.whole cc0_scratch0 : Memref sig .tc .vmem S3x32x512 .f32))
    (r := (Rect.unit (s := S3x32x512) ![s.val, 0, 0] S1x32x512.size inb).toLoadRect) (S := sl 3 32 512 s) (q := fullShare) (f := f)
    (by rw [setOn_load]; exact (rS_set s inb).subset)
  rw [show (Memref.whole cc0_scratch0 : Memref sig .tc .vmem S3x32x512 .f32).view.readAt (Elt F) (Rect.unit (s := S3x32x512) ![s.val, 0, 0] S1x32x512.size inb).toLoadRect f = w from funext fun x => hw inb x] at h
  exact h

/-- A load of a slot of choices to send. -/
theorem ld_cs {α : Type} {Q : α → sProp 𝕄} {k : (S1x32x1.Idx → Elt F .f32) → Prog (TpuEff nD τ sig (Elt F) Λ₀ .tc) α} (c : Dev nD) (s : Fin 3) (f : FVec F S3x32x1 .f32) {o : Fin 3 → ℕ}
    (ho : o = ![s.val, 0, 0]) {inb : ∀ a, o a + S1x32x1.size a ≤ S3x32x1.size a} {hl} (w : FVec F S1x32x1 .f32) (hw : ∀ inb x, f ((rS (n := 3) (A := 32) (B := 1) s inb).idx x) = w x) :
    sCs c s f ⊢ iprop((sCs c s f -∗ wp frame (wpE (defs₀ (F := F)) 𝒱₀ (c : Thread nD τ) none) Set.univ (k w) Q)
      -∗ wp frame (wpE (defs₀ (F := F)) 𝒱₀ (c : Thread nD τ) none) Set.univ (.op (.load (Memref.whole cc0_scratch1 : Memref sig .tc .vmem S3x32x1 .f32) (Rect.unit (s := S3x32x1) o S1x32x1.size inb).toLoadRect hl) k) Q) := by
  subst ho
  have h := wp_load (k := k) (hl := hl) (defs := defs₀ (F := F)) (Γ := .empty) (Q := Q) 𝒱₀ (c : Thread nD τ) none Set.univ (m := (Memref.whole cc0_scratch1 : Memref sig .tc .vmem S3x32x1 .f32))
    (r := (Rect.unit (s := S3x32x1) ![s.val, 0, 0] S1x32x1.size inb).toLoadRect) (S := sl 3 32 1 s) (q := fullShare) (f := f)
    (by rw [setOn_load]; exact (rS_set s inb).subset)
  rw [show (Memref.whole cc0_scratch1 : Memref sig .tc .vmem S3x32x1 .f32).view.readAt (Elt F) (Rect.unit (s := S3x32x1) ![s.val, 0, 0] S1x32x1.size inb).toLoadRect f = w from funext fun x => hw inb x] at h
  exact h

/-- A load of a slot of received rows. -/
theorem ld_xg {α : Type} {Q : α → sProp 𝕄} {k : (S1x32x512.Idx → Elt F .f32) → Prog (TpuEff nD τ sig (Elt F) Λ₀ .tc) α} (c : Dev nD) (s : Fin 3) (f : FVec F S3x32x512 .f32) {o : Fin 3 → ℕ}
    (ho : o = ![s.val, 0, 0]) {inb : ∀ a, o a + S1x32x512.size a ≤ S3x32x512.size a} {hl} (w : FVec F S1x32x512 .f32) (hw : ∀ inb x, f ((rS (n := 3) (A := 32) (B := 512) s inb).idx x) = w x) :
    sXg c s f ⊢ iprop((sXg c s f -∗ wp frame (wpE (defs₀ (F := F)) 𝒱₀ (c : Thread nD τ) none) Set.univ (k w) Q)
      -∗ wp frame (wpE (defs₀ (F := F)) 𝒱₀ (c : Thread nD τ) none) Set.univ (.op (.load (Memref.whole cc0_scratch2 : Memref sig .tc .vmem S3x32x512 .f32) (Rect.unit (s := S3x32x512) o S1x32x512.size inb).toLoadRect hl) k) Q) := by
  subst ho
  have h := wp_load (k := k) (hl := hl) (defs := defs₀ (F := F)) (Γ := .empty) (Q := Q) 𝒱₀ (c : Thread nD τ) none Set.univ (m := (Memref.whole cc0_scratch2 : Memref sig .tc .vmem S3x32x512 .f32))
    (r := (Rect.unit (s := S3x32x512) ![s.val, 0, 0] S1x32x512.size inb).toLoadRect) (S := sl 3 32 512 s) (q := fullShare) (f := f)
    (by rw [setOn_load]; exact (rS_set s inb).subset)
  rw [show (Memref.whole cc0_scratch2 : Memref sig .tc .vmem S3x32x512 .f32).view.readAt (Elt F) (Rect.unit (s := S3x32x512) ![s.val, 0, 0] S1x32x512.size inb).toLoadRect f = w from funext fun x => hw inb x] at h
  exact h

/-- A load of a slot of received choices. -/
theorem ld_cg {α : Type} {Q : α → sProp 𝕄} {k : (S1x32x1.Idx → Elt F .f32) → Prog (TpuEff nD τ sig (Elt F) Λ₀ .tc) α} (c : Dev nD) (s : Fin 3) (f : FVec F S3x32x1 .f32) {o : Fin 3 → ℕ}
    (ho : o = ![s.val, 0, 0]) {inb : ∀ a, o a + S1x32x1.size a ≤ S3x32x1.size a} {hl} (w : FVec F S1x32x1 .f32) (hw : ∀ inb x, f ((rS (n := 3) (A := 32) (B := 1) s inb).idx x) = w x) :
    sCg c s f ⊢ iprop((sCg c s f -∗ wp frame (wpE (defs₀ (F := F)) 𝒱₀ (c : Thread nD τ) none) Set.univ (k w) Q)
      -∗ wp frame (wpE (defs₀ (F := F)) 𝒱₀ (c : Thread nD τ) none) Set.univ (.op (.load (Memref.whole cc0_scratch3 : Memref sig .tc .vmem S3x32x1 .f32) (Rect.unit (s := S3x32x1) o S1x32x1.size inb).toLoadRect hl) k) Q) := by
  subst ho
  have h := wp_load (k := k) (hl := hl) (defs := defs₀ (F := F)) (Γ := .empty) (Q := Q) 𝒱₀ (c : Thread nD τ) none Set.univ (m := (Memref.whole cc0_scratch3 : Memref sig .tc .vmem S3x32x1 .f32))
    (r := (Rect.unit (s := S3x32x1) ![s.val, 0, 0] S1x32x1.size inb).toLoadRect) (S := sl 3 32 1 s) (q := fullShare) (f := f)
    (by rw [setOn_load]; exact (rS_set s inb).subset)
  rw [show (Memref.whole cc0_scratch3 : Memref sig .tc .vmem S3x32x1 .f32).view.readAt (Elt F) (Rect.unit (s := S3x32x1) ![s.val, 0, 0] S1x32x1.size inb).toLoadRect f = w from funext fun x => hw inb x] at h
  exact h

/-- A load of a slot of results come back. -/
theorem ld_ac {α : Type} {Q : α → sProp 𝕄} {k : (S1x32x512.Idx → Elt F .f32) → Prog (TpuEff nD τ sig (Elt F) Λ₀ .tc) α} (c : Dev nD) (s : Fin 3) (f : FVec F S3x32x512 .f32) {o : Fin 3 → ℕ}
    (ho : o = ![s.val, 0, 0]) {inb : ∀ a, o a + S1x32x512.size a ≤ S3x32x512.size a} {hl} (w : FVec F S1x32x512 .f32) (hw : ∀ inb x, f ((rS (n := 3) (A := 32) (B := 512) s inb).idx x) = w x) :
    sAc c s f ⊢ iprop((sAc c s f -∗ wp frame (wpE (defs₀ (F := F)) 𝒱₀ (c : Thread nD τ) none) Set.univ (k w) Q)
      -∗ wp frame (wpE (defs₀ (F := F)) 𝒱₀ (c : Thread nD τ) none) Set.univ (.op (.load (Memref.whole cc0_scratch4 : Memref sig .tc .vmem S3x32x512 .f32) (Rect.unit (s := S3x32x512) o S1x32x512.size inb).toLoadRect hl) k) Q) := by
  subst ho
  have h := wp_load (k := k) (hl := hl) (defs := defs₀ (F := F)) (Γ := .empty) (Q := Q) 𝒱₀ (c : Thread nD τ) none Set.univ (m := (Memref.whole cc0_scratch4 : Memref sig .tc .vmem S3x32x512 .f32))
    (r := (Rect.unit (s := S3x32x512) ![s.val, 0, 0] S1x32x512.size inb).toLoadRect) (S := sl 3 32 512 s) (q := fullShare) (f := f)
    (by rw [setOn_load]; exact (rS_set s inb).subset)
  rw [show (Memref.whole cc0_scratch4 : Memref sig .tc .vmem S3x32x512 .f32).view.readAt (Elt F) (Rect.unit (s := S3x32x512) ![s.val, 0, 0] S1x32x512.size inb).toLoadRect f = w from funext fun x => hw inb x] at h
  exact h

/-- A load of a slot of results to send. -/
theorem ld_pt {α : Type} {Q : α → sProp 𝕄} {k : (S1x32x512.Idx → Elt F .f32) → Prog (TpuEff nD τ sig (Elt F) Λ₀ .tc) α} (c : Dev nD) (s : Fin 3) (f : FVec F S3x32x512 .f32) {o : Fin 3 → ℕ}
    (ho : o = ![s.val, 0, 0]) {inb : ∀ a, o a + S1x32x512.size a ≤ S3x32x512.size a} {hl} (w : FVec F S1x32x512 .f32) (hw : ∀ inb x, f ((rS (n := 3) (A := 32) (B := 512) s inb).idx x) = w x) :
    sPt c s f ⊢ iprop((sPt c s f -∗ wp frame (wpE (defs₀ (F := F)) 𝒱₀ (c : Thread nD τ) none) Set.univ (k w) Q)
      -∗ wp frame (wpE (defs₀ (F := F)) 𝒱₀ (c : Thread nD τ) none) Set.univ (.op (.load (Memref.whole cc0_scratch5 : Memref sig .tc .vmem S3x32x512 .f32) (Rect.unit (s := S3x32x512) o S1x32x512.size inb).toLoadRect hl) k) Q) := by
  subst ho
  have h := wp_load (k := k) (hl := hl) (defs := defs₀ (F := F)) (Γ := .empty) (Q := Q) 𝒱₀ (c : Thread nD τ) none Set.univ (m := (Memref.whole cc0_scratch5 : Memref sig .tc .vmem S3x32x512 .f32))
    (r := (Rect.unit (s := S3x32x512) ![s.val, 0, 0] S1x32x512.size inb).toLoadRect) (S := sl 3 32 512 s) (q := fullShare) (f := f)
    (by rw [setOn_load]; exact (rS_set s inb).subset)
  rw [show (Memref.whole cc0_scratch5 : Memref sig .tc .vmem S3x32x512 .f32).view.readAt (Elt F) (Rect.unit (s := S3x32x512) ![s.val, 0, 0] S1x32x512.size inb).toLoadRect f = w from funext fun x => hw inb x] at h
  exact h

/-- A load of a scatter matrix. -/
theorem ld_pm {α : Type} {Q : α → sProp 𝕄} {k : (S1x64x32.Idx → Elt F .f32) → Prog (TpuEff nD τ sig (Elt F) Λ₀ .tc) α} (c : Dev nD) (s : Fin 4) (f : FVec F S4x64x32 .f32) {o : Fin 3 → ℕ}
    (ho : o = ![s.val, 0, 0]) {inb : ∀ a, o a + S1x64x32.size a ≤ S4x64x32.size a} {hl} (w : FVec F S1x64x32 .f32) (hw : ∀ inb x, f ((rS (n := 4) (A := 64) (B := 32) s inb).idx x) = w x) :
    sPm c s f ⊢ iprop((sPm c s f -∗ wp frame (wpE (defs₀ (F := F)) 𝒱₀ (c : Thread nD τ) none) Set.univ (k w) Q)
      -∗ wp frame (wpE (defs₀ (F := F)) 𝒱₀ (c : Thread nD τ) none) Set.univ (.op (.load (Memref.whole cc0_scratch6 : Memref sig .tc .vmem S4x64x32 .f32) (Rect.unit (s := S4x64x32) o S1x64x32.size inb).toLoadRect hl) k) Q) := by
  subst ho
  have h := wp_load (k := k) (hl := hl) (defs := defs₀ (F := F)) (Γ := .empty) (Q := Q) 𝒱₀ (c : Thread nD τ) none Set.univ (m := (Memref.whole cc0_scratch6 : Memref sig .tc .vmem S4x64x32 .f32))
    (r := (Rect.unit (s := S4x64x32) ![s.val, 0, 0] S1x64x32.size inb).toLoadRect) (S := sl 4 64 32 s) (q := fullShare) (f := f)
    (by rw [setOn_load]; exact (rS_set s inb).subset)
  rw [show (Memref.whole cc0_scratch6 : Memref sig .tc .vmem S4x64x32 .f32).view.readAt (Elt F) (Rect.unit (s := S4x64x32) ![s.val, 0, 0] S1x64x32.size inb).toLoadRect f = w from funext fun x => hw inb x] at h
  exact h

/-! ## Stores -/

/-- A store of a slot of rows to send. -/
theorem st_xs {α : Type} {Q : α → sProp 𝕄} {k : PUnit → Prog (TpuEff nD τ sig (Elt F) Λ₀ .tc) α} (c : Dev nD) (s : Fin 3) (f : FVec F S3x32x512 .f32) (v : Fin 3 → FVec F S1x32x512 .f32) {o : Fin 3 → ℕ}
    (ho : o = ![s.val, 0, 0]) {inb : ∀ a, o a + S1x32x512.size a ≤ S3x32x512.size a} {hx hm} (w : FVec F S1x32x512 .f32) (hw : w = v s) :
    sXs c s f ⊢ iprop((sXs c s (fill v) -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch0 : Memref sig .tc .vmem S3x32x512 .f32) (Rect.unit (s := S3x32x512) o S1x32x512.size inb) w Finset.univ hx hm) k) Q) := by
  subst ho
  have e := (access_set cc0_scratch0 (Rect.unit (s := S3x32x512) ![s.val, 0, 0] S1x32x512.size inb)).trans (rS_set s inb)
  have h := wp_store (k := k) (hx := hx) (hm := hm) (defs := defs₀ (F := F)) (Γ := .empty) (Q := Q) 𝒱₀ (c : Thread nD τ) none Set.univ (m := (Memref.whole cc0_scratch0 : Memref sig .tc .vmem S3x32x512 .f32))
    (r := Rect.unit (s := S3x32x512) ![s.val, 0, 0] S1x32x512.size inb) (S := sl 3 32 512 s) (w := w) (Mk := Finset.univ) (f := f)
    (by rw [View.setOn_univ]; exact e.subset)
  have hag := write_agrees (Elt F) ((Memref.whole cc0_scratch0 : Memref sig .tc .vmem S3x32x512 .f32).access (Rect.unit (s := S3x32x512) ![s.val, 0, 0] S1x32x512.size inb)) f (fill v) w
    (fun x => by rw [hw]; exact (fill_rS v s inb x).symm)
  rw [e] at hag
  have e2 := Entails.of_eq (pointsTo_congr (ℓ := (c : Thread nD τ).loc cc0_scratch0) (I := sl 3 32 512 s) (q := fullShare)
    (f := ((Memref.whole cc0_scratch0 : Memref sig .tc .vmem S3x32x512 .f32).access (Rect.unit (s := S3x32x512) ![s.val, 0, 0] S1x32x512.size inb)).write (Elt F) f w Finset.univ) (g := fill v) hag (Ix := Unit) (Name := ℕ) (U := UU) (Lvl := ℕ))
  exact h.trans (wand_mono_left (wand_mono_left e2))

/-- A store of a slot of choices to send. -/
theorem st_cs {α : Type} {Q : α → sProp 𝕄} {k : PUnit → Prog (TpuEff nD τ sig (Elt F) Λ₀ .tc) α} (c : Dev nD) (s : Fin 3) (f : FVec F S3x32x1 .f32) (v : Fin 3 → FVec F S1x32x1 .f32) {o : Fin 3 → ℕ}
    (ho : o = ![s.val, 0, 0]) {inb : ∀ a, o a + S1x32x1.size a ≤ S3x32x1.size a} {hx hm} (w : FVec F S1x32x1 .f32) (hw : w = v s) :
    sCs c s f ⊢ iprop((sCs c s (fill v) -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch1 : Memref sig .tc .vmem S3x32x1 .f32) (Rect.unit (s := S3x32x1) o S1x32x1.size inb) w Finset.univ hx hm) k) Q) := by
  subst ho
  have e := (access_set cc0_scratch1 (Rect.unit (s := S3x32x1) ![s.val, 0, 0] S1x32x1.size inb)).trans (rS_set s inb)
  have h := wp_store (k := k) (hx := hx) (hm := hm) (defs := defs₀ (F := F)) (Γ := .empty) (Q := Q) 𝒱₀ (c : Thread nD τ) none Set.univ (m := (Memref.whole cc0_scratch1 : Memref sig .tc .vmem S3x32x1 .f32))
    (r := Rect.unit (s := S3x32x1) ![s.val, 0, 0] S1x32x1.size inb) (S := sl 3 32 1 s) (w := w) (Mk := Finset.univ) (f := f)
    (by rw [View.setOn_univ]; exact e.subset)
  have hag := write_agrees (Elt F) ((Memref.whole cc0_scratch1 : Memref sig .tc .vmem S3x32x1 .f32).access (Rect.unit (s := S3x32x1) ![s.val, 0, 0] S1x32x1.size inb)) f (fill v) w
    (fun x => by rw [hw]; exact (fill_rS v s inb x).symm)
  rw [e] at hag
  have e2 := Entails.of_eq (pointsTo_congr (ℓ := (c : Thread nD τ).loc cc0_scratch1) (I := sl 3 32 1 s) (q := fullShare)
    (f := ((Memref.whole cc0_scratch1 : Memref sig .tc .vmem S3x32x1 .f32).access (Rect.unit (s := S3x32x1) ![s.val, 0, 0] S1x32x1.size inb)).write (Elt F) f w Finset.univ) (g := fill v) hag (Ix := Unit) (Name := ℕ) (U := UU) (Lvl := ℕ))
  exact h.trans (wand_mono_left (wand_mono_left e2))

/-- A store of a slot of results to send. -/
theorem st_pt {α : Type} {Q : α → sProp 𝕄} {k : PUnit → Prog (TpuEff nD τ sig (Elt F) Λ₀ .tc) α} (c : Dev nD) (s : Fin 3) (f : FVec F S3x32x512 .f32) (v : Fin 3 → FVec F S1x32x512 .f32) {o : Fin 3 → ℕ}
    (ho : o = ![s.val, 0, 0]) {inb : ∀ a, o a + S1x32x512.size a ≤ S3x32x512.size a} {hx hm} (w : FVec F S1x32x512 .f32) (hw : w = v s) :
    sPt c s f ⊢ iprop((sPt c s (fill v) -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch5 : Memref sig .tc .vmem S3x32x512 .f32) (Rect.unit (s := S3x32x512) o S1x32x512.size inb) w Finset.univ hx hm) k) Q) := by
  subst ho
  have e := (access_set cc0_scratch5 (Rect.unit (s := S3x32x512) ![s.val, 0, 0] S1x32x512.size inb)).trans (rS_set s inb)
  have h := wp_store (k := k) (hx := hx) (hm := hm) (defs := defs₀ (F := F)) (Γ := .empty) (Q := Q) 𝒱₀ (c : Thread nD τ) none Set.univ (m := (Memref.whole cc0_scratch5 : Memref sig .tc .vmem S3x32x512 .f32))
    (r := Rect.unit (s := S3x32x512) ![s.val, 0, 0] S1x32x512.size inb) (S := sl 3 32 512 s) (w := w) (Mk := Finset.univ) (f := f)
    (by rw [View.setOn_univ]; exact e.subset)
  have hag := write_agrees (Elt F) ((Memref.whole cc0_scratch5 : Memref sig .tc .vmem S3x32x512 .f32).access (Rect.unit (s := S3x32x512) ![s.val, 0, 0] S1x32x512.size inb)) f (fill v) w
    (fun x => by rw [hw]; exact (fill_rS v s inb x).symm)
  rw [e] at hag
  have e2 := Entails.of_eq (pointsTo_congr (ℓ := (c : Thread nD τ).loc cc0_scratch5) (I := sl 3 32 512 s) (q := fullShare)
    (f := ((Memref.whole cc0_scratch5 : Memref sig .tc .vmem S3x32x512 .f32).access (Rect.unit (s := S3x32x512) ![s.val, 0, 0] S1x32x512.size inb)).write (Elt F) f w Finset.univ) (g := fill v) hag (Ix := Unit) (Name := ℕ) (U := UU) (Lvl := ℕ))
  exact h.trans (wand_mono_left (wand_mono_left e2))

/-- A store of a scatter matrix. -/
theorem st_pm {α : Type} {Q : α → sProp 𝕄} {k : PUnit → Prog (TpuEff nD τ sig (Elt F) Λ₀ .tc) α} (c : Dev nD) (s : Fin 4) (f : FVec F S4x64x32 .f32) (v : Fin 4 → FVec F S1x64x32 .f32) {o : Fin 3 → ℕ}
    (ho : o = ![s.val, 0, 0]) {inb : ∀ a, o a + S1x64x32.size a ≤ S4x64x32.size a} {hx hm} (w : FVec F S1x64x32 .f32) (hw : w = v s) :
    sPm c s f ⊢ iprop((sPm c s (fill v) -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch6 : Memref sig .tc .vmem S4x64x32 .f32) (Rect.unit (s := S4x64x32) o S1x64x32.size inb) w Finset.univ hx hm) k) Q) := by
  subst ho
  have e := (access_set cc0_scratch6 (Rect.unit (s := S4x64x32) ![s.val, 0, 0] S1x64x32.size inb)).trans (rS_set s inb)
  have h := wp_store (k := k) (hx := hx) (hm := hm) (defs := defs₀ (F := F)) (Γ := .empty) (Q := Q) 𝒱₀ (c : Thread nD τ) none Set.univ (m := (Memref.whole cc0_scratch6 : Memref sig .tc .vmem S4x64x32 .f32))
    (r := Rect.unit (s := S4x64x32) ![s.val, 0, 0] S1x64x32.size inb) (S := sl 4 64 32 s) (w := w) (Mk := Finset.univ) (f := f)
    (by rw [View.setOn_univ]; exact e.subset)
  have hag := write_agrees (Elt F) ((Memref.whole cc0_scratch6 : Memref sig .tc .vmem S4x64x32 .f32).access (Rect.unit (s := S4x64x32) ![s.val, 0, 0] S1x64x32.size inb)) f (fill v) w
    (fun x => by rw [hw]; exact (fill_rS v s inb x).symm)
  rw [e] at hag
  have e2 := Entails.of_eq (pointsTo_congr (ℓ := (c : Thread nD τ).loc cc0_scratch6) (I := sl 4 64 32 s) (q := fullShare)
    (f := ((Memref.whole cc0_scratch6 : Memref sig .tc .vmem S4x64x32 .f32).access (Rect.unit (s := S4x64x32) ![s.val, 0, 0] S1x64x32.size inb)).write (Elt F) f w Finset.univ) (g := fill v) hag (Ix := Unit) (Name := ℕ) (U := UU) (Lvl := ℕ))
  exact h.trans (wand_mono_left (wand_mono_left e2))

/-! ## The arguments -/

/-- A load of the rows. -/
theorem ld_x {α : Type} {Q : α → sProp 𝕄} {k : (S64x512.Idx → Elt F .f32) → Prog (TpuEff nD τ sig (Elt F) Λ₀ .tc) α} (c : Dev nD) {inb : ∀ a, (![0, 0] : Fin 2 → ℕ) a + S64x512.size a ≤ S64x512.size a} {hl} :
    hX I c ⊢ iprop((hX I c -∗ wp frame (wpE (defs₀ (F := F)) 𝒱₀ (c : Thread nD τ) none) Set.univ (k (I c).X) Q)
      -∗ wp frame (wpE (defs₀ (F := F)) 𝒱₀ (c : Thread nD τ) none) Set.univ (.op (.load (Memref.whole cc0_stg0_0 : Memref sig .tc .vmem S64x512 .f32) (Rect.unit (s := S64x512) ![0, 0] S64x512.size inb).toLoadRect hl) k) Q) := by
  have h := wp_load (k := k) (hl := hl) (defs := defs₀ (F := F)) (Γ := .empty) (Q := Q) 𝒱₀ (c : Thread nD τ) none Set.univ (m := (Memref.whole cc0_stg0_0 : Memref sig .tc .vmem S64x512 .f32))
    (r := (Rect.unit (s := S64x512) ![0, 0] S64x512.size inb).toLoadRect) (S := Finset.univ) (q := fullShare) (f := (I c).X) (Finset.subset_univ _)
  have e := Memref.readAt_unit_zero (Elt F) cc0_stg0_0 (off := ![0, 0]) (by funext a; fin_cases a <;> rfl) inb (I c).X
  rw [show (Memref.whole cc0_stg0_0 : Memref sig .tc .vmem S64x512 .f32).view.readAt (Elt F) (Rect.unit (s := S64x512) ![0, 0] S64x512.size inb).toLoadRect (I c).X = (I c).X from e] at h
  exact h

/-- A load of the assignment. -/
theorem ld_a {α : Type} {Q : α → sProp 𝕄} {k : (S64.Idx → Elt F .i32) → Prog (TpuEff nD τ sig (Elt F) Λ₀ .tc) α} (c : Dev nD) {inb : ∀ a, (![0] : Fin 1 → ℕ) a + S64.size a ≤ S64.size a} {hl} :
    hA I c ⊢ iprop((hA I c -∗ wp frame (wpE (defs₀ (F := F)) 𝒱₀ (c : Thread nD τ) none) Set.univ (k (I c).A) Q)
      -∗ wp frame (wpE (defs₀ (F := F)) 𝒱₀ (c : Thread nD τ) none) Set.univ (.op (.load (Memref.whole cc0_stg1_0 : Memref sig .tc .vmem S64 .i32) (Rect.unit (s := S64) ![0] S64.size inb).toLoadRect hl) k) Q) := by
  have h := wp_load (k := k) (hl := hl) (defs := defs₀ (F := F)) (Γ := .empty) (Q := Q) 𝒱₀ (c : Thread nD τ) none Set.univ (m := (Memref.whole cc0_stg1_0 : Memref sig .tc .vmem S64 .i32))
    (r := (Rect.unit (s := S64) ![0] S64.size inb).toLoadRect) (S := Finset.univ) (q := fullShare) (f := (I c).A) (Finset.subset_univ _)
  have e := Memref.readAt_unit_zero (Elt F) cc0_stg1_0 (off := ![0]) (by funext a; fin_cases a <;> rfl) inb (I c).A
  rw [show (Memref.whole cc0_stg1_0 : Memref sig .tc .vmem S64 .i32).view.readAt (Elt F) (Rect.unit (s := S64) ![0] S64.size inb).toLoadRect (I c).A = (I c).A from e] at h
  exact h

/-- A load of an expert's weights. -/
theorem ld_w1 {α : Type} {Q : α → sProp 𝕄} {k : (S1x512x1024.Idx → Elt F .f32) → Prog (TpuEff nD τ sig (Elt F) Λ₀ .tc) α} (c : Dev nD) (e : Fin 2) {o : Fin 3 → ℕ}
    (ho : o = ![e.val, 0, 0]) {inb : ∀ a, o a + S1x512x1024.size a ≤ S2x512x1024.size a} {hl} :
    hW1 I c ⊢ iprop((hW1 I c -∗ wp frame (wpE (defs₀ (F := F)) 𝒱₀ (c : Thread nD τ) none) Set.univ (k (w1 (I c) e)) Q)
      -∗ wp frame (wpE (defs₀ (F := F)) 𝒱₀ (c : Thread nD τ) none) Set.univ (.op (.load (Memref.whole cc0_stg2_0 : Memref sig .tc .vmem S2x512x1024 .f32) (Rect.unit (s := S2x512x1024) o S1x512x1024.size inb).toLoadRect hl) k) Q) := by
  subst ho
  have h := wp_load (k := k) (hl := hl) (defs := defs₀ (F := F)) (Γ := .empty) (Q := Q) 𝒱₀ (c : Thread nD τ) none Set.univ (m := (Memref.whole cc0_stg2_0 : Memref sig .tc .vmem S2x512x1024 .f32))
    (r := (Rect.unit (s := S2x512x1024) ![e.val, 0, 0] S1x512x1024.size inb).toLoadRect) (S := Finset.univ) (q := fullShare) (f := (I c).W1) (Finset.subset_univ _)
  exact h

/-- A load of an expert's weights. -/
theorem ld_w2 {α : Type} {Q : α → sProp 𝕄} {k : (S1x1024x512.Idx → Elt F .f32) → Prog (TpuEff nD τ sig (Elt F) Λ₀ .tc) α} (c : Dev nD) (e : Fin 2) {o : Fin 3 → ℕ}
    (ho : o = ![e.val, 0, 0]) {inb : ∀ a, o a + S1x1024x512.size a ≤ S2x1024x512.size a} {hl} :
    hW2 I c ⊢ iprop((hW2 I c -∗ wp frame (wpE (defs₀ (F := F)) 𝒱₀ (c : Thread nD τ) none) Set.univ (k (w2 (I c) e)) Q)
      -∗ wp frame (wpE (defs₀ (F := F)) 𝒱₀ (c : Thread nD τ) none) Set.univ (.op (.load (Memref.whole cc0_stg3_0 : Memref sig .tc .vmem S2x1024x512 .f32) (Rect.unit (s := S2x1024x512) o S1x1024x512.size inb).toLoadRect hl) k) Q) := by
  subst ho
  have h := wp_load (k := k) (hl := hl) (defs := defs₀ (F := F)) (Γ := .empty) (Q := Q) 𝒱₀ (c : Thread nD τ) none Set.univ (m := (Memref.whole cc0_stg3_0 : Memref sig .tc .vmem S2x1024x512 .f32))
    (r := (Rect.unit (s := S2x1024x512) ![e.val, 0, 0] S1x1024x512.size inb).toLoadRect) (S := Finset.univ) (q := fullShare) (f := (I c).W2) (Finset.subset_univ _)
  exact h

/-! ## The result's rows -/

/-- A load of a device's rows of the result. -/
theorem ld_o {α : Type} {Q : α → sProp 𝕄} {k : (S64x512.Idx → Elt F .f32) → Prog (TpuEff nD τ sig (Elt F) Λ₀ .tc) α} (c : Dev nD) (f : FVec F S512x512 .f32) {o : Fin 2 → ℕ}
    (ho : o = ![64 * r8 c, 0]) {inb : ∀ a, o a + S64x512.size a ≤ S512x512.size a} {hl} :
    sO c (r8 c) f ⊢ iprop((sO c (r8 c) f -∗ wp frame (wpE (defs₀ (F := F)) 𝒱₀ (c : Thread nD τ) none) Set.univ (k (oM.view.readAt (Elt F) (Rect.unit (s := S512x512) o S64x512.size inb).toLoadRect f)) Q)
      -∗ wp frame (wpE (defs₀ (F := F)) 𝒱₀ (c : Thread nD τ) none) Set.univ (.op (.load oM (Rect.unit (s := S512x512) o S64x512.size inb).toLoadRect hl) k) Q) :=
  wp_load (k := k) (hl := hl) (defs := defs₀ (F := F)) (Γ := .empty) (Q := Q) 𝒱₀ (c : Thread nD τ) none Set.univ (m := oM)
    (r := (Rect.unit (s := S512x512) o S64x512.size inb).toLoadRect) (S := rows (r8 c)) (q := fullShare) (f := f)
    (by rw [setOn_load]; exact (rR_set (r8 c) o ho inb).subset)

/-- What the block of device `c` reads of the result. -/
theorem OUT_row (c : Dev nD) (inb) (x : S64x512.Idx) : OUT I c ((rR ![64 * r8 c, 0] inb).idx x) = RES I c x := by
  have hx0 : (x 0).val < 64 := (x 0).isLt
  have hx1 : (x 1).val < 512 := (x 1).isLt
  have h0 : (((rR ![64 * r8 c, 0] inb).idx x) 0 : ℕ) = 64 * r8 c + (x 0).val := by
    rw [LoadRect.idx_apply]
    show 64 * r8 c + 1 * (x 0).val = _
    omega
  have h1 : (((rR ![64 * r8 c, 0] inb).idx x) 1 : ℕ) = (x 1).val := by
    rw [LoadRect.idx_apply]
    show 0 + 1 * (x 1).val = _
    omega
  unfold OUT
  rw [show (((rR ![64 * r8 c, 0] inb).idx x) 0 : ℕ) / 64 = r8 c by rw [h0]; omega, dAt_r8]
  congr 1
  funext a
  apply Fin.ext
  match a with
  | ⟨0, _⟩ =>
    show (((rR ![64 * r8 c, 0] inb).idx x) 0 : ℕ) % 64 = (x 0).val
    rw [h0]; omega
  | ⟨1, _⟩ => exact h1

/-- The store of a device's rows of the result. -/
theorem st_o {α : Type} {Q : α → sProp 𝕄} {k : PUnit → Prog (TpuEff nD τ sig (Elt F) Λ₀ .tc) α} (c : Dev nD) (f : FVec F S512x512 .f32) {o : Fin 2 → ℕ}
    (ho : o = ![64 * r8 c, 0]) {inb : ∀ a, o a + S64x512.size a ≤ S512x512.size a} {hx hm} (w : FVec F S64x512 .f32) (hw : w = RES I c) :
    sO c (r8 c) f ⊢ iprop((sO c (r8 c) (OUT I c) -∗ wp frame (wpE (defs₀ (F := F)) 𝒱₀ (c : Thread nD τ) none) Set.univ (k ⟨⟩) Q)
      -∗ wp frame (wpE (defs₀ (F := F)) 𝒱₀ (c : Thread nD τ) none) Set.univ (.op (.store oM (Rect.unit (s := S512x512) o S64x512.size inb) w Finset.univ hx hm) k) Q) := by
  subst ho
  have e := (access_set cc0_stg4_0 (Rect.unit (s := S512x512) ![64 * r8 c, 0] S64x512.size inb)).trans (rR_set (r8 c) _ rfl inb)
  have h := wp_store (k := k) (hx := hx) (hm := hm) (defs := defs₀ (F := F)) (Γ := .empty) (Q := Q) 𝒱₀ (c : Thread nD τ) none Set.univ (m := oM)
    (r := Rect.unit (s := S512x512) ![64 * r8 c, 0] S64x512.size inb) (S := rows (r8 c)) (w := w) (Mk := Finset.univ) (f := f)
    (by rw [View.setOn_univ]; exact e.subset)
  have hag := write_agrees (Elt F) (oM.access (Rect.unit (s := S512x512) ![64 * r8 c, 0] S64x512.size inb)) f (OUT I c) w
    (fun x => by rw [hw]; exact (OUT_row I c inb x).symm)
  rw [e] at hag
  have e2 := Entails.of_eq (pointsTo_congr (ℓ := (c : Thread nD τ).loc cc0_stg4_0) (I := rows (r8 c)) (q := fullShare)
    (f := (oM.access (Rect.unit (s := S512x512) ![64 * r8 c, 0] S64x512.size inb)).write (Elt F) f w Finset.univ) (g := OUT I c) hag (Ix := Unit) (Name := ℕ) (U := UU) (Lvl := ℕ))
  exact h.trans (wand_mono_left (wand_mono_left e2))

end Cert.KernelIdeal.Hand
-- ==== Proof.Got.lean ====
/-
# What the waits hand over
-/
module

public import proofs.«01_k».proof.Proof.Mem

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F)

/-- A counter that one copy raises gives what that copy hands over. -/
theorem got_one (c : Dev nD) (j : Fin 42) (hj : 10 ≤ j.val) : got I c (cel j) = pay I j (org j c) := by
  unfold got; rw [cel_single j hj, bigSep_singleton]

/-- Contents that agree slot by slot. -/
theorem fill_agree {n A B : ℕ} {T : Type} (v w : Fin n → (Sh 1 A B).Idx → T) (s : Fin n) (h : v s = w s) : ∀ i ∈ sl n A B s, fill v i = fill w i := by
  intro i hi
  have h0 : i 0 = s := Fin.ext (mem_sl.mp hi)
  unfold fill
  rw [h0, h]

/-- What the entry wait hands over: the destinations of the transfers to the peers of the same `x` and `z`. -/
theorem got_0 (c : Dev nD) : got I c 0 ⊢ iprop(
    ((∃ f, sXg (tgt 14 c) 2 f) ∗ (∃ f, sCg (tgt 15 c) 2 f) ∗ (∃ f, sAc (tgt 16 c) 0 f))
    ∗ ((∃ f, sXg (tgt 12 c) 1 f) ∗ (∃ f, sCg (tgt 13 c) 1 f) ∗ (∃ f, sAc (tgt 17 c) 1 f))
    ∗ ((∃ f, sXg (tgt 10 c) 0 f) ∗ (∃ f, sCg (tgt 11 c) 0 f) ∗ (∃ f, sAc (tgt 18 c) 2 f))) := by
  unfold got
  rw [bigSep_eq_bigSepL_of_eq [(0 : Fin 42), 1, 2] (by decide +kernel) (by decide), bigSepL_cons_cons, bigSepL_cons_cons, bigSepL_singleton]
  exact .refl

/-- What the wait on the kernel's own semaphore hands over: device `c`'s rows of the result on the seven others. -/
theorem got_1 (c : Dev nD) : got I c 1 ⊢ iprop(
    (∃ f, sO (tgt 25 c) (r8 c) f) ∗ (∃ f, sO (tgt 24 c) (r8 c) f) ∗ (∃ f, sO (tgt 23 c) (r8 c) f) ∗ (∃ f, sO (tgt 22 c) (r8 c) f)
    ∗ (∃ f, sO (tgt 21 c) (r8 c) f) ∗ (∃ f, sO (tgt 20 c) (r8 c) f) ∗ (∃ f, sO (tgt 19 c) (r8 c) f)) := by
  unfold got
  rw [bigSep_eq_bigSepL_of_eq [(3 : Fin 42), 4, 5, 6, 7, 8, 9] (by decide +kernel) (by decide), bigSepL_cons_cons, bigSepL_cons_cons, bigSepL_cons_cons,
    bigSepL_cons_cons, bigSepL_cons_cons, bigSepL_cons_cons, bigSepL_singleton]
  have h : ∀ j : Fin 42, 3 ≤ j.val → j.val < 10 → pay I j (org j c) = iprop(∃ f, sO (org j c) (r8 c) f) := fun j h1 h2 => by
    unfold pay
    rw [if_neg (by omega), if_pos h2, tgt_org]
  rw [h 3 (by decide) (by decide), h 4 (by decide) (by decide), h 5 (by decide) (by decide), h 6 (by decide) (by decide), h 7 (by decide) (by decide),
    h 8 (by decide) (by decide), h 9 (by decide) (by decide)]
  exact .refl

/-! ## The arrivals -/

/-- The wait at counter 8 gives back slot 0 of the received rows, filled. -/
theorem got_8 (c : Dev nD) : got I c 8 = sXg c 0 (fill (XG I c)) := by
  rw [show (8 : Fin 34) = cel 10 by decide, got_one I c 10 (by decide), (pay_x I 0 10 (by decide) (org 10 c)).1, tgt_org]
  exact pointsTo_congr (fill_agree _ _ 0 rfl)
/-- The wait at counter 9 gives back slot 1 of the received rows, filled. -/
theorem got_9 (c : Dev nD) : got I c 9 = sXg c 1 (fill (XG I c)) := by
  rw [show (9 : Fin 34) = cel 12 by decide, got_one I c 12 (by decide), (pay_x I 1 12 (by decide) (org 12 c)).1, tgt_org]
  exact pointsTo_congr (fill_agree _ _ 1 rfl)
/-- The wait at counter 10 gives back slot 2 of the received rows, filled. -/
theorem got_10 (c : Dev nD) : got I c 10 = sXg c 2 (fill (XG I c)) := by
  rw [show (10 : Fin 34) = cel 14 by decide, got_one I c 14 (by decide), (pay_x I 2 14 (by decide) (org 14 c)).1, tgt_org]
  exact pointsTo_congr (fill_agree _ _ 2 rfl)
/-- The wait at counter 11 gives back slot 0 of the received codes, filled. -/
theorem got_11 (c : Dev nD) : got I c 11 = sCg c 0 (fill (CG I c)) := by
  rw [show (11 : Fin 34) = cel 11 by decide, got_one I c 11 (by decide), (pay_c I 0 11 (by decide) (org 11 c)).1, tgt_org]
  exact pointsTo_congr (fill_agree _ _ 0 rfl)
/-- The wait at counter 12 gives back slot 1 of the received codes, filled. -/
theorem got_12 (c : Dev nD) : got I c 12 = sCg c 1 (fill (CG I c)) := by
  rw [show (12 : Fin 34) = cel 13 by decide, got_one I c 13 (by decide), (pay_c I 1 13 (by decide) (org 13 c)).1, tgt_org]
  exact pointsTo_congr (fill_agree _ _ 1 rfl)
/-- The wait at counter 13 gives back slot 2 of the received codes, filled. -/
theorem got_13 (c : Dev nD) : got I c 13 = sCg c 2 (fill (CG I c)) := by
  rw [show (13 : Fin 34) = cel 15 by decide, got_one I c 15 (by decide), (pay_c I 2 15 (by decide) (org 15 c)).1, tgt_org]
  exact pointsTo_congr (fill_agree _ _ 2 rfl)
/-- The wait at counter 17 gives back slot 0 of the returned results, filled. -/
theorem got_17 (c : Dev nD) : got I c 17 = sAc c 0 (fill (AC I c)) := by
  rw [show (17 : Fin 34) = cel 16 by decide, got_one I c 16 (by decide), (pay_p I 0 16 (by decide) (org 16 c)).1, tgt_org]
  exact pointsTo_congr (fill_agree _ _ 0 rfl)
/-- The wait at counter 18 gives back slot 1 of the returned results, filled. -/
theorem got_18 (c : Dev nD) : got I c 18 = sAc c 1 (fill (AC I c)) := by
  rw [show (18 : Fin 34) = cel 17 by decide, got_one I c 17 (by decide), (pay_p I 1 17 (by decide) (org 17 c)).1, tgt_org]
  exact pointsTo_congr (fill_agree _ _ 1 rfl)
/-- The wait at counter 19 gives back slot 2 of the returned results, filled. -/
theorem got_19 (c : Dev nD) : got I c 19 = sAc c 2 (fill (AC I c)) := by
  rw [show (19 : Fin 34) = cel 18 by decide, got_one I c 18 (by decide), (pay_p I 2 18 (by decide) (org 18 c)).1, tgt_org]
  exact pointsTo_congr (fill_agree _ _ 2 rfl)
/-- The wait at counter 27 gives the rows of the device 7 further among the eight. -/
theorem got_27 (c : Dev nD) : got I c 27 = sO c (r8 (rq 7 c)) (OUT I c) := by
  rw [show (27 : Fin 34) = cel 19 by decide, got_one I c 19 (by decide), (pay_o I 0 19 (by decide) (org 19 c)).1, tgt_org,
    show org 19 c = rq (7 : Fin 8).val c from rfl, OUT_rq I 7 c]
  rfl
/-- The wait at counter 28 gives the rows of the device 6 further among the eight. -/
theorem got_28 (c : Dev nD) : got I c 28 = sO c (r8 (rq 6 c)) (OUT I c) := by
  rw [show (28 : Fin 34) = cel 20 by decide, got_one I c 20 (by decide), (pay_o I 1 20 (by decide) (org 20 c)).1, tgt_org,
    show org 20 c = rq (6 : Fin 8).val c from rfl, OUT_rq I 6 c]
  rfl
/-- The wait at counter 29 gives the rows of the device 5 further among the eight. -/
theorem got_29 (c : Dev nD) : got I c 29 = sO c (r8 (rq 5 c)) (OUT I c) := by
  rw [show (29 : Fin 34) = cel 21 by decide, got_one I c 21 (by decide), (pay_o I 2 21 (by decide) (org 21 c)).1, tgt_org,
    show org 21 c = rq (5 : Fin 8).val c from rfl, OUT_rq I 5 c]
  rfl
/-- The wait at counter 30 gives the rows of the device 4 further among the eight. -/
theorem got_30 (c : Dev nD) : got I c 30 = sO c (r8 (rq 4 c)) (OUT I c) := by
  rw [show (30 : Fin 34) = cel 22 by decide, got_one I c 22 (by decide), (pay_o I 3 22 (by decide) (org 22 c)).1, tgt_org,
    show org 22 c = rq (4 : Fin 8).val c from rfl, OUT_rq I 4 c]
  rfl
/-- The wait at counter 31 gives the rows of the device 3 further among the eight. -/
theorem got_31 (c : Dev nD) : got I c 31 = sO c (r8 (rq 3 c)) (OUT I c) := by
  rw [show (31 : Fin 34) = cel 23 by decide, got_one I c 23 (by decide), (pay_o I 4 23 (by decide) (org 23 c)).1, tgt_org,
    show org 23 c = rq (3 : Fin 8).val c from rfl, OUT_rq I 3 c]
  rfl
/-- The wait at counter 32 gives the rows of the device 2 further among the eight. -/
theorem got_32 (c : Dev nD) : got I c 32 = sO c (r8 (rq 2 c)) (OUT I c) := by
  rw [show (32 : Fin 34) = cel 24 by decide, got_one I c 24 (by decide), (pay_o I 5 24 (by decide) (org 24 c)).1, tgt_org,
    show org 24 c = rq (2 : Fin 8).val c from rfl, OUT_rq I 2 c]
  rfl
/-- The wait at counter 33 gives the rows of the device 1 further among the eight. -/
theorem got_33 (c : Dev nD) : got I c 33 = sO c (r8 (rq 1 c)) (OUT I c) := by
  rw [show (33 : Fin 34) = cel 25 by decide, got_one I c 25 (by decide), (pay_o I 6 25 (by decide) (org 25 c)).1, tgt_org,
    show org 25 c = rq (1 : Fin 8).val c from rfl, OUT_rq I 1 c]
  rfl

/-! ## The departures -/

/-- The wait at counter 2 gives back slot 0 of the packed rows that were sent. -/
theorem got_2 (c : Dev nD) : got I c 2 = sXs c 0 (fill (XS I c)) := by
  rw [show (2 : Fin 34) = cel (sd 10) by decide, got_one I c (sd 10) (by decide), org_sd 10 (by decide) (by decide) c, (pay_x I 0 10 (by decide) c).2]
/-- The wait at counter 3 gives back slot 1 of the packed rows that were sent. -/
theorem got_3 (c : Dev nD) : got I c 3 = sXs c 1 (fill (XS I c)) := by
  rw [show (3 : Fin 34) = cel (sd 12) by decide, got_one I c (sd 12) (by decide), org_sd 12 (by decide) (by decide) c, (pay_x I 1 12 (by decide) c).2]
/-- The wait at counter 4 gives back slot 2 of the packed rows that were sent. -/
theorem got_4 (c : Dev nD) : got I c 4 = sXs c 2 (fill (XS I c)) := by
  rw [show (4 : Fin 34) = cel (sd 14) by decide, got_one I c (sd 14) (by decide), org_sd 14 (by decide) (by decide) c, (pay_x I 2 14 (by decide) c).2]
/-- The wait at counter 5 gives back slot 0 of the packed codes that were sent. -/
theorem got_5 (c : Dev nD) : got I c 5 = sCs c 0 (fill (CS I c)) := by
  rw [show (5 : Fin 34) = cel (sd 11) by decide, got_one I c (sd 11) (by decide), org_sd 11 (by decide) (by decide) c, (pay_c I 0 11 (by decide) c).2]
/-- The wait at counter 6 gives back slot 1 of the packed codes that were sent. -/
theorem got_6 (c : Dev nD) : got I c 6 = sCs c 1 (fill (CS I c)) := by
  rw [show (6 : Fin 34) = cel (sd 13) by decide, got_one I c (sd 13) (by decide), org_sd 13 (by decide) (by decide) c, (pay_c I 1 13 (by decide) c).2]
/-- The wait at counter 7 gives back slot 2 of the packed codes that were sent. -/
theorem got_7 (c : Dev nD) : got I c 7 = sCs c 2 (fill (CS I c)) := by
  rw [show (7 : Fin 34) = cel (sd 15) by decide, got_one I c (sd 15) (by decide), org_sd 15 (by decide) (by decide) c, (pay_c I 2 15 (by decide) c).2]
/-- The wait at counter 14 gives back slot 0 of the partial results that were sent. -/
theorem got_14 (c : Dev nD) : got I c 14 = sPt c 0 (fill (PT I c)) := by
  rw [show (14 : Fin 34) = cel (sd 16) by decide, got_one I c (sd 16) (by decide), org_sd 16 (by decide) (by decide) c, (pay_p I 0 16 (by decide) c).2]
/-- The wait at counter 15 gives back slot 1 of the partial results that were sent. -/
theorem got_15 (c : Dev nD) : got I c 15 = sPt c 1 (fill (PT I c)) := by
  rw [show (15 : Fin 34) = cel (sd 17) by decide, got_one I c (sd 17) (by decide), org_sd 17 (by decide) (by decide) c, (pay_p I 1 17 (by decide) c).2]
/-- The wait at counter 16 gives back slot 2 of the partial results that were sent. -/
theorem got_16 (c : Dev nD) : got I c 16 = sPt c 2 (fill (PT I c)) := by
  rw [show (16 : Fin 34) = cel (sd 18) by decide, got_one I c (sd 18) (by decide), org_sd 18 (by decide) (by decide) c, (pay_p I 2 18 (by decide) c).2]
/-- The wait at counter 20 gives back share 0 of the device's own rows. -/
theorem got_20 (c : Dev nD) : got I c 20 = sOq c (r8 c) (Transfers.shareTok fullShare 7 0) (OUT I c) := by
  rw [show (20 : Fin 34) = cel (sd 19) by decide, got_one I c (sd 19) (by decide), org_sd 19 (by decide) (by decide) c, (pay_o I 0 19 (by decide) c).2]
/-- The wait at counter 21 gives back share 1 of the device's own rows. -/
theorem got_21 (c : Dev nD) : got I c 21 = sOq c (r8 c) (Transfers.shareTok fullShare 7 1) (OUT I c) := by
  rw [show (21 : Fin 34) = cel (sd 20) by decide, got_one I c (sd 20) (by decide), org_sd 20 (by decide) (by decide) c, (pay_o I 1 20 (by decide) c).2]
/-- The wait at counter 22 gives back share 2 of the device's own rows. -/
theorem got_22 (c : Dev nD) : got I c 22 = sOq c (r8 c) (Transfers.shareTok fullShare 7 2) (OUT I c) := by
  rw [show (22 : Fin 34) = cel (sd 21) by decide, got_one I c (sd 21) (by decide), org_sd 21 (by decide) (by decide) c, (pay_o I 2 21 (by decide) c).2]
/-- The wait at counter 23 gives back share 3 of the device's own rows. -/
theorem got_23 (c : Dev nD) : got I c 23 = sOq c (r8 c) (Transfers.shareTok fullShare 7 3) (OUT I c) := by
  rw [show (23 : Fin 34) = cel (sd 22) by decide, got_one I c (sd 22) (by decide), org_sd 22 (by decide) (by decide) c, (pay_o I 3 22 (by decide) c).2]
/-- The wait at counter 24 gives back share 4 of the device's own rows. -/
theorem got_24 (c : Dev nD) : got I c 24 = sOq c (r8 c) (Transfers.shareTok fullShare 7 4) (OUT I c) := by
  rw [show (24 : Fin 34) = cel (sd 23) by decide, got_one I c (sd 23) (by decide), org_sd 23 (by decide) (by decide) c, (pay_o I 4 23 (by decide) c).2]
/-- The wait at counter 25 gives back share 5 of the device's own rows. -/
theorem got_25 (c : Dev nD) : got I c 25 = sOq c (r8 c) (Transfers.shareTok fullShare 7 5) (OUT I c) := by
  rw [show (25 : Fin 34) = cel (sd 24) by decide, got_one I c (sd 24) (by decide), org_sd 24 (by decide) (by decide) c, (pay_o I 5 24 (by decide) c).2]
/-- The wait at counter 26 gives back share 6 of the device's own rows. -/
theorem got_26 (c : Dev nD) : got I c 26 = sOq c (r8 c) (Transfers.shareTok fullShare 7 6) (OUT I c) := by
  rw [show (26 : Fin 34) = cel (sd 25) by decide, got_one I c (sd 25) (by decide), org_sd 25 (by decide) (by decide) c, (pay_o I 6 25 (by decide) c).2]

end Cert.KernelIdeal.Hand
-- ==== Proof.Split.lean ====
/-
# Buffers cut into their slots and put together again
-/
module

public import proofs.«01_k».proof.Proof.Got

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F)

/-- Different slots have no element in common. -/
theorem sl_disj {n A B : ℕ} : ∀ b b' : Fin n, b ≠ b' → Disjoint (sl n A B b) (sl n A B b') := by
  intro b b' h
  rw [Finset.disjoint_left]
  intro i hi hi'
  exact h (Fin.ext ((mem_sl.mp hi).symm.trans (mem_sl.mp hi')))

/-- The slots cover the buffer. -/
theorem sl_cover {n A B : ℕ} : Finset.univ.biUnion (sl n A B) = Finset.univ := by
  ext i
  simp only [Finset.mem_biUnion, Finset.mem_univ, true_and, iff_true]
  exact ⟨i 0, mem_sl.mpr rfl⟩

/-- The buffer of packed rows, cut into its slots. -/
theorem split_xs (c : Dev nD) (f : FVec F S3x32x512 .f32) :
    (((c : Thread nD τ).loc cc0_scratch0) ↦{fullShare} f : sProp 𝕄) ⊢ iprop(sXs c 0 f ∗ sXs c 1 f ∗ sXs c 2 f) := by
  have h := Ring.pointsTo_blocks (ℓ := (c : Thread nD τ).loc cc0_scratch0) (Val := Elt F) (Ix := Unit) (Name := ℕ) (U := UU) (Lvl := ℕ) (sl 3 32 512) sl_disj sl_cover (q := fullShare) f
  rw [h, bigSep_univ_eq_bigSepL [(0 : Fin 3), 1, 2] (by decide) (by decide)]
  exact .refl
/-- The slots of the buffer of packed rows, joined. -/
theorem join_xs (c : Dev nD) (f₀ : FVec F S3x32x512 .f32) :
    iprop((∃ f, sXs (F := F) c 0 f) ∗ (∃ f, sXs (F := F) c 1 f) ∗ (∃ f, sXs (F := F) c 2 f)) ⊢ (iprop(∃ g : Buf (Elt F) ((c : Thread nD τ).loc cc0_scratch0), ((c : Thread nD τ).loc cc0_scratch0) ↦{fullShare} g) : sProp 𝕄) := by
  have h := Ring.pointsTo_blocks_join_exists (ℓ := (c : Thread nD τ).loc cc0_scratch0) (Val := Elt F) (Ix := Unit) (Name := ℕ) (U := UU) (Lvl := ℕ) (sl 3 32 512) sl_disj sl_cover (q := fullShare) f₀
  rw [bigSep_univ_eq_bigSepL [(0 : Fin 3), 1, 2] (by decide) (by decide)] at h
  exact h

/-- The buffer of packed codes, cut into its slots. -/
theorem split_cs (c : Dev nD) (f : FVec F S3x32x1 .f32) :
    (((c : Thread nD τ).loc cc0_scratch1) ↦{fullShare} f : sProp 𝕄) ⊢ iprop(sCs c 0 f ∗ sCs c 1 f ∗ sCs c 2 f) := by
  have h := Ring.pointsTo_blocks (ℓ := (c : Thread nD τ).loc cc0_scratch1) (Val := Elt F) (Ix := Unit) (Name := ℕ) (U := UU) (Lvl := ℕ) (sl 3 32 1) sl_disj sl_cover (q := fullShare) f
  rw [h, bigSep_univ_eq_bigSepL [(0 : Fin 3), 1, 2] (by decide) (by decide)]
  exact .refl
/-- The slots of the buffer of packed codes, joined. -/
theorem join_cs (c : Dev nD) (f₀ : FVec F S3x32x1 .f32) :
    iprop((∃ f, sCs (F := F) c 0 f) ∗ (∃ f, sCs (F := F) c 1 f) ∗ (∃ f, sCs (F := F) c 2 f)) ⊢ (iprop(∃ g : Buf (Elt F) ((c : Thread nD τ).loc cc0_scratch1), ((c : Thread nD τ).loc cc0_scratch1) ↦{fullShare} g) : sProp 𝕄) := by
  have h := Ring.pointsTo_blocks_join_exists (ℓ := (c : Thread nD τ).loc cc0_scratch1) (Val := Elt F) (Ix := Unit) (Name := ℕ) (U := UU) (Lvl := ℕ) (sl 3 32 1) sl_disj sl_cover (q := fullShare) f₀
  rw [bigSep_univ_eq_bigSepL [(0 : Fin 3), 1, 2] (by decide) (by decide)] at h
  exact h

/-- The buffer of received rows, cut into its slots. -/
theorem split_xg (c : Dev nD) (f : FVec F S3x32x512 .f32) :
    (((c : Thread nD τ).loc cc0_scratch2) ↦{fullShare} f : sProp 𝕄) ⊢ iprop(sXg c 0 f ∗ sXg c 1 f ∗ sXg c 2 f) := by
  have h := Ring.pointsTo_blocks (ℓ := (c : Thread nD τ).loc cc0_scratch2) (Val := Elt F) (Ix := Unit) (Name := ℕ) (U := UU) (Lvl := ℕ) (sl 3 32 512) sl_disj sl_cover (q := fullShare) f
  rw [h, bigSep_univ_eq_bigSepL [(0 : Fin 3), 1, 2] (by decide) (by decide)]
  exact .refl
/-- The slots of the buffer of received rows, joined. -/
theorem join_xg (c : Dev nD) (f₀ : FVec F S3x32x512 .f32) :
    iprop((∃ f, sXg (F := F) c 0 f) ∗ (∃ f, sXg (F := F) c 1 f) ∗ (∃ f, sXg (F := F) c 2 f)) ⊢ (iprop(∃ g : Buf (Elt F) ((c : Thread nD τ).loc cc0_scratch2), ((c : Thread nD τ).loc cc0_scratch2) ↦{fullShare} g) : sProp 𝕄) := by
  have h := Ring.pointsTo_blocks_join_exists (ℓ := (c : Thread nD τ).loc cc0_scratch2) (Val := Elt F) (Ix := Unit) (Name := ℕ) (U := UU) (Lvl := ℕ) (sl 3 32 512) sl_disj sl_cover (q := fullShare) f₀
  rw [bigSep_univ_eq_bigSepL [(0 : Fin 3), 1, 2] (by decide) (by decide)] at h
  exact h

/-- The buffer of received codes, cut into its slots. -/
theorem split_cg (c : Dev nD) (f : FVec F S3x32x1 .f32) :
    (((c : Thread nD τ).loc cc0_scratch3) ↦{fullShare} f : sProp 𝕄) ⊢ iprop(sCg c 0 f ∗ sCg c 1 f ∗ sCg c 2 f) := by
  have h := Ring.pointsTo_blocks (ℓ := (c : Thread nD τ).loc cc0_scratch3) (Val := Elt F) (Ix := Unit) (Name := ℕ) (U := UU) (Lvl := ℕ) (sl 3 32 1) sl_disj sl_cover (q := fullShare) f
  rw [h, bigSep_univ_eq_bigSepL [(0 : Fin 3), 1, 2] (by decide) (by decide)]
  exact .refl
/-- The slots of the buffer of received codes, joined. -/
theorem join_cg (c : Dev nD) (f₀ : FVec F S3x32x1 .f32) :
    iprop((∃ f, sCg (F := F) c 0 f) ∗ (∃ f, sCg (F := F) c 1 f) ∗ (∃ f, sCg (F := F) c 2 f)) ⊢ (iprop(∃ g : Buf (Elt F) ((c : Thread nD τ).loc cc0_scratch3), ((c : Thread nD τ).loc cc0_scratch3) ↦{fullShare} g) : sProp 𝕄) := by
  have h := Ring.pointsTo_blocks_join_exists (ℓ := (c : Thread nD τ).loc cc0_scratch3) (Val := Elt F) (Ix := Unit) (Name := ℕ) (U := UU) (Lvl := ℕ) (sl 3 32 1) sl_disj sl_cover (q := fullShare) f₀
  rw [bigSep_univ_eq_bigSepL [(0 : Fin 3), 1, 2] (by decide) (by decide)] at h
  exact h

/-- The buffer of returned results, cut into its slots. -/
theorem split_ac (c : Dev nD) (f : FVec F S3x32x512 .f32) :
    (((c : Thread nD τ).loc cc0_scratch4) ↦{fullShare} f : sProp 𝕄) ⊢ iprop(sAc c 0 f ∗ sAc c 1 f ∗ sAc c 2 f) := by
  have h := Ring.pointsTo_blocks (ℓ := (c : Thread nD τ).loc cc0_scratch4) (Val := Elt F) (Ix := Unit) (Name := ℕ) (U := UU) (Lvl := ℕ) (sl 3 32 512) sl_disj sl_cover (q := fullShare) f
  rw [h, bigSep_univ_eq_bigSepL [(0 : Fin 3), 1, 2] (by decide) (by decide)]
  exact .refl
/-- The slots of the buffer of returned results, joined. -/
theorem join_ac (c : Dev nD) (f₀ : FVec F S3x32x512 .f32) :
    iprop((∃ f, sAc (F := F) c 0 f) ∗ (∃ f, sAc (F := F) c 1 f) ∗ (∃ f, sAc (F := F) c 2 f)) ⊢ (iprop(∃ g : Buf (Elt F) ((c : Thread nD τ).loc cc0_scratch4), ((c : Thread nD τ).loc cc0_scratch4) ↦{fullShare} g) : sProp 𝕄) := by
  have h := Ring.pointsTo_blocks_join_exists (ℓ := (c : Thread nD τ).loc cc0_scratch4) (Val := Elt F) (Ix := Unit) (Name := ℕ) (U := UU) (Lvl := ℕ) (sl 3 32 512) sl_disj sl_cover (q := fullShare) f₀
  rw [bigSep_univ_eq_bigSepL [(0 : Fin 3), 1, 2] (by decide) (by decide)] at h
  exact h

/-- The buffer of partial results, cut into its slots. -/
theorem split_pt (c : Dev nD) (f : FVec F S3x32x512 .f32) :
    (((c : Thread nD τ).loc cc0_scratch5) ↦{fullShare} f : sProp 𝕄) ⊢ iprop(sPt c 0 f ∗ sPt c 1 f ∗ sPt c 2 f) := by
  have h := Ring.pointsTo_blocks (ℓ := (c : Thread nD τ).loc cc0_scratch5) (Val := Elt F) (Ix := Unit) (Name := ℕ) (U := UU) (Lvl := ℕ) (sl 3 32 512) sl_disj sl_cover (q := fullShare) f
  rw [h, bigSep_univ_eq_bigSepL [(0 : Fin 3), 1, 2] (by decide) (by decide)]
  exact .refl
/-- The slots of the buffer of partial results, joined. -/
theorem join_pt (c : Dev nD) (f₀ : FVec F S3x32x512 .f32) :
    iprop((∃ f, sPt (F := F) c 0 f) ∗ (∃ f, sPt (F := F) c 1 f) ∗ (∃ f, sPt (F := F) c 2 f)) ⊢ (iprop(∃ g : Buf (Elt F) ((c : Thread nD τ).loc cc0_scratch5), ((c : Thread nD τ).loc cc0_scratch5) ↦{fullShare} g) : sProp 𝕄) := by
  have h := Ring.pointsTo_blocks_join_exists (ℓ := (c : Thread nD τ).loc cc0_scratch5) (Val := Elt F) (Ix := Unit) (Name := ℕ) (U := UU) (Lvl := ℕ) (sl 3 32 512) sl_disj sl_cover (q := fullShare) f₀
  rw [bigSep_univ_eq_bigSepL [(0 : Fin 3), 1, 2] (by decide) (by decide)] at h
  exact h

/-- The buffer of picking matrices, cut into its slots. -/
theorem split_pm (c : Dev nD) (f : FVec F S4x64x32 .f32) :
    (((c : Thread nD τ).loc cc0_scratch6) ↦{fullShare} f : sProp 𝕄) ⊢ iprop(sPm c 0 f ∗ sPm c 1 f ∗ sPm c 2 f ∗ sPm c 3 f) := by
  have h := Ring.pointsTo_blocks (ℓ := (c : Thread nD τ).loc cc0_scratch6) (Val := Elt F) (Ix := Unit) (Name := ℕ) (U := UU) (Lvl := ℕ) (sl 4 64 32) sl_disj sl_cover (q := fullShare) f
  rw [h, bigSep_univ_eq_bigSepL [(0 : Fin 4), 1, 2, 3] (by decide) (by decide)]
  exact .refl
/-- The slots of the buffer of picking matrices, joined. -/
theorem join_pm (c : Dev nD) (f₀ : FVec F S4x64x32 .f32) :
    iprop((∃ f, sPm (F := F) c 0 f) ∗ (∃ f, sPm (F := F) c 1 f) ∗ (∃ f, sPm (F := F) c 2 f) ∗ (∃ f, sPm (F := F) c 3 f)) ⊢ (iprop(∃ g : Buf (Elt F) ((c : Thread nD τ).loc cc0_scratch6), ((c : Thread nD τ).loc cc0_scratch6) ↦{fullShare} g) : sProp 𝕄) := by
  have h := Ring.pointsTo_blocks_join_exists (ℓ := (c : Thread nD τ).loc cc0_scratch6) (Val := Elt F) (Ix := Unit) (Name := ℕ) (U := UU) (Lvl := ℕ) (sl 4 64 32) sl_disj sl_cover (q := fullShare) f₀
  rw [bigSep_univ_eq_bigSepL [(0 : Fin 4), 1, 2, 3] (by decide) (by decide)] at h
  exact h

/-! ## The result -/

/-- Different distances among the eight lead to different numbers. -/
theorem r8_rq : ∀ (c : Dev nD) (q q' : Fin 8), r8 (rq q.val c) = r8 (rq q'.val c) → q = q' := by decide +kernel
/-- Every number among the eight is reached. -/
theorem r8_onto : ∀ (c : Dev nD) (r : Fin 8), ∃ q : Fin 8, r8 (rq q.val c) = r.val := by decide +kernel

/-- The row blocks of different devices among the eight have no element in common. -/
theorem rows_disj (c : Dev nD) : ∀ q q' : Fin 8, q ≠ q' → Disjoint (rows (r8 (rq q.val c))) (rows (r8 (rq q'.val c))) := by
  intro q q' h
  rw [Finset.disjoint_left]
  intro i hi hi'
  exact h (r8_rq c q q' ((mem_rows.mp hi).symm.trans (mem_rows.mp hi')))

/-- The row blocks of the eight cover the result. -/
theorem rows_cover (c : Dev nD) : Finset.univ.biUnion (fun q : Fin 8 => rows (r8 (rq q.val c))) = Finset.univ := by
  ext i
  simp only [Finset.mem_biUnion, Finset.mem_univ, true_and, iff_true]
  have h0 : (i 0).val < 512 := (i 0).isLt
  obtain ⟨q, hq⟩ := r8_onto c ⟨(i 0).val / 64, by omega⟩
  exact ⟨q, mem_rows.mpr hq.symm⟩

/-- No step leads to the device itself. -/
theorem rq_0 : ∀ c : Dev nD, rq 0 c = c := by decide +kernel

/-- The result, cut into the device's own rows and those of the seven others. -/
theorem blocks_o (c : Dev nD) (f : FVec F S512x512 .f32) :
    (((c : Thread nD τ).loc cc0_stg4_0) ↦{fullShare} f : sProp 𝕄) = iprop(sO c (r8 c) f ∗ sO c (r8 (rq 1 c)) f ∗ sO c (r8 (rq 2 c)) f ∗ sO c (r8 (rq 3 c)) f
      ∗ sO c (r8 (rq 4 c)) f ∗ sO c (r8 (rq 5 c)) f ∗ sO c (r8 (rq 6 c)) f ∗ sO c (r8 (rq 7 c)) f) := by
  have h := Ring.pointsTo_blocks (ℓ := (c : Thread nD τ).loc cc0_stg4_0) (Val := Elt F) (Ix := Unit) (Name := ℕ) (U := UU) (Lvl := ℕ)
    (fun q : Fin 8 => rows (r8 (rq q.val c))) (rows_disj c) (rows_cover c) (q := fullShare) f
  rw [h, bigSep_univ_eq_bigSepL [(0 : Fin 8), 1, 2, 3, 4, 5, 6, 7] (by decide) (by decide)]
  refine Eq.trans ?_ (congrArg (fun d => iprop(sO c (r8 d) f ∗ sO c (r8 (rq 1 c)) f ∗ sO c (r8 (rq 2 c)) f ∗ sO c (r8 (rq 3 c)) f
      ∗ sO c (r8 (rq 4 c)) f ∗ sO c (r8 (rq 5 c)) f ∗ sO c (r8 (rq 6 c)) f ∗ sO c (r8 (rq 7 c)) f)) (rq_0 c))
  rfl

/-- The device's own rows, lent to the seven transfers that read them, -/
theorem split_os (c : Dev nD) (f : FVec F S512x512 .f32) : (sO c (r8 c) f : sProp 𝕄) ⊢ iprop(sOq c (r8 c) (Transfers.shareDrop fullShare 7) f
    ∗ sOq c (r8 c) (Transfers.shareTok fullShare 7 0) f ∗ sOq c (r8 c) (Transfers.shareTok fullShare 7 1) f ∗ sOq c (r8 c) (Transfers.shareTok fullShare 7 2) f
    ∗ sOq c (r8 c) (Transfers.shareTok fullShare 7 3) f ∗ sOq c (r8 c) (Transfers.shareTok fullShare 7 4) f ∗ sOq c (r8 c) (Transfers.shareTok fullShare 7 5) f
    ∗ sOq c (r8 c) (Transfers.shareTok fullShare 7 6) f) := by
  have h := Transfers.pointsTo_toks_split (ℓ := (c : Thread nD τ).loc cc0_stg4_0) (S := rows (r8 c)) (f := f) (Val := Elt F) (Ix := Unit) (Name := ℕ) (U := UU) (Lvl := ℕ) fullShare 7
  rw [bigSep_univ_eq_bigSepL [(0 : Fin 7), 1, 2, 3, 4, 5, 6] (by decide) (by decide)] at h
  exact h
/-- and given back. -/
theorem join_os (c : Dev nD) (f : FVec F S512x512 .f32) : iprop(sOq c (r8 c) (Transfers.shareDrop fullShare 7) f
    ∗ sOq c (r8 c) (Transfers.shareTok fullShare 7 0) f ∗ sOq c (r8 c) (Transfers.shareTok fullShare 7 1) f ∗ sOq c (r8 c) (Transfers.shareTok fullShare 7 2) f
    ∗ sOq c (r8 c) (Transfers.shareTok fullShare 7 3) f ∗ sOq c (r8 c) (Transfers.shareTok fullShare 7 4) f ∗ sOq c (r8 c) (Transfers.shareTok fullShare 7 5) f
    ∗ sOq c (r8 c) (Transfers.shareTok fullShare 7 6) f) ⊢ (sO c (r8 c) f : sProp 𝕄) := by
  have h := Transfers.pointsTo_toks_join (ℓ := (c : Thread nD τ).loc cc0_stg4_0) (S := rows (r8 c)) (f := f) (Val := Elt F) (Ix := Unit) (Name := ℕ) (U := UU) (Lvl := ℕ) fullShare 7
  rw [bigSep_univ_eq_bigSepL [(0 : Fin 7), 1, 2, 3, 4, 5, 6] (by decide) (by decide)] at h
  exact h

end Cert.KernelIdeal.Hand
-- ==== Proof.PartFacts.lean ====
/-
# The facts the parts of the body need
-/
module

public import proofs.«01_k».proof.Proof.Got

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F)

/-- A slot lies within its buffer. -/
theorem inb_sl {n A B : ℕ} (s : Fin n) : ∀ a, (![s.val, 0, 0] : Fin 3 → ℕ) a + (Sh 1 A B).size a ≤ (Sh n A B).size a := by
  intro a
  have h := s.isLt
  match a with
  | ⟨0, _⟩ => show s.val + 1 ≤ n; omega
  | ⟨1, _⟩ => show 0 + A ≤ A; omega
  | ⟨2, _⟩ => show 0 + B ≤ B; omega

/-- The slot `s` of an array. -/
def rd {n A B : ℕ} {T : Type} (f : (Sh n A B).Idx → T) (s : Fin n) : (Sh 1 A B).Idx → T := fun x => f ((rS s (inb_sl s)).idx x)

/-! ## The devices the program names -/

/-- The device named at the program's place 1 is the target of payment 0. -/
theorem dev1_tgt (c : Dev nD) : (⟨k0_dev1 c, k0_dev1_lt c⟩ : Dev nD) = tgt 0 c := by revert c; decide +kernel
/-- The device named at the program's place 2 is the target of payment 1. -/
theorem dev2_tgt (c : Dev nD) : (⟨k0_dev2 c, k0_dev2_lt c⟩ : Dev nD) = tgt 1 c := by revert c; decide +kernel
/-- The device named at the program's place 3 is the target of payment 2. -/
theorem dev3_tgt (c : Dev nD) : (⟨k0_dev3 c, k0_dev3_lt c⟩ : Dev nD) = tgt 2 c := by revert c; decide +kernel
/-- The device named at the program's place 4 is the target of payment 3. -/
theorem dev4_tgt (c : Dev nD) : (⟨k0_dev4 c, k0_dev4_lt c⟩ : Dev nD) = tgt 3 c := by revert c; decide +kernel
/-- The device named at the program's place 5 is the target of payment 4. -/
theorem dev5_tgt (c : Dev nD) : (⟨k0_dev5 c, k0_dev5_lt c⟩ : Dev nD) = tgt 4 c := by revert c; decide +kernel
/-- The device named at the program's place 6 is the target of payment 5. -/
theorem dev6_tgt (c : Dev nD) : (⟨k0_dev6 c, k0_dev6_lt c⟩ : Dev nD) = tgt 5 c := by revert c; decide +kernel
/-- The device named at the program's place 7 is the target of payment 6. -/
theorem dev7_tgt (c : Dev nD) : (⟨k0_dev7 c, k0_dev7_lt c⟩ : Dev nD) = tgt 6 c := by revert c; decide +kernel
/-- The device named at the program's place 8 is the target of payment 7. -/
theorem dev8_tgt (c : Dev nD) : (⟨k0_dev8 c, k0_dev8_lt c⟩ : Dev nD) = tgt 7 c := by revert c; decide +kernel
/-- The device named at the program's place 9 is the target of payment 8. -/
theorem dev9_tgt (c : Dev nD) : (⟨k0_dev9 c, k0_dev9_lt c⟩ : Dev nD) = tgt 8 c := by revert c; decide +kernel
/-- The device named at the program's place 10 is the target of payment 9. -/
theorem dev10_tgt (c : Dev nD) : (⟨k0_dev10 c, k0_dev10_lt c⟩ : Dev nD) = tgt 9 c := by revert c; decide +kernel
/-- The device named at the program's place 11 is the target of payment 10. -/
theorem dev11_tgt (c : Dev nD) : (⟨k0_dev11 c, k0_dev11_lt c⟩ : Dev nD) = tgt 10 c := by revert c; decide +kernel
/-- The device named at the program's place 12 is the target of payment 11. -/
theorem dev12_tgt (c : Dev nD) : (⟨k0_dev12 c, k0_dev12_lt c⟩ : Dev nD) = tgt 11 c := by revert c; decide +kernel
/-- The device named at the program's place 13 is the target of payment 12. -/
theorem dev13_tgt (c : Dev nD) : (⟨k0_dev13 c, k0_dev13_lt c⟩ : Dev nD) = tgt 12 c := by revert c; decide +kernel
/-- The device named at the program's place 14 is the target of payment 13. -/
theorem dev14_tgt (c : Dev nD) : (⟨k0_dev14 c, k0_dev14_lt c⟩ : Dev nD) = tgt 13 c := by revert c; decide +kernel
/-- The device named at the program's place 15 is the target of payment 14. -/
theorem dev15_tgt (c : Dev nD) : (⟨k0_dev15 c, k0_dev15_lt c⟩ : Dev nD) = tgt 14 c := by revert c; decide +kernel
/-- The device named at the program's place 16 is the target of payment 15. -/
theorem dev16_tgt (c : Dev nD) : (⟨k0_dev16 c, k0_dev16_lt c⟩ : Dev nD) = tgt 15 c := by revert c; decide +kernel
/-- The device named at the program's place 17 is the target of payment 16. -/
theorem dev17_tgt (c : Dev nD) : (⟨k0_dev17 c, k0_dev17_lt c⟩ : Dev nD) = tgt 16 c := by revert c; decide +kernel
/-- The device named at the program's place 18 is the target of payment 17. -/
theorem dev18_tgt (c : Dev nD) : (⟨k0_dev18 c, k0_dev18_lt c⟩ : Dev nD) = tgt 17 c := by revert c; decide +kernel
/-- The device named at the program's place 19 is the target of payment 18. -/
theorem dev19_tgt (c : Dev nD) : (⟨k0_dev19 c, k0_dev19_lt c⟩ : Dev nD) = tgt 18 c := by revert c; decide +kernel
/-- The device named at the program's place 20 is the target of payment 19. -/
theorem dev20_tgt (c : Dev nD) : (⟨k0_dev20 c, k0_dev20_lt c⟩ : Dev nD) = tgt 19 c := by revert c; decide +kernel
/-- The device named at the program's place 21 is the target of payment 20. -/
theorem dev21_tgt (c : Dev nD) : (⟨k0_dev21 c, k0_dev21_lt c⟩ : Dev nD) = tgt 20 c := by revert c; decide +kernel
/-- The device named at the program's place 22 is the target of payment 21. -/
theorem dev22_tgt (c : Dev nD) : (⟨k0_dev22 c, k0_dev22_lt c⟩ : Dev nD) = tgt 21 c := by revert c; decide +kernel
/-- The device named at the program's place 23 is the target of payment 22. -/
theorem dev23_tgt (c : Dev nD) : (⟨k0_dev23 c, k0_dev23_lt c⟩ : Dev nD) = tgt 22 c := by revert c; decide +kernel
/-- The device named at the program's place 24 is the target of payment 23. -/
theorem dev24_tgt (c : Dev nD) : (⟨k0_dev24 c, k0_dev24_lt c⟩ : Dev nD) = tgt 23 c := by revert c; decide +kernel
/-- The device named at the program's place 25 is the target of payment 24. -/
theorem dev25_tgt (c : Dev nD) : (⟨k0_dev25 c, k0_dev25_lt c⟩ : Dev nD) = tgt 24 c := by revert c; decide +kernel
/-- The device named at the program's place 26 is the target of payment 25. -/
theorem dev26_tgt (c : Dev nD) : (⟨k0_dev26 c, k0_dev26_lt c⟩ : Dev nD) = tgt 25 c := by revert c; decide +kernel

/-! ## What each wait of a transfer is for -/

/-- The counter of a copy's departure collects as many units as its arrival. -/
theorem amt_sd (j : Fin 42) (h1 : 10 ≤ j.val) (h2 : j.val < 26) : ex (cel (sd j)) = amt j :=
  (ex_cel (sd j) (iss_sd j h1 h2).2.2.1).trans (iss_sd j h1 h2).2.2.2

/-- The units that wait 1 asks for are those that its counter collects. -/
theorem ex_w1 : NX = ex (wc 1) := ((congrArg ex (show wc 1 = cel 10 by decide)).trans ((ex_cel 10 (by decide)).trans (amt_x 0 10 rfl))).symm
/-- The units that wait 2 asks for are those that its counter collects. -/
theorem ex_w2 : NC = ex (wc 2) := ((congrArg ex (show wc 2 = cel 11 by decide)).trans ((ex_cel 11 (by decide)).trans (amt_c 0 11 rfl))).symm
/-- The units that wait 3 asks for are those that its counter collects. -/
theorem ex_w3 : NX = ex (wc 3) := ((congrArg ex (show wc 3 = cel 12 by decide)).trans ((ex_cel 12 (by decide)).trans (amt_x 1 12 rfl))).symm
/-- The units that wait 4 asks for are those that its counter collects. -/
theorem ex_w4 : NC = ex (wc 4) := ((congrArg ex (show wc 4 = cel 13 by decide)).trans ((ex_cel 13 (by decide)).trans (amt_c 1 13 rfl))).symm
/-- The units that wait 5 asks for are those that its counter collects. -/
theorem ex_w5 : NX = ex (wc 5) := ((congrArg ex (show wc 5 = cel 14 by decide)).trans ((ex_cel 14 (by decide)).trans (amt_x 2 14 rfl))).symm
/-- The units that wait 6 asks for are those that its counter collects. -/
theorem ex_w6 : NC = ex (wc 6) := ((congrArg ex (show wc 6 = cel 15 by decide)).trans ((ex_cel 15 (by decide)).trans (amt_c 2 15 rfl))).symm
/-- The units that wait 7 asks for are those that its counter collects. -/
theorem ex_w7 : NX = ex (wc 7) := ((congrArg ex (show wc 7 = cel 16 by decide)).trans ((ex_cel 16 (by decide)).trans (amt_p 0 16 rfl))).symm
/-- The units that wait 8 asks for are those that its counter collects. -/
theorem ex_w8 : NX = ex (wc 8) := ((congrArg ex (show wc 8 = cel 17 by decide)).trans ((ex_cel 17 (by decide)).trans (amt_p 1 17 rfl))).symm
/-- The units that wait 9 asks for are those that its counter collects. -/
theorem ex_w9 : NX = ex (wc 9) := ((congrArg ex (show wc 9 = cel 18 by decide)).trans ((ex_cel 18 (by decide)).trans (amt_p 2 18 rfl))).symm
/-- The units that wait 11 asks for are those that its counter collects. -/
theorem ex_w11 : NO = ex (wc 11) := ((congrArg ex (show wc 11 = cel 19 by decide)).trans ((ex_cel 19 (by decide)).trans (amt_o 0 19 rfl))).symm
/-- The units that wait 12 asks for are those that its counter collects. -/
theorem ex_w12 : NO = ex (wc 12) := ((congrArg ex (show wc 12 = cel 20 by decide)).trans ((ex_cel 20 (by decide)).trans (amt_o 1 20 rfl))).symm
/-- The units that wait 13 asks for are those that its counter collects. -/
theorem ex_w13 : NO = ex (wc 13) := ((congrArg ex (show wc 13 = cel 21 by decide)).trans ((ex_cel 21 (by decide)).trans (amt_o 2 21 rfl))).symm
/-- The units that wait 14 asks for are those that its counter collects. -/
theorem ex_w14 : NO = ex (wc 14) := ((congrArg ex (show wc 14 = cel 22 by decide)).trans ((ex_cel 22 (by decide)).trans (amt_o 3 22 rfl))).symm
/-- The units that wait 15 asks for are those that its counter collects. -/
theorem ex_w15 : NO = ex (wc 15) := ((congrArg ex (show wc 15 = cel 23 by decide)).trans ((ex_cel 23 (by decide)).trans (amt_o 4 23 rfl))).symm
/-- The units that wait 16 asks for are those that its counter collects. -/
theorem ex_w16 : NO = ex (wc 16) := ((congrArg ex (show wc 16 = cel 24 by decide)).trans ((ex_cel 24 (by decide)).trans (amt_o 5 24 rfl))).symm
/-- The units that wait 17 asks for are those that its counter collects. -/
theorem ex_w17 : NO = ex (wc 17) := ((congrArg ex (show wc 17 = cel 25 by decide)).trans ((ex_cel 25 (by decide)).trans (amt_o 6 25 rfl))).symm
/-- The units that wait 18 asks for are those that its counter collects. -/
theorem ex_w18 : NX = ex (wc 18) := ((congrArg ex (show wc 18 = cel (sd 10) by decide)).trans ((amt_sd 10 (by decide) (by decide)).trans (amt_x 0 10 rfl))).symm
/-- The units that wait 19 asks for are those that its counter collects. -/
theorem ex_w19 : NC = ex (wc 19) := ((congrArg ex (show wc 19 = cel (sd 11) by decide)).trans ((amt_sd 11 (by decide) (by decide)).trans (amt_c 0 11 rfl))).symm
/-- The units that wait 20 asks for are those that its counter collects. -/
theorem ex_w20 : NX = ex (wc 20) := ((congrArg ex (show wc 20 = cel (sd 16) by decide)).trans ((amt_sd 16 (by decide) (by decide)).trans (amt_p 0 16 rfl))).symm
/-- The units that wait 21 asks for are those that its counter collects. -/
theorem ex_w21 : NX = ex (wc 21) := ((congrArg ex (show wc 21 = cel (sd 12) by decide)).trans ((amt_sd 12 (by decide) (by decide)).trans (amt_x 1 12 rfl))).symm
/-- The units that wait 22 asks for are those that its counter collects. -/
theorem ex_w22 : NC = ex (wc 22) := ((congrArg ex (show wc 22 = cel (sd 13) by decide)).trans ((amt_sd 13 (by decide) (by decide)).trans (amt_c 1 13 rfl))).symm
/-- The units that wait 23 asks for are those that its counter collects. -/
theorem ex_w23 : NX = ex (wc 23) := ((congrArg ex (show wc 23 = cel (sd 17) by decide)).trans ((amt_sd 17 (by decide) (by decide)).trans (amt_p 1 17 rfl))).symm
/-- The units that wait 24 asks for are those that its counter collects. -/
theorem ex_w24 : NX = ex (wc 24) := ((congrArg ex (show wc 24 = cel (sd 14) by decide)).trans ((amt_sd 14 (by decide) (by decide)).trans (amt_x 2 14 rfl))).symm
/-- The units that wait 25 asks for are those that its counter collects. -/
theorem ex_w25 : NC = ex (wc 25) := ((congrArg ex (show wc 25 = cel (sd 15) by decide)).trans ((amt_sd 15 (by decide) (by decide)).trans (amt_c 2 15 rfl))).symm
/-- The units that wait 26 asks for are those that its counter collects. -/
theorem ex_w26 : NX = ex (wc 26) := ((congrArg ex (show wc 26 = cel (sd 18) by decide)).trans ((amt_sd 18 (by decide) (by decide)).trans (amt_p 2 18 rfl))).symm
/-- The units that wait 27 asks for are those that its counter collects. -/
theorem ex_w27 : NO = ex (wc 27) := ((congrArg ex (show wc 27 = cel (sd 19) by decide)).trans ((amt_sd 19 (by decide) (by decide)).trans (amt_o 0 19 rfl))).symm
/-- The units that wait 28 asks for are those that its counter collects. -/
theorem ex_w28 : NO = ex (wc 28) := ((congrArg ex (show wc 28 = cel (sd 20) by decide)).trans ((amt_sd 20 (by decide) (by decide)).trans (amt_o 1 20 rfl))).symm
/-- The units that wait 29 asks for are those that its counter collects. -/
theorem ex_w29 : NO = ex (wc 29) := ((congrArg ex (show wc 29 = cel (sd 21) by decide)).trans ((amt_sd 21 (by decide) (by decide)).trans (amt_o 2 21 rfl))).symm
/-- The units that wait 30 asks for are those that its counter collects. -/
theorem ex_w30 : NO = ex (wc 30) := ((congrArg ex (show wc 30 = cel (sd 22) by decide)).trans ((amt_sd 22 (by decide) (by decide)).trans (amt_o 3 22 rfl))).symm
/-- The units that wait 31 asks for are those that its counter collects. -/
theorem ex_w31 : NO = ex (wc 31) := ((congrArg ex (show wc 31 = cel (sd 23) by decide)).trans ((amt_sd 23 (by decide) (by decide)).trans (amt_o 4 23 rfl))).symm
/-- The units that wait 32 asks for are those that its counter collects. -/
theorem ex_w32 : NO = ex (wc 32) := ((congrArg ex (show wc 32 = cel (sd 24) by decide)).trans ((amt_sd 24 (by decide) (by decide)).trans (amt_o 5 24 rfl))).symm
/-- The units that wait 33 asks for are those that its counter collects. -/
theorem ex_w33 : NO = ex (wc 33) := ((congrArg ex (show wc 33 = cel (sd 25) by decide)).trans ((amt_sd 25 (by decide) (by decide)).trans (amt_o 6 25 rfl))).symm

end Cert.KernelIdeal.Hand
-- ==== Proof.Parts1.lean ====
/-
# The parts of the body: the signals
-/
module

public import proofs.«01_k».proof.Proof.PartFacts

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F)

set_option maxRecDepth 65536 in
/-- Part 1 of the body. -/
theorem part_1 {Kt : (Σ' (d0 : Dev nD) (v2 : BitVec 32) (v5 : BitVec 32) (v8 : BitVec 32) (v10 : BitVec 32) (v12 : IVec S64 32) (v38 : IVec S64 32), BitVec 32) → sProp 𝕄} (c : Dev nD)   :
    iprop(St I c 0 0 ∗ hA I c)
      ⊢ iprop((∀ v2 : BitVec 32, ∀ v5 : BitVec 32, ∀ v8 : BitVec 32, ∀ v10 : BitVec 32, (St I c 0 0 ∗ hA I c) -∗ Kt ⟨c, v2, v5, v8, v10, (k0_pay1 (I c).A), (k0_pay2 c (I c).A), four⟩)
          -∗ wp frame (wpE (defs₀ (F := F)) 𝒱₀ (c : Thread nD τ) none) Set.univ
            (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 ) Kt) := by
  unfold four
  rw [k0_part1_eq_skeleton]; unfold k0_part1_skel
  simp only [Prog.lift, Prog.bind_op, Prog.bind_ret, Prog.pure_eq_ret, wp_deviceId, semSignalWord, semWaitWord]
  iintro ⟨HSt, HhA⟩ Hk
  iapply (ld_a I c) $$ HhA; iintro HhA
  rw [wp_ret]; imodintro
  iapply Hk
  isplitl [HSt]; · iexact HSt
  iexact HhA

set_option maxRecDepth 65536 in
/-- Part 2 of the body. -/
theorem part_2 {Kt : (Σ' (v56 : FVec F S64x1 .f32) (v58 : FVec F S1x64 .f32) (v78 : FVec F S64x1 .f32) (v79 : Sems sig S_) (v82 : BitVec 32) (v83 : BitVec 32) (v84 : BitVec 1), BitVec 32) → sProp 𝕄} (c : Dev nD)  (v5 : BitVec 32) :
    iprop(St I c 0 0)
      ⊢ iprop((∀ v82 : BitVec 32, ∀ v83 : BitVec 32, ∀ v84 : BitVec 1, ∀ c0_i32_27 : BitVec 32, (St I c 0 0) -∗ Kt ⟨(slotC I c), (slotR I c), (expC I c), (SemArray.scalar (sig.barrier 0 rfl)), v82, v83, v84, c0_i32_27⟩)
          -∗ wp frame (wpE (defs₀ (F := F)) 𝒱₀ (c : Thread nD τ) none) Set.univ
            (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 v5 ((k0_pay1 (I c).A)) ((k0_pay2 c (I c).A)) (four)) Kt) := by
  unfold slotC slotR expC
  rw [k0_part2_eq_skeleton]; unfold k0_part2_skel
  simp only [Prog.lift, Prog.bind_op, Prog.bind_ret, Prog.pure_eq_ret, wp_deviceId, semSignalWord, semWaitWord]
  iintro HSt Hk
  rw [wp_ret]; imodintro
  iapply Hk
  iexact HSt

set_option maxRecDepth 65536 in
/-- Part 3 of the body. -/
theorem part_3 {Kt : (Σ' (v116 : BitVec 32) (v117 : BitVec 32) (v118 : BitVec 1), BitVec 32) → sProp 𝕄} (c : Dev nD)  (v2 : BitVec 32) (v5 : BitVec 32) (v8 : BitVec 32) (v82 : BitVec 32) (v83 : BitVec 32) (v84 : BitVec 1) (c0_i32_27 : BitVec 32) :
    iprop(St I c 0 0 ∗ pay I 0 c ∗ pay I 1 c)
      ⊢ iprop((∀ v116 : BitVec 32, ∀ v117 : BitVec 32, ∀ v118 : BitVec 1, ∀ c0_i32_50 : BitVec 32, (St I c 2 0) -∗ Kt ⟨v116, v117, v118, c0_i32_50⟩)
          -∗ wp frame (wpE (defs₀ (F := F)) 𝒱₀ (c : Thread nD τ) none) Set.univ
            (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 (c) v2 v5 v8 ((SemArray.scalar (sig.barrier 0 rfl))) v82 v83 v84 c0_i32_27) Kt) := by
  rw [k0_part3_eq_skeleton]; unfold k0_part3_skel
  simp only [Prog.lift, Prog.bind_op, Prog.bind_ret, Prog.pure_eq_ret, wp_deviceId, semSignalWord, semWaitWord]
  iintro ⟨HSt, Hpay0, Hpay1⟩ Hk
  iapply (wp_sig I c 0 (by decide) 0 (dev1_tgt c) (by decide) rfl) $$ [HSt Hpay0]
  · isplitl [HSt]; · iexact HSt
    iexact Hpay0
  iintro HSt
  iapply (wp_sig I c 1 (by decide) 0 (dev2_tgt c) (by decide) rfl) $$ [HSt Hpay1]
  · isplitl [HSt]; · iexact HSt
    iexact Hpay1
  iintro HSt
  rw [wp_ret]; imodintro
  iapply Hk
  iexact HSt

set_option maxRecDepth 65536 in
/-- Part 4 of the body. -/
theorem part_4 {Kt : (Σ' (v141 : BitVec 32) (v142 : BitVec 32) (v156 : BitVec 1), BitVec 32) → sProp 𝕄} (c : Dev nD)  (v2 : BitVec 32) (v8 : BitVec 32) (v10 : BitVec 32) (v116 : BitVec 32) (v117 : BitVec 32) (v118 : BitVec 1) (c0_i32_50 : BitVec 32) :
    iprop(St I c 2 0 ∗ pay I 2 c)
      ⊢ iprop((∀ v141 : BitVec 32, ∀ v142 : BitVec 32, ∀ v156 : BitVec 1, ∀ v157 : BitVec 32, (St I c 3 0) -∗ Kt ⟨v141, v142, v156, v157⟩)
          -∗ wp frame (wpE (defs₀ (F := F)) 𝒱₀ (c : Thread nD τ) none) Set.univ
            (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 (c) v2 v8 v10 ((SemArray.scalar (sig.barrier 0 rfl))) v116 v117 v118 c0_i32_50) Kt) := by
  rw [k0_part4_eq_skeleton]; unfold k0_part4_skel
  simp only [Prog.lift, Prog.bind_op, Prog.bind_ret, Prog.pure_eq_ret, wp_deviceId, semSignalWord, semWaitWord]
  iintro ⟨HSt, Hpay2⟩ Hk
  iapply (wp_sig I c 2 (by decide) 0 (dev3_tgt c) (by decide) rfl) $$ [HSt Hpay2]
  · isplitl [HSt]; · iexact HSt
    iexact Hpay2
  iintro HSt
  rw [wp_ret]; imodintro
  iapply Hk
  iexact HSt

set_option maxRecDepth 65536 in
/-- Part 5 of the body. -/
theorem part_5 {Kt : (Σ' (v185 : BitVec 32) (c4_i32_88 : BitVec 32) (v186 : BitVec 32) (v191 : BitVec 32) (v193 : BitVec 32), BitVec 32) → sProp 𝕄} (c : Dev nD)  (v5 : BitVec 32) (v10 : BitVec 32) (v141 : BitVec 32) (v142 : BitVec 32) (v156 : BitVec 1) (v157 : BitVec 32) :
    iprop(St I c 3 0 ∗ pay I 3 c)
      ⊢ iprop((∀ v185 : BitVec 32, ∀ c4_i32_88 : BitVec 32, ∀ v186 : BitVec 32, ∀ v191 : BitVec 32, ∀ v193 : BitVec 32, ∀ c0_i32_92 : BitVec 32, (St I c 4 0) -∗ Kt ⟨v185, c4_i32_88, v186, v191, v193, c0_i32_92⟩)
          -∗ wp frame (wpE (defs₀ (F := F)) 𝒱₀ (c : Thread nD τ) none) Set.univ
            (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 (c) v5 v10 v141 v142 v156 v157) Kt) := by
  rw [k0_part5_eq_skeleton]; unfold k0_part5_skel
  simp only [Prog.lift, Prog.bind_op, Prog.bind_ret, Prog.pure_eq_ret, wp_deviceId, semSignalWord, semWaitWord]
  iintro ⟨HSt, Hpay3⟩ Hk
  iapply (wp_sig I c 3 (by decide) 0 (dev4_tgt c) (by decide) rfl) $$ [HSt Hpay3]
  · isplitl [HSt]; · iexact HSt
    iexact Hpay3
  iintro HSt
  rw [wp_ret]; imodintro
  iapply Hk
  iexact HSt

set_option maxRecDepth 65536 in
/-- Part 6 of the body. -/
theorem part_6 {Kt : (Σ' (v229 : BitVec 32) (c4_i32_113 : BitVec 32) (v230 : BitVec 32), BitVec 32) → sProp 𝕄} (c : Dev nD)  (v5 : BitVec 32) (v10 : BitVec 32) (v185 : BitVec 32) (c4_i32_88 : BitVec 32) (v186 : BitVec 32) (v191 : BitVec 32) (v193 : BitVec 32) (c0_i32_92 : BitVec 32) :
    iprop(St I c 4 0 ∗ pay I 4 c)
      ⊢ iprop((∀ v229 : BitVec 32, ∀ c4_i32_113 : BitVec 32, ∀ v230 : BitVec 32, ∀ c0_i32_114 : BitVec 32, (St I c 5 0) -∗ Kt ⟨v229, c4_i32_113, v230, c0_i32_114⟩)
          -∗ wp frame (wpE (defs₀ (F := F)) 𝒱₀ (c : Thread nD τ) none) Set.univ
            (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 (c) v5 v10 v185 c4_i32_88 v186 v191 v193 c0_i32_92) Kt) := by
  rw [k0_part6_eq_skeleton]; unfold k0_part6_skel
  simp only [Prog.lift, Prog.bind_op, Prog.bind_ret, Prog.pure_eq_ret, wp_deviceId, semSignalWord, semWaitWord]
  iintro ⟨HSt, Hpay4⟩ Hk
  iapply (wp_sig I c 4 (by decide) 0 (dev5_tgt c) (by decide) rfl) $$ [HSt Hpay4]
  · isplitl [HSt]; · iexact HSt
    iexact Hpay4
  iintro HSt
  rw [wp_ret]; imodintro
  iapply Hk
  iexact HSt

set_option maxRecDepth 65536 in
/-- Part 7 of the body. -/
theorem part_7 {Kt : (Σ' (v265 : BitVec 32) (v266 : BitVec 32) (v267 : BitVec 1), BitVec 32) → sProp 𝕄} (c : Dev nD)  (v5 : BitVec 32) (v10 : BitVec 32) (v229 : BitVec 32) (c4_i32_113 : BitVec 32) (v230 : BitVec 32) (c0_i32_114 : BitVec 32) :
    iprop(St I c 5 0 ∗ pay I 5 c)
      ⊢ iprop((∀ v265 : BitVec 32, ∀ v266 : BitVec 32, ∀ v267 : BitVec 1, ∀ c0_i32_136 : BitVec 32, (St I c 6 0) -∗ Kt ⟨v265, v266, v267, c0_i32_136⟩)
          -∗ wp frame (wpE (defs₀ (F := F)) 𝒱₀ (c : Thread nD τ) none) Set.univ
            (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 (c) v5 v10 v229 c4_i32_113 v230 c0_i32_114) Kt) := by
  rw [k0_part7_eq_skeleton]; unfold k0_part7_skel
  simp only [Prog.lift, Prog.bind_op, Prog.bind_ret, Prog.pure_eq_ret, wp_deviceId, semSignalWord, semWaitWord]
  iintro ⟨HSt, Hpay5⟩ Hk
  iapply (wp_sig I c 5 (by decide) 0 (dev6_tgt c) (by decide) rfl) $$ [HSt Hpay5]
  · isplitl [HSt]; · iexact HSt
    iexact Hpay5
  iintro HSt
  rw [wp_ret]; imodintro
  iapply Hk
  iexact HSt

set_option maxRecDepth 65536 in
/-- Part 8 of the body. -/
theorem part_8 {Kt : (BitVec 32) → sProp 𝕄} (c : Dev nD)  (v5 : BitVec 32) (v265 : BitVec 32) (v266 : BitVec 32) (v267 : BitVec 1) (c0_i32_136 : BitVec 32) :
    iprop(St I c 6 0 ∗ pay I 6 c)
      ⊢ iprop((∀ c5_i32 : BitVec 32, (St I c 7 0) -∗ Kt c5_i32)
          -∗ wp frame (wpE (defs₀ (F := F)) 𝒱₀ (c : Thread nD τ) none) Set.univ
            (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 (c) v5 v265 v266 v267 c0_i32_136) Kt) := by
  rw [k0_part8_eq_skeleton]; unfold k0_part8_skel
  simp only [Prog.lift, Prog.bind_op, Prog.bind_ret, Prog.pure_eq_ret, wp_deviceId, semSignalWord, semWaitWord]
  iintro ⟨HSt, Hpay6⟩ Hk
  iapply (wp_sig I c 6 (by decide) 0 (dev7_tgt c) (by decide) rfl) $$ [HSt Hpay6]
  · isplitl [HSt]; · iexact HSt
    iexact Hpay6
  iintro HSt
  rw [wp_ret]; imodintro
  iapply Hk
  iexact HSt

set_option maxRecDepth 65536 in
/-- Part 9 of the body. -/
theorem part_9 {Kt : (Σ' (v344 : BitVec 32), BitVec 32) → sProp 𝕄} (c : Dev nD)  (v10 : BitVec 32) (c5_i32 : BitVec 32) :
    iprop(St I c 7 0)
      ⊢ iprop((∀ v344 : BitVec 32, ∀ v345 : BitVec 32, (St I c 7 0) -∗ Kt ⟨v344, v345⟩)
          -∗ wp frame (wpE (defs₀ (F := F)) 𝒱₀ (c : Thread nD τ) none) Set.univ
            (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 v10 c5_i32) Kt) := by
  rw [k0_part9_eq_skeleton]; unfold k0_part9_skel
  simp only [Prog.lift, Prog.bind_op, Prog.bind_ret, Prog.pure_eq_ret, wp_deviceId, semSignalWord, semWaitWord]
  iintro HSt Hk
  rw [wp_ret]; imodintro
  iapply Hk
  iexact HSt

set_option maxRecDepth 65536 in
/-- Part 10 of the body. -/
theorem part_10 {Kt : (Σ' (v378 : BitVec 32) (v380 : BitVec 32) (v381 : BitVec 32) (v382 : BitVec 1), BitVec 32) → sProp 𝕄} (c : Dev nD)  (v5 : BitVec 32) (v10 : BitVec 32) (v344 : BitVec 32) (v345 : BitVec 32) :
    iprop(St I c 7 0 ∗ pay I 7 c)
      ⊢ iprop((∀ v378 : BitVec 32, ∀ v380 : BitVec 32, ∀ v381 : BitVec 32, ∀ v382 : BitVec 1, ∀ c0_i32_197 : BitVec 32, (St I c 8 0) -∗ Kt ⟨v378, v380, v381, v382, c0_i32_197⟩)
          -∗ wp frame (wpE (defs₀ (F := F)) 𝒱₀ (c : Thread nD τ) none) Set.univ
            (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 (c) v5 v10 v344 v345) Kt) := by
  rw [k0_part10_eq_skeleton]; unfold k0_part10_skel
  simp only [Prog.lift, Prog.bind_op, Prog.bind_ret, Prog.pure_eq_ret, wp_deviceId, semSignalWord, semWaitWord]
  iintro ⟨HSt, Hpay7⟩ Hk
  iapply (wp_sig I c 7 (by decide) 0 (dev8_tgt c) (by decide) rfl) $$ [HSt Hpay7]
  · isplitl [HSt]; · iexact HSt
    iexact Hpay7
  iintro HSt
  rw [wp_ret]; imodintro
  iapply Hk
  iexact HSt

set_option maxRecDepth 65536 in
/-- Part 11 of the body. -/
theorem part_11 {Kt : (Σ' (v405 : BitVec 32) (v406 : BitVec 32) (v420 : BitVec 1), BitVec 32) → sProp 𝕄} (c : Dev nD)  (v5 : BitVec 32) (v10 : BitVec 32) (v378 : BitVec 32) (v380 : BitVec 32) (v381 : BitVec 32) (v382 : BitVec 1) (c0_i32_197 : BitVec 32) :
    iprop(St I c 8 0 ∗ pay I 8 c)
      ⊢ iprop((∀ v405 : BitVec 32, ∀ v406 : BitVec 32, ∀ v420 : BitVec 1, ∀ v421 : BitVec 32, (St I c 9 0) -∗ Kt ⟨v405, v406, v420, v421⟩)
          -∗ wp frame (wpE (defs₀ (F := F)) 𝒱₀ (c : Thread nD τ) none) Set.univ
            (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 (c) v5 v10 v378 v380 v381 v382 c0_i32_197) Kt) := by
  rw [k0_part11_eq_skeleton]; unfold k0_part11_skel
  simp only [Prog.lift, Prog.bind_op, Prog.bind_ret, Prog.pure_eq_ret, wp_deviceId, semSignalWord, semWaitWord]
  iintro ⟨HSt, Hpay8⟩ Hk
  iapply (wp_sig I c 8 (by decide) 0 (dev9_tgt c) (by decide) rfl) $$ [HSt Hpay8]
  · isplitl [HSt]; · iexact HSt
    iexact Hpay8
  iintro HSt
  rw [wp_ret]; imodintro
  iapply Hk
  iexact HSt

set_option maxRecDepth 65536 in
/-- Part 12 of the body. -/
theorem part_12 {Kt : (Σ' (v457 : FVec F S1x64 .f32), FVec F S32x64 .f32) → sProp 𝕄} (c : Dev nD)  (v5 : BitVec 32) (v405 : BitVec 32) (v406 : BitVec 32) (v420 : BitVec 1) (v421 : BitVec 32) :
    iprop(St I c 9 0 ∗ pay I 9 c)
      ⊢ iprop(((St I c 10 1 ∗ got I c 0) -∗ Kt ⟨(k0_pay7 (slotR I c)), (k0_pay8 (F := F))⟩)
          -∗ wp frame (wpE (defs₀ (F := F)) 𝒱₀ (c : Thread nD τ) none) Set.univ
            (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 (c) v5 ((slotR I c)) ((SemArray.scalar (sig.barrier 0 rfl))) v405 v406 v420 v421) Kt) := by
  rw [k0_part12_eq_skeleton]; unfold k0_part12_skel
  simp only [Prog.lift, Prog.bind_op, Prog.bind_ret, Prog.pure_eq_ret, wp_deviceId, semSignalWord, semWaitWord]
  iintro ⟨HSt, Hpay9⟩ Hk
  iapply (wp_sig I c 9 (by decide) 0 (dev10_tgt c) (by decide) rfl) $$ [HSt Hpay9]
  · isplitl [HSt]; · iexact HSt
    iexact Hpay9
  iintro HSt
  iapply (wp_wt I c 10 0 (by decide) (by decide +kernel) (sm := SemLoc.reg _) (k' := 3) (by decide) (by decide) (wpE_semWait_eq 𝒱₀ (c : Thread nD τ) none Set.univ)) $$ [HSt]
  · iexact HSt
  iintro ⟨HSt, Hgot0⟩
  ihave Hgot0 := (Entails.of_eq (congrArg (got I c) (show wc 0 = 0 by decide))) $$ Hgot0
  rw [wp_ret]; imodintro
  iapply Hk
  isplitl [HSt]; · iexact HSt
  iexact Hgot0

end Cert.KernelIdeal.Hand
-- ==== Proof.Parts2.lean ====
/-
# The parts of the body: the rows gathered and sent
-/
module

public import proofs.«01_k».proof.Proof.PartFacts

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F)

set_option maxRecDepth 65536 in
/-- Part 13 of the body. -/
theorem part_13 {Kt : (Σ' (v489 : FVec F S32x64 .f32), FVec F S32x512 .f32) → sProp 𝕄} (c : Dev nD) (f_xs0 : FVec F S3x32x512 .f32) (f_cs0 : FVec F S3x32x1 .f32) (f_xs1 : FVec F S3x32x512 .f32)  :
    iprop(St I c 10 1 ∗ hX I c ∗ sXs c 0 f_xs0 ∗ sCs c 0 f_cs0 ∗ sXs c 1 f_xs1)
      ⊢ iprop(((St I c 10 1 ∗ hX I c ∗ sXs c 0 (fill (XS I c)) ∗ sCs c 0 (fill (CS I c)) ∗ sXs c 1 f_xs1) -∗ Kt ⟨(k0_pay12 (slotR I c) (k0_pay7 (slotR I c)) (k0_pay8 (F := F))), (k0_pay13 (slotR I c) (k0_pay7 (slotR I c)) (k0_pay8 (F := F)) (I c).X)⟩)
          -∗ wp frame (wpE (defs₀ (F := F)) 𝒱₀ (c : Thread nD τ) none) Set.univ
            (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 ((slotR I c)) ((expC I c)) ((k0_pay7 (slotR I c))) ((k0_pay8 (F := F)))) Kt) := by
  rw [k0_part13_eq_skeleton]; unfold k0_part13_skel
  simp only [Prog.lift, Prog.bind_op, Prog.bind_ret, Prog.pure_eq_ret, wp_deviceId, semSignalWord, semWaitWord]
  iintro ⟨HSt, HhX, Hxs0, Hcs0, Hxs1⟩ Hk
  iapply (ld_x I c) $$ HhX; iintro HhX
  iapply (ld_xs c 0 f_xs0 rfl (rd f_xs0 0) (fun _ _ => rfl)) $$ Hxs0; iintro Hxs0
  iapply (st_xs c 0 f_xs0 (XS I c) rfl _ rfl) $$ Hxs0; iintro Hxs0
  iapply (ld_cs c 0 f_cs0 rfl (rd f_cs0 0) (fun _ _ => rfl)) $$ Hcs0; iintro Hcs0
  iapply (st_cs c 0 f_cs0 (CS I c) rfl _ rfl) $$ Hcs0; iintro Hcs0
  iapply (ld_x I c) $$ HhX; iintro HhX
  iapply (ld_xs c 1 f_xs1 rfl (rd f_xs1 1) (fun _ _ => rfl)) $$ Hxs1; iintro Hxs1
  rw [wp_ret]; imodintro
  iapply Hk
  isplitl [HSt]; · iexact HSt
  isplitl [HhX]; · iexact HhX
  isplitl [Hxs0]; · iexact Hxs0
  isplitl [Hcs0]; · iexact Hcs0
  iexact Hxs1

set_option maxRecDepth 65536 in
/-- Part 14 of the body. -/
theorem part_14 {Kt : (Σ' (v525 : BitVec 32) (v526 : BitVec 32), BitVec 32) → sProp 𝕄} (c : Dev nD) (f_xs1 : FVec F S3x32x512 .f32) (f_cs1 : FVec F S3x32x1 .f32) (f_xs2 : FVec F S3x32x512 .f32) (f_cs2 : FVec F S3x32x1 .f32) (v5 : BitVec 32) :
    iprop(St I c 10 1 ∗ sXs c 1 f_xs1 ∗ sCs c 1 f_cs1 ∗ hX I c ∗ sXs c 2 f_xs2 ∗ sCs c 2 f_cs2)
      ⊢ iprop((∀ v525 : BitVec 32, ∀ v526 : BitVec 32, ∀ c0_i32_279 : BitVec 32, (St I c 10 1 ∗ sXs c 1 (fill (XS I c)) ∗ sCs c 1 (fill (CS I c)) ∗ hX I c ∗ sXs c 2 (fill (XS I c)) ∗ sCs c 2 (fill (CS I c))) -∗ Kt ⟨v525, v526, c0_i32_279⟩)
          -∗ wp frame (wpE (defs₀ (F := F)) 𝒱₀ (c : Thread nD τ) none) Set.univ
            (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 v5 ((slotR I c)) ((expC I c)) ((k0_pay7 (slotR I c))) ((k0_pay8 (F := F))) ((k0_pay12 (slotR I c) (k0_pay7 (slotR I c)) (k0_pay8 (F := F)))) ((k0_pay13 (slotR I c) (k0_pay7 (slotR I c)) (k0_pay8 (F := F)) (I c).X))) Kt) := by
  rw [k0_part14_eq_skeleton]; unfold k0_part14_skel
  simp only [Prog.lift, Prog.bind_op, Prog.bind_ret, Prog.pure_eq_ret, wp_deviceId, semSignalWord, semWaitWord]
  iintro ⟨HSt, Hxs1, Hcs1, HhX, Hxs2, Hcs2⟩ Hk
  iapply (st_xs c 1 f_xs1 (XS I c) rfl _ rfl) $$ Hxs1; iintro Hxs1
  iapply (ld_cs c 1 f_cs1 rfl (rd f_cs1 1) (fun _ _ => rfl)) $$ Hcs1; iintro Hcs1
  iapply (st_cs c 1 f_cs1 (CS I c) rfl _ rfl) $$ Hcs1; iintro Hcs1
  iapply (ld_x I c) $$ HhX; iintro HhX
  iapply (ld_xs c 2 f_xs2 rfl (rd f_xs2 2) (fun _ _ => rfl)) $$ Hxs2; iintro Hxs2
  iapply (st_xs c 2 f_xs2 (XS I c) rfl _ rfl) $$ Hxs2; iintro Hxs2
  iapply (ld_cs c 2 f_cs2 rfl (rd f_cs2 2) (fun _ _ => rfl)) $$ Hcs2; iintro Hcs2
  iapply (st_cs c 2 f_cs2 (CS I c) rfl _ rfl) $$ Hcs2; iintro Hcs2
  rw [wp_ret]; imodintro
  iapply Hk
  isplitl [HSt]; · iexact HSt
  isplitl [Hxs1]; · iexact Hxs1
  isplitl [Hcs1]; · iexact Hcs1
  isplitl [HhX]; · iexact HhX
  isplitl [Hxs2]; · iexact Hxs2
  iexact Hcs2

set_option maxRecDepth 65536 in
/-- Part 15 of the body. -/
theorem part_15 {Kt : (BitVec 32) → sProp 𝕄} (c : Dev nD) (f_tx0 : FVec F S3x32x512 .f32) (v2 : BitVec 32) (v8 : BitVec 32) (v525 : BitVec 32) (v526 : BitVec 32) (c0_i32_279 : BitVec 32) :
    iprop(St I c 10 1 ∗ sXs c 0 (fill (XS I c)) ∗ sXg (tgt 10 c) 0 f_tx0)
      ⊢ iprop((∀ v533 : BitVec 32, (St I c 11 1) -∗ Kt v533)
          -∗ wp frame (wpE (defs₀ (F := F)) 𝒱₀ (c : Thread nD τ) none) Set.univ
            (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 (c) v2 v8 v525 v526 c0_i32_279) Kt) := by
  rw [k0_part15_eq_skeleton]; unfold k0_part15_skel
  simp only [Prog.lift, Prog.bind_op, Prog.bind_ret, Prog.pure_eq_ret, wp_deviceId, semSignalWord, semWaitWord]
  iintro ⟨HSt, Hxs0, Htx0⟩ Hk
  iapply (wp_snd_x I c 0 10 rfl 1 (by decide) rfl rfl (dev11_tgt c) (by decide) (by decide) f_tx0) $$ [HSt Hxs0 Htx0]
  · isplitl [HSt]; · iexact HSt
    isplitl [Hxs0] <;> iassumption
  iintro HSt
  rw [wp_ret]; imodintro
  iapply Hk
  iexact HSt

set_option maxRecDepth 65536 in
/-- Part 16 of the body. -/
theorem part_16 {Kt : (Σ' (v572 : BitVec 32) (v590 : BitVec 32), BitVec 32) → sProp 𝕄} (c : Dev nD) (f_tc0 : FVec F S3x32x1 .f32) (f_tx1 : FVec F S3x32x512 .f32) (v2 : BitVec 32) (v5 : BitVec 32) (v8 : BitVec 32) :
    iprop(St I c 11 1 ∗ sCs c 0 (fill (CS I c)) ∗ sCg (tgt 11 c) 0 f_tc0 ∗ sXs c 1 (fill (XS I c)) ∗ sXg (tgt 12 c) 1 f_tx1)
      ⊢ iprop((∀ v572 : BitVec 32, ∀ v590 : BitVec 32, ∀ c1_i32_332 : BitVec 32, (St I c 13 1) -∗ Kt ⟨v572, v590, c1_i32_332⟩)
          -∗ wp frame (wpE (defs₀ (F := F)) 𝒱₀ (c : Thread nD τ) none) Set.univ
            (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 (c) v2 v5 v8) Kt) := by
  rw [k0_part16_eq_skeleton]; unfold k0_part16_skel
  simp only [Prog.lift, Prog.bind_op, Prog.bind_ret, Prog.pure_eq_ret, wp_deviceId, semSignalWord, semWaitWord]
  iintro ⟨HSt, Hcs0, Htc0, Hxs1, Htx1⟩ Hk
  iapply (wp_snd_c I c 0 11 rfl 1 (by decide) rfl rfl (dev12_tgt c) (by decide) (by decide) f_tc0) $$ [HSt Hcs0 Htc0]
  · isplitl [HSt]; · iexact HSt
    isplitl [Hcs0] <;> iassumption
  iintro HSt
  iapply (wp_snd_x I c 1 12 rfl 1 (by decide) rfl rfl (dev13_tgt c) (by decide) (by decide) f_tx1) $$ [HSt Hxs1 Htx1]
  · isplitl [HSt]; · iexact HSt
    isplitl [Hxs1] <;> iassumption
  iintro HSt
  rw [wp_ret]; imodintro
  iapply Hk
  iexact HSt

set_option maxRecDepth 65536 in
/-- Part 17 of the body. -/
theorem part_17 {Kt : (BitVec 32) → sProp 𝕄} (c : Dev nD) (f_tc1 : FVec F S3x32x1 .f32) (f_tx2 : FVec F S3x32x512 .f32) (v2 : BitVec 32) (v5 : BitVec 32) (v8 : BitVec 32) (v590 : BitVec 32) (c1_i32_332 : BitVec 32) :
    iprop(St I c 13 1 ∗ sCs c 1 (fill (CS I c)) ∗ sCg (tgt 13 c) 1 f_tc1 ∗ sXs c 2 (fill (XS I c)) ∗ sXg (tgt 14 c) 2 f_tx2)
      ⊢ iprop((∀ v611 : BitVec 32, (St I c 15 1) -∗ Kt v611)
          -∗ wp frame (wpE (defs₀ (F := F)) 𝒱₀ (c : Thread nD τ) none) Set.univ
            (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 (c) v2 v5 v8 v590 c1_i32_332) Kt) := by
  rw [k0_part17_eq_skeleton]; unfold k0_part17_skel
  simp only [Prog.lift, Prog.bind_op, Prog.bind_ret, Prog.pure_eq_ret, wp_deviceId, semSignalWord, semWaitWord]
  iintro ⟨HSt, Hcs1, Htc1, Hxs2, Htx2⟩ Hk
  iapply (wp_snd_c I c 1 13 rfl 1 (by decide) rfl rfl (dev14_tgt c) (by decide) (by decide) f_tc1) $$ [HSt Hcs1 Htc1]
  · isplitl [HSt]; · iexact HSt
    isplitl [Hcs1] <;> iassumption
  iintro HSt
  iapply (wp_snd_x I c 2 14 rfl 1 (by decide) rfl rfl (dev15_tgt c) (by decide) (by decide) f_tx2) $$ [HSt Hxs2 Htx2]
  · isplitl [HSt]; · iexact HSt
    isplitl [Hxs2] <;> iassumption
  iintro HSt
  rw [wp_ret]; imodintro
  iapply Hk
  iexact HSt

set_option maxRecDepth 65536 in
/-- Part 18 of the body. -/
theorem part_18 {Kt : (Σ' (v658 : FVec F S64x1 .f32) (v660 : FVec F S64x32 .f32) (v662 : IVec S64x1 1), IVec S64x32 1) → sProp 𝕄} (c : Dev nD) (f_tc2 : FVec F S3x32x1 .f32) (v2 : BitVec 32) (v8 : BitVec 32) (v611 : BitVec 32) :
    iprop(St I c 15 1 ∗ sCs c 2 (fill (CS I c)) ∗ sCg (tgt 15 c) 2 f_tc2)
      ⊢ iprop(((St I c 16 1) -∗ Kt ⟨(k0_pay19 (slotC I c)), (k0_pay20 (F := F)), (k0_pay21 (slotC I c)), (k0_pay22 (slotC I c))⟩)
          -∗ wp frame (wpE (defs₀ (F := F)) 𝒱₀ (c : Thread nD τ) none) Set.univ
            (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 (c) v2 v8 ((slotC I c)) v611) Kt) := by
  rw [k0_part18_eq_skeleton]; unfold k0_part18_skel
  simp only [Prog.lift, Prog.bind_op, Prog.bind_ret, Prog.pure_eq_ret, wp_deviceId, semSignalWord, semWaitWord]
  iintro ⟨HSt, Hcs2, Htc2⟩ Hk
  iapply (wp_snd_c I c 2 15 rfl 1 (by decide) rfl rfl (dev16_tgt c) (by decide) (by decide) f_tc2) $$ [HSt Hcs2 Htc2]
  · isplitl [HSt]; · iexact HSt
    isplitl [Hcs2] <;> iassumption
  iintro HSt
  rw [wp_ret]; imodintro
  iapply Hk
  iexact HSt

set_option maxRecDepth 65536 in
/-- Part 19 of the body. -/
theorem part_19 {Kt : (Σ' (v702 : IVec S64x32 1), F .f32) → sProp 𝕄} (c : Dev nD) (f_pm0 : FVec F S4x64x32 .f32) (f_pm1 : FVec F S4x64x32 .f32) (f_pm2 : FVec F S4x64x32 .f32)  :
    iprop(St I c 16 1 ∗ sPm c 0 f_pm0 ∗ sPm c 1 f_pm1 ∗ sPm c 2 f_pm2)
      ⊢ iprop(((St I c 16 1 ∗ sPm c 0 (fill (PM I c)) ∗ sPm c 1 (fill (PM I c)) ∗ sPm c 2 (fill (PM I c))) -∗ Kt ⟨(k0_pay26 (slotC I c) (k0_pay19 (slotC I c)) (k0_pay20 (F := F))), (Scalar.ofBits .f32 0x3F800000#32)⟩)
          -∗ wp frame (wpE (defs₀ (F := F)) 𝒱₀ (c : Thread nD τ) none) Set.univ
            (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 ((slotC I c)) ((k0_pay19 (slotC I c))) ((k0_pay20 (F := F))) ((k0_pay21 (slotC I c))) ((k0_pay22 (slotC I c)))) Kt) := by
  rw [k0_part19_eq_skeleton]; unfold k0_part19_skel
  simp only [Prog.lift, Prog.bind_op, Prog.bind_ret, Prog.pure_eq_ret, wp_deviceId, semSignalWord, semWaitWord]
  iintro ⟨HSt, Hpm0, Hpm1, Hpm2⟩ Hk
  iapply (ld_pm c 0 f_pm0 rfl (rd f_pm0 0) (fun _ _ => rfl)) $$ Hpm0; iintro Hpm0
  iapply (st_pm c 0 f_pm0 (PM I c) rfl _ rfl) $$ Hpm0; iintro Hpm0
  iapply (ld_pm c 1 f_pm1 rfl (rd f_pm1 1) (fun _ _ => rfl)) $$ Hpm1; iintro Hpm1
  iapply (st_pm c 1 f_pm1 (PM I c) rfl _ rfl) $$ Hpm1; iintro Hpm1
  iapply (ld_pm c 2 f_pm2 rfl (rd f_pm2 2) (fun _ _ => rfl)) $$ Hpm2; iintro Hpm2
  iapply (st_pm c 2 f_pm2 (PM I c) rfl _ rfl) $$ Hpm2; iintro Hpm2
  rw [wp_ret]; imodintro
  iapply Hk
  isplitl [HSt]; · iexact HSt
  isplitl [Hpm0]; · iexact Hpm0
  isplitl [Hpm1]; · iexact Hpm1
  iexact Hpm2

set_option maxRecDepth 65536 in
/-- Part 20 of the body. -/
theorem part_20 {Kt : (Σ' (v720 : FVec F S32x512 .f32) (v723 : FVec F S32x1 .f32) (v725 : FVec F S64x32 .f32) (v733 : FVec F S32x512 .f32), Vec F S1x512x1024 .f32) → sProp 𝕄} (c : Dev nD) (f_pm3 : FVec F S4x64x32 .f32)  :
    iprop(St I c 16 1 ∗ sPm c 3 f_pm3 ∗ hX I c ∗ sPm c 0 (fill (PM I c)) ∗ hW1 I c ∗ hW2 I c)
      ⊢ iprop(((St I c 16 1 ∗ sPm c 3 (fill (PM I c)) ∗ hX I c ∗ sPm c 0 (fill (PM I c)) ∗ hW1 I c ∗ hW2 I c) -∗ Kt ⟨(k0_pay29 (slotR I c) (k0_pay7 (slotR I c)) (k0_pay8 (F := F)) (I c).X), (k0_pay30 (slotR I c) (expC I c) (k0_pay7 (slotR I c)) (k0_pay8 (F := F))), (k0_pay31 (PM I c 0)), (k0_pay32 (slotR I c) (k0_pay7 (slotR I c)) (k0_pay8 (F := F)) (I c).X (w1 (I c) 0) (w2 (I c) 0)), (w1 (I c) 1)⟩)
          -∗ wp frame (wpE (defs₀ (F := F)) 𝒱₀ (c : Thread nD τ) none) Set.univ
            (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 ((slotR I c)) ((expC I c)) ((k0_pay7 (slotR I c))) ((k0_pay8 (F := F))) ((k0_pay26 (slotC I c) (k0_pay19 (slotC I c)) (k0_pay20 (F := F)))) ((Scalar.ofBits .f32 0x3F800000#32))) Kt) := by
  rw [k0_part20_eq_skeleton]; unfold k0_part20_skel
  simp only [Prog.lift, Prog.bind_op, Prog.bind_ret, Prog.pure_eq_ret, wp_deviceId, semSignalWord, semWaitWord]
  iintro ⟨HSt, Hpm3, HhX, Hpm0, HhW1, HhW2⟩ Hk
  iapply (ld_pm c 3 f_pm3 rfl (rd f_pm3 3) (fun _ _ => rfl)) $$ Hpm3; iintro Hpm3
  iapply (st_pm c 3 f_pm3 (PM I c) rfl _ rfl) $$ Hpm3; iintro Hpm3
  iapply (ld_x I c) $$ HhX; iintro HhX
  iapply (ld_pm c 0 (fill (PM I c)) rfl (PM I c 0) (fun inb x => fill_rS (PM I c) 0 inb x)) $$ Hpm0; iintro Hpm0
  iapply (ld_w1 I c 0 rfl) $$ HhW1; iintro HhW1
  iapply (ld_w2 I c 0 rfl) $$ HhW2; iintro HhW2
  iapply (ld_w1 I c 1 rfl) $$ HhW1; iintro HhW1
  rw [wp_ret]; imodintro
  iapply Hk
  isplitl [HSt]; · iexact HSt
  isplitl [Hpm3]; · iexact Hpm3
  isplitl [HhX]; · iexact HhX
  isplitl [Hpm0]; · iexact Hpm0
  isplitl [HhW1]; · iexact HhW1
  iexact HhW2

end Cert.KernelIdeal.Hand
-- ==== Proof.Parts3.lean ====
/-
# The parts of the body: the rows received and the results sent
-/
module

public import proofs.«01_k».proof.Proof.PartFacts

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F)

set_option maxRecDepth 65536 in
/-- Part 21 of the body. -/
theorem part_21 {Kt : (FVec F S64x512 .f32) → sProp 𝕄} (c : Dev nD)  (v2 : BitVec 32) (v8 : BitVec 32) (v533 : BitVec 32) :
    iprop(St I c 16 1 ∗ hW2 I c)
      ⊢ iprop(((St I c 16 2 ∗ hW2 I c ∗ sXg c 0 (fill (XG I c))) -∗ Kt (OWN I c))
          -∗ wp frame (wpE (defs₀ (F := F)) 𝒱₀ (c : Thread nD τ) none) Set.univ
            (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 v2 v8 v533 ((k0_pay29 (slotR I c) (k0_pay7 (slotR I c)) (k0_pay8 (F := F)) (I c).X)) ((k0_pay30 (slotR I c) (expC I c) (k0_pay7 (slotR I c)) (k0_pay8 (F := F)))) ((k0_pay31 (PM I c 0))) ((k0_pay32 (slotR I c) (k0_pay7 (slotR I c)) (k0_pay8 (F := F)) (I c).X (w1 (I c) 0) (w2 (I c) 0))) ((w1 (I c) 1))) Kt) := by
  unfold OWN
  rw [k0_part21_eq_skeleton]; unfold k0_part21_skel
  simp only [Prog.lift, Prog.bind_op, Prog.bind_ret, Prog.pure_eq_ret, wp_deviceId, semSignalWord, semWaitWord]
  iintro ⟨HSt, HhW2⟩ Hk
  iapply (ld_w2 I c 1 rfl) $$ HhW2; iintro HhW2
  iapply (wp_wt I c 16 1 (by decide) (by decide +kernel) (sm := SemLoc.dma _) (by decide) (by exact ex_w1) (wpE_waitDma2_eq 𝒱₀ (c : Thread nD τ) none Set.univ)) $$ [HSt]
  · iexact HSt
  iintro ⟨HSt, Hxg0⟩
  ihave Hxg0 := (Entails.of_eq ((congrArg (got I c) (show wc 1 = 8 by decide)).trans (got_8 I c))) $$ Hxg0
  rw [wp_ret]; imodintro
  iapply Hk
  isplitl [HSt]; · iexact HSt
  isplitl [HhW2]; · iexact HhW2
  iexact Hxg0

set_option maxRecDepth 65536 in
/-- Part 22 of the body. -/
theorem part_22 {Kt : (Σ' (v783 : FVec F S32x1 .f32) (v791 : FVec F S32x512 .f32), FVec F S32x1024 .f32) → sProp 𝕄} (c : Dev nD)  (v2 : BitVec 32) (v8 : BitVec 32) (v533 : BitVec 32) :
    iprop(St I c 16 2 ∗ sXg c 0 (fill (XG I c)) ∗ hW1 I c ∗ hW2 I c)
      ⊢ iprop(((St I c 16 3 ∗ sCg c 0 (fill (CG I c)) ∗ sXg c 0 (fill (XG I c)) ∗ hW1 I c ∗ hW2 I c) -∗ Kt ⟨(k0_pay35 (CG I c 0)), (k0_pay36 (XG I c 0) (w1 (I c) 0) (w2 (I c) 0)), (k0_pay37 (XG I c 0) (w1 (I c) 1))⟩)
          -∗ wp frame (wpE (defs₀ (F := F)) 𝒱₀ (c : Thread nD τ) none) Set.univ
            (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 v2 v8 v533) Kt) := by
  rw [k0_part22_eq_skeleton]; unfold k0_part22_skel
  simp only [Prog.lift, Prog.bind_op, Prog.bind_ret, Prog.pure_eq_ret, wp_deviceId, semSignalWord, semWaitWord]
  iintro ⟨HSt, Hxg0, HhW1, HhW2⟩ Hk
  iapply (wp_wt I c 16 2 (by decide) (by decide +kernel) (sm := SemLoc.dma _) (by decide) (by exact ex_w2) (wpE_waitDma2_eq 𝒱₀ (c : Thread nD τ) none Set.univ)) $$ [HSt]
  · iexact HSt
  iintro ⟨HSt, Hcg0⟩
  ihave Hcg0 := (Entails.of_eq ((congrArg (got I c) (show wc 2 = 11 by decide)).trans (got_11 I c))) $$ Hcg0
  iapply (ld_xg c 0 (fill (XG I c)) rfl (XG I c 0) (fun inb x => fill_rS (XG I c) 0 inb x)) $$ Hxg0; iintro Hxg0
  iapply (ld_cg c 0 (fill (CG I c)) rfl (CG I c 0) (fun inb x => fill_rS (CG I c) 0 inb x)) $$ Hcg0; iintro Hcg0
  iapply (ld_w1 I c 0 rfl) $$ HhW1; iintro HhW1
  iapply (ld_w2 I c 0 rfl) $$ HhW2; iintro HhW2
  iapply (ld_w1 I c 1 rfl) $$ HhW1; iintro HhW1
  rw [wp_ret]; imodintro
  iapply Hk
  isplitl [HSt]; · iexact HSt
  isplitl [Hcg0]; · iexact Hcg0
  isplitl [Hxg0]; · iexact Hxg0
  isplitl [HhW1]; · iexact HhW1
  iexact HhW2

set_option maxRecDepth 65536 in
/-- Part 23 of the body. -/
theorem part_23 {Kt : (Σ' (v826 : BitVec 32) (v830 : BitVec 32), BitVec 32) → sProp 𝕄} (c : Dev nD) (f_pt0 : FVec F S3x32x512 .f32) (v2 : BitVec 32) (v5 : BitVec 32) :
    iprop(St I c 16 3 ∗ hW2 I c ∗ sPt c 0 f_pt0)
      ⊢ iprop((∀ v826 : BitVec 32, ∀ v830 : BitVec 32, ∀ c1_i32_501 : BitVec 32, (St I c 16 3 ∗ hW2 I c ∗ sPt c 0 (fill (PT I c))) -∗ Kt ⟨v826, v830, c1_i32_501⟩)
          -∗ wp frame (wpE (defs₀ (F := F)) 𝒱₀ (c : Thread nD τ) none) Set.univ
            (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 v2 v5 ((k0_pay35 (CG I c 0))) ((k0_pay36 (XG I c 0) (w1 (I c) 0) (w2 (I c) 0))) ((k0_pay37 (XG I c 0) (w1 (I c) 1)))) Kt) := by
  rw [k0_part23_eq_skeleton]; unfold k0_part23_skel
  simp only [Prog.lift, Prog.bind_op, Prog.bind_ret, Prog.pure_eq_ret, wp_deviceId, semSignalWord, semWaitWord]
  iintro ⟨HSt, HhW2, Hpt0⟩ Hk
  iapply (ld_w2 I c 1 rfl) $$ HhW2; iintro HhW2
  iapply (ld_pt c 0 f_pt0 rfl (rd f_pt0 0) (fun _ _ => rfl)) $$ Hpt0; iintro Hpt0
  iapply (st_pt c 0 f_pt0 (PT I c) rfl _ rfl) $$ Hpt0; iintro Hpt0
  rw [wp_ret]; imodintro
  iapply Hk
  isplitl [HSt]; · iexact HSt
  isplitl [HhW2]; · iexact HhW2
  iexact Hpt0

set_option maxRecDepth 65536 in
/-- Part 24 of the body. -/
theorem part_24 {Kt : (PUnit) → sProp 𝕄} (c : Dev nD) (f_tp0 : FVec F S3x32x512 .f32) (v2 : BitVec 32) (v8 : BitVec 32) (v572 : BitVec 32) (v830 : BitVec 32) (c1_i32_501 : BitVec 32) :
    iprop(St I c 16 3 ∗ sPt c 0 (fill (PT I c)) ∗ sAc (tgt 16 c) 0 f_tp0)
      ⊢ iprop(((St I c 17 4 ∗ sXg c 1 (fill (XG I c))) -∗ Kt ⟨⟩)
          -∗ wp frame (wpE (defs₀ (F := F)) 𝒱₀ (c : Thread nD τ) none) Set.univ
            (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 (c) v2 v8 v572 v830 c1_i32_501) Kt) := by
  rw [k0_part24_eq_skeleton]; unfold k0_part24_skel
  simp only [Prog.lift, Prog.bind_op, Prog.bind_ret, Prog.pure_eq_ret, wp_deviceId, semSignalWord, semWaitWord]
  iintro ⟨HSt, Hpt0, Htp0⟩ Hk
  iapply (wp_snd_p I c 0 16 rfl 3 (by decide) rfl rfl (dev17_tgt c) (by decide) (by decide) f_tp0) $$ [HSt Hpt0 Htp0]
  · isplitl [HSt]; · iexact HSt
    isplitl [Hpt0] <;> iassumption
  iintro HSt
  iapply (wp_wt I c 17 3 (by decide) (by decide +kernel) (sm := SemLoc.dma _) (by decide) (by exact ex_w3) (wpE_waitDma2_eq 𝒱₀ (c : Thread nD τ) none Set.univ)) $$ [HSt]
  · iexact HSt
  iintro ⟨HSt, Hxg1⟩
  ihave Hxg1 := (Entails.of_eq ((congrArg (got I c) (show wc 3 = 9 by decide)).trans (got_9 I c))) $$ Hxg1
  rw [wp_ret]; imodintro
  iapply Hk
  isplitl [HSt]; · iexact HSt
  iexact Hxg1

set_option maxRecDepth 65536 in
/-- Part 25 of the body. -/
theorem part_25 {Kt : (Σ' (v884 : FVec F S32x512 .f32) (v890 : FVec F S32x512 .f32), IVec S32x1 1) → sProp 𝕄} (c : Dev nD)   :
    iprop(St I c 17 4 ∗ sXg c 1 (fill (XG I c)) ∗ hW1 I c ∗ hW2 I c)
      ⊢ iprop(((St I c 17 5 ∗ sCg c 1 (fill (CG I c)) ∗ sXg c 1 (fill (XG I c)) ∗ hW1 I c ∗ hW2 I c) -∗ Kt ⟨(k0_pay41 (XG I c 1) (w1 (I c) 1) (w2 (I c) 1)), (k0_pay42 (XG I c 1) (CG I c 1) (w1 (I c) 0) (w2 (I c) 0)), (k0_pay43 (CG I c 1))⟩)
          -∗ wp frame (wpE (defs₀ (F := F)) 𝒱₀ (c : Thread nD τ) none) Set.univ
            (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 ) Kt) := by
  rw [k0_part25_eq_skeleton]; unfold k0_part25_skel
  simp only [Prog.lift, Prog.bind_op, Prog.bind_ret, Prog.pure_eq_ret, wp_deviceId, semSignalWord, semWaitWord]
  iintro ⟨HSt, Hxg1, HhW1, HhW2⟩ Hk
  iapply (wp_wt I c 17 4 (by decide) (by decide +kernel) (sm := SemLoc.dma _) (by decide) (by exact ex_w4) (wpE_waitDma2_eq 𝒱₀ (c : Thread nD τ) none Set.univ)) $$ [HSt]
  · iexact HSt
  iintro ⟨HSt, Hcg1⟩
  ihave Hcg1 := (Entails.of_eq ((congrArg (got I c) (show wc 4 = 12 by decide)).trans (got_12 I c))) $$ Hcg1
  iapply (ld_xg c 1 (fill (XG I c)) rfl (XG I c 1) (fun inb x => fill_rS (XG I c) 1 inb x)) $$ Hxg1; iintro Hxg1
  iapply (ld_cg c 1 (fill (CG I c)) rfl (CG I c 1) (fun inb x => fill_rS (CG I c) 1 inb x)) $$ Hcg1; iintro Hcg1
  iapply (ld_w1 I c 0 rfl) $$ HhW1; iintro HhW1
  iapply (ld_w2 I c 0 rfl) $$ HhW2; iintro HhW2
  iapply (ld_w1 I c 1 rfl) $$ HhW1; iintro HhW1
  iapply (ld_w2 I c 1 rfl) $$ HhW2; iintro HhW2
  rw [wp_ret]; imodintro
  iapply Hk
  isplitl [HSt]; · iexact HSt
  isplitl [Hcg1]; · iexact Hcg1
  isplitl [Hxg1]; · iexact Hxg1
  isplitl [HhW1]; · iexact HhW1
  iexact HhW2

set_option maxRecDepth 65536 in
/-- Part 26 of the body. -/
theorem part_26 {Kt : (BitVec 32) → sProp 𝕄} (c : Dev nD) (f_pt1 : FVec F S3x32x512 .f32) (f_tp1 : FVec F S3x32x512 .f32) (v2 : BitVec 32) (v5 : BitVec 32) (v8 : BitVec 32) :
    iprop(St I c 17 5 ∗ sPt c 1 f_pt1 ∗ sAc (tgt 17 c) 1 f_tp1)
      ⊢ iprop((∀ v911 : BitVec 32, (St I c 18 5) -∗ Kt v911)
          -∗ wp frame (wpE (defs₀ (F := F)) 𝒱₀ (c : Thread nD τ) none) Set.univ
            (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 (c) v2 v5 v8 ((k0_pay41 (XG I c 1) (w1 (I c) 1) (w2 (I c) 1))) ((k0_pay42 (XG I c 1) (CG I c 1) (w1 (I c) 0) (w2 (I c) 0))) ((k0_pay43 (CG I c 1)))) Kt) := by
  rw [k0_part26_eq_skeleton]; unfold k0_part26_skel
  simp only [Prog.lift, Prog.bind_op, Prog.bind_ret, Prog.pure_eq_ret, wp_deviceId, semSignalWord, semWaitWord]
  iintro ⟨HSt, Hpt1, Htp1⟩ Hk
  iapply (ld_pt c 1 f_pt1 rfl (rd f_pt1 1) (fun _ _ => rfl)) $$ Hpt1; iintro Hpt1
  iapply (st_pt c 1 f_pt1 (PT I c) rfl _ rfl) $$ Hpt1; iintro Hpt1
  iapply (wp_snd_p I c 1 17 rfl 5 (by decide) rfl rfl (dev18_tgt c) (by decide) (by decide) f_tp1) $$ [HSt Hpt1 Htp1]
  · isplitl [HSt]; · iexact HSt
    isplitl [Hpt1] <;> iassumption
  iintro HSt
  rw [wp_ret]; imodintro
  iapply Hk
  iexact HSt

set_option maxRecDepth 65536 in
/-- Part 27 of the body. -/
theorem part_27 {Kt : (Σ' (v951 : FVec F S32x512 .f32), FVec F S32x1 .f32) → sProp 𝕄} (c : Dev nD)  (v2 : BitVec 32) (v8 : BitVec 32) (v611 : BitVec 32) :
    iprop(St I c 18 5)
      ⊢ iprop(((St I c 18 7 ∗ sXg c 2 (fill (XG I c)) ∗ sCg c 2 (fill (CG I c))) -∗ Kt ⟨(k0_pay45 (XG I c 2)), (k0_pay46 (CG I c 2))⟩)
          -∗ wp frame (wpE (defs₀ (F := F)) 𝒱₀ (c : Thread nD τ) none) Set.univ
            (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 v2 v8 v611) Kt) := by
  rw [k0_part27_eq_skeleton]; unfold k0_part27_skel
  simp only [Prog.lift, Prog.bind_op, Prog.bind_ret, Prog.pure_eq_ret, wp_deviceId, semSignalWord, semWaitWord]
  iintro HSt Hk
  iapply (wp_wt I c 18 5 (by decide) (by decide +kernel) (sm := SemLoc.dma _) (by decide) (by exact ex_w5) (wpE_waitDma2_eq 𝒱₀ (c : Thread nD τ) none Set.univ)) $$ [HSt]
  · iexact HSt
  iintro ⟨HSt, Hxg2⟩
  ihave Hxg2 := (Entails.of_eq ((congrArg (got I c) (show wc 5 = 10 by decide)).trans (got_10 I c))) $$ Hxg2
  iapply (wp_wt I c 18 6 (by decide) (by decide +kernel) (sm := SemLoc.dma _) (by decide) (by exact ex_w6) (wpE_waitDma2_eq 𝒱₀ (c : Thread nD τ) none Set.univ)) $$ [HSt]
  · iexact HSt
  iintro ⟨HSt, Hcg2⟩
  ihave Hcg2 := (Entails.of_eq ((congrArg (got I c) (show wc 6 = 13 by decide)).trans (got_13 I c))) $$ Hcg2
  iapply (ld_xg c 2 (fill (XG I c)) rfl (XG I c 2) (fun inb x => fill_rS (XG I c) 2 inb x)) $$ Hxg2; iintro Hxg2
  iapply (ld_cg c 2 (fill (CG I c)) rfl (CG I c 2) (fun inb x => fill_rS (CG I c) 2 inb x)) $$ Hcg2; iintro Hcg2
  rw [wp_ret]; imodintro
  iapply Hk
  isplitl [HSt]; · iexact HSt
  isplitl [Hxg2]; · iexact Hxg2
  iexact Hcg2

set_option maxRecDepth 65536 in
/-- Part 28 of the body. -/
theorem part_28 {Kt : (Σ' (v986 : BitVec 32) (c4_i32_636 : BitVec 32), BitVec 32) → sProp 𝕄} (c : Dev nD) (f_pt2 : FVec F S3x32x512 .f32) (v5 : BitVec 32) :
    iprop(St I c 18 7 ∗ hW1 I c ∗ hW2 I c ∗ sPt c 2 f_pt2)
      ⊢ iprop((∀ v986 : BitVec 32, ∀ c4_i32_636 : BitVec 32, ∀ c0_i32_637 : BitVec 32, (St I c 18 7 ∗ hW1 I c ∗ hW2 I c ∗ sPt c 2 (fill (PT I c))) -∗ Kt ⟨v986, c4_i32_636, c0_i32_637⟩)
          -∗ wp frame (wpE (defs₀ (F := F)) 𝒱₀ (c : Thread nD τ) none) Set.univ
            (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 v5 ((k0_pay45 (XG I c 2))) ((k0_pay46 (CG I c 2)))) Kt) := by
  rw [k0_part28_eq_skeleton]; unfold k0_part28_skel
  simp only [Prog.lift, Prog.bind_op, Prog.bind_ret, Prog.pure_eq_ret, wp_deviceId, semSignalWord, semWaitWord]
  iintro ⟨HSt, HhW1, HhW2, Hpt2⟩ Hk
  iapply (ld_w1 I c 0 rfl) $$ HhW1; iintro HhW1
  iapply (ld_w2 I c 0 rfl) $$ HhW2; iintro HhW2
  iapply (ld_w1 I c 1 rfl) $$ HhW1; iintro HhW1
  iapply (ld_w2 I c 1 rfl) $$ HhW2; iintro HhW2
  iapply (ld_pt c 2 f_pt2 rfl (rd f_pt2 2) (fun _ _ => rfl)) $$ Hpt2; iintro Hpt2
  iapply (st_pt c 2 f_pt2 (PT I c) rfl _ rfl) $$ Hpt2; iintro Hpt2
  rw [wp_ret]; imodintro
  iapply Hk
  isplitl [HSt]; · iexact HSt
  isplitl [HhW1]; · iexact HhW1
  isplitl [HhW2]; · iexact HhW2
  iexact Hpt2

set_option maxRecDepth 65536 in
/-- Part 29 of the body. -/
theorem part_29 {Kt : (BitVec 32) → sProp 𝕄} (c : Dev nD) (f_tp2 : FVec F S3x32x512 .f32) (v2 : BitVec 32) (v8 : BitVec 32) (v826 : BitVec 32) (v986 : BitVec 32) (c4_i32_636 : BitVec 32) (c0_i32_637 : BitVec 32) :
    iprop(St I c 18 7 ∗ sPt c 2 (fill (PT I c)) ∗ sAc (tgt 18 c) 2 f_tp2)
      ⊢ iprop((∀ v996 : BitVec 32, (St I c 19 7) -∗ Kt v996)
          -∗ wp frame (wpE (defs₀ (F := F)) 𝒱₀ (c : Thread nD τ) none) Set.univ
            (k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 (c) v2 v8 v826 v986 c4_i32_636 c0_i32_637) Kt) := by
  rw [k0_part29_eq_skeleton]; unfold k0_part29_skel
  simp only [Prog.lift, Prog.bind_op, Prog.bind_ret, Prog.pure_eq_ret, wp_deviceId, semSignalWord, semWaitWord]
  iintro ⟨HSt, Hpt2, Htp2⟩ Hk
  iapply (wp_snd_p I c 2 18 rfl 7 (by decide) rfl rfl (dev19_tgt c) (by decide) (by decide) f_tp2) $$ [HSt Hpt2 Htp2]
  · isplitl [HSt]; · iexact HSt
    isplitl [Hpt2] <;> iassumption
  iintro HSt
  rw [wp_ret]; imodintro
  iapply Hk
  iexact HSt

end Cert.KernelIdeal.Hand
-- ==== Proof.Parts4.lean ====
/-
# The parts of the body: the sums and the gather of the result
-/
module

public import proofs.«01_k».proof.Proof.PartFacts

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F)

set_option maxRecDepth 65536 in
/-- Part 30 of the body. -/
theorem part_30 {Kt : (FVec F S64x512 .f32) → sProp 𝕄} (c : Dev nD)  (v2 : BitVec 32) (v8 : BitVec 32) (v911 : BitVec 32) :
    iprop(St I c 19 7 ∗ sPm c 1 (fill (PM I c)) ∗ sPm c 2 (fill (PM I c)))
      ⊢ iprop(((St I c 19 9 ∗ sAc c 0 (fill (AC I c)) ∗ sPm c 1 (fill (PM I c)) ∗ sAc c 1 (fill (AC I c)) ∗ sPm c 2 (fill (PM I c))) -∗ Kt (k0_pay48 (OWN I c) (PM I c 1) (AC I c 0) (PM I c 2) (AC I c 1)))
          -∗ wp frame (wpE (defs₀ (F := F)) 𝒱₀ (c : Thread nD τ) none) Set.univ
            (k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 v2 v8 ((OWN I c)) v911) Kt) := by
  rw [k0_part30_eq_skeleton]; unfold k0_part30_skel
  simp only [Prog.lift, Prog.bind_op, Prog.bind_ret, Prog.pure_eq_ret, wp_deviceId, semSignalWord, semWaitWord]
  iintro ⟨HSt, Hpm1, Hpm2⟩ Hk
  iapply (wp_wt I c 19 7 (by decide) (by decide +kernel) (sm := SemLoc.dma _) (by decide) (by exact ex_w7) (wpE_waitDma2_eq 𝒱₀ (c : Thread nD τ) none Set.univ)) $$ [HSt]
  · iexact HSt
  iintro ⟨HSt, Hac0⟩
  ihave Hac0 := (Entails.of_eq ((congrArg (got I c) (show wc 7 = 17 by decide)).trans (got_17 I c))) $$ Hac0
  iapply (ld_pm c 1 (fill (PM I c)) rfl (PM I c 1) (fun inb x => fill_rS (PM I c) 1 inb x)) $$ Hpm1; iintro Hpm1
  iapply (ld_ac c 0 (fill (AC I c)) rfl (AC I c 0) (fun inb x => fill_rS (AC I c) 0 inb x)) $$ Hac0; iintro Hac0
  iapply (wp_wt I c 19 8 (by decide) (by decide +kernel) (sm := SemLoc.dma _) (by decide) (by exact ex_w8) (wpE_waitDma2_eq 𝒱₀ (c : Thread nD τ) none Set.univ)) $$ [HSt]
  · iexact HSt
  iintro ⟨HSt, Hac1⟩
  ihave Hac1 := (Entails.of_eq ((congrArg (got I c) (show wc 8 = 18 by decide)).trans (got_18 I c))) $$ Hac1
  iapply (ld_pm c 2 (fill (PM I c)) rfl (PM I c 2) (fun inb x => fill_rS (PM I c) 2 inb x)) $$ Hpm2; iintro Hpm2
  iapply (ld_ac c 1 (fill (AC I c)) rfl (AC I c 1) (fun inb x => fill_rS (AC I c) 1 inb x)) $$ Hac1; iintro Hac1
  rw [wp_ret]; imodintro
  iapply Hk
  isplitl [HSt]; · iexact HSt
  isplitl [Hac0]; · iexact Hac0
  isplitl [Hpm1]; · iexact Hpm1
  isplitl [Hac1]; · iexact Hac1
  iexact Hpm2

set_option maxRecDepth 65536 in
/-- Part 31 of the body. -/
theorem part_31 {Kt : (Σ' (v1070 : BitVec 32) (v1071 : BitVec 32), BitVec 1) → sProp 𝕄} (c : Dev nD) (f_o : FVec F S512x512 .f32) (v2 : BitVec 32) (v8 : BitVec 32) (v10 : BitVec 32) (v996 : BitVec 32) :
    iprop(St I c 19 9 ∗ sPm c 3 (fill (PM I c)) ∗ sO c (r8 c) f_o)
      ⊢ iprop((∀ v1070 : BitVec 32, ∀ v1071 : BitVec 32, ∀ v1076 : BitVec 1, (St I c 19 11 ∗ sAc c 2 (fill (AC I c)) ∗ sPm c 3 (fill (PM I c)) ∗ sO c (r8 c) (OUT I c) ∗ got I c 1) -∗ Kt ⟨v1070, v1071, v1076⟩)
          -∗ wp frame (wpE (defs₀ (F := F)) 𝒱₀ (c : Thread nD τ) none) Set.univ
            (k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 (c) v2 v8 v10 v996 ((k0_pay48 (OWN I c) (PM I c 1) (AC I c 0) (PM I c 2) (AC I c 1)))) Kt) := by
  rw [k0_part31_eq_skeleton]; unfold k0_part31_skel
  simp only [Prog.lift, Prog.bind_op, Prog.bind_ret, Prog.pure_eq_ret, wp_deviceId, semSignalWord, semWaitWord]
  iintro ⟨HSt, Hpm3, Ho⟩ Hk
  iapply (wp_wt I c 19 9 (by decide) (by decide +kernel) (sm := SemLoc.dma _) (by decide) (by exact ex_w9) (wpE_waitDma2_eq 𝒱₀ (c : Thread nD τ) none Set.univ)) $$ [HSt]
  · iexact HSt
  iintro ⟨HSt, Hac2⟩
  ihave Hac2 := (Entails.of_eq ((congrArg (got I c) (show wc 9 = 19 by decide)).trans (got_19 I c))) $$ Hac2
  iapply (ld_pm c 3 (fill (PM I c)) rfl (PM I c 3) (fun inb x => fill_rS (PM I c) 3 inb x)) $$ Hpm3; iintro Hpm3
  iapply (ld_ac c 2 (fill (AC I c)) rfl (AC I c 2) (fun inb x => fill_rS (AC I c) 2 inb x)) $$ Hac2; iintro Hac2
  iapply (ld_o c f_o (off1_r8 c)) $$ Ho; iintro Ho
  iapply (st_o I c f_o (off1_r8 c) _ rfl) $$ Ho; iintro Ho
  iapply (wp_wt I c 19 10 (by decide) (by decide +kernel) (sm := SemLoc.reg _) (k' := 7) (by decide) (by decide) (wpE_semWait_eq 𝒱₀ (c : Thread nD τ) none Set.univ)) $$ [HSt]
  · iexact HSt
  iintro ⟨HSt, Hgot1⟩
  ihave Hgot1 := (Entails.of_eq (congrArg (got I c) (show wc 10 = 1 by decide))) $$ Hgot1
  rw [wp_ret]; imodintro
  iapply Hk
  isplitl [HSt]; · iexact HSt
  isplitl [Hac2]; · iexact Hac2
  isplitl [Hpm3]; · iexact Hpm3
  isplitl [Ho]; · iexact Ho
  iexact Hgot1

set_option maxRecDepth 65536 in
/-- Part 32 of the body. -/
theorem part_32 {Kt : (Σ' (v1097 : BitVec 32), BitVec 32) → sProp 𝕄} (c : Dev nD)  (v5 : BitVec 32) (v10 : BitVec 32) (v1070 : BitVec 32) (v1071 : BitVec 32) (v1076 : BitVec 1) :
    iprop(St I c 19 11)
      ⊢ iprop((∀ v1097 : BitVec 32, ∀ v1107 : BitVec 32, (St I c 19 11) -∗ Kt ⟨v1097, v1107⟩)
          -∗ wp frame (wpE (defs₀ (F := F)) 𝒱₀ (c : Thread nD τ) none) Set.univ
            (k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 v5 v10 v1070 v1071 v1076) Kt) := by
  rw [k0_part32_eq_skeleton]; unfold k0_part32_skel
  simp only [Prog.lift, Prog.bind_op, Prog.bind_ret, Prog.pure_eq_ret, wp_deviceId, semSignalWord, semWaitWord]
  iintro HSt Hk
  rw [wp_ret]; imodintro
  iapply Hk
  iexact HSt

set_option maxRecDepth 65536 in
/-- Part 33 of the body. -/
theorem part_33 {Kt : (Σ' (v1149 : BitVec 32) (v1151 : BitVec 32) (v1152 : BitVec 32), BitVec 32) → sProp 𝕄} (c : Dev nD) (f_to0 : FVec F S512x512 .f32) (v10 : BitVec 32) :
    iprop(St I c 19 11 ∗ sOq c (r8 c) (Transfers.shareTok fullShare 7 0) (OUT I c) ∗ sO (tgt 19 c) (r8 c) f_to0)
      ⊢ iprop((∀ v1149 : BitVec 32, ∀ v1151 : BitVec 32, ∀ v1152 : BitVec 32, ∀ c0_i32_763 : BitVec 32, (St I c 20 11) -∗ Kt ⟨v1149, v1151, v1152, c0_i32_763⟩)
          -∗ wp frame (wpE (defs₀ (F := F)) 𝒱₀ (c : Thread nD τ) none) Set.univ
            (k0_part33 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 (c) v10) Kt) := by
  rw [k0_part33_eq_skeleton]; unfold k0_part33_skel
  simp only [Prog.lift, Prog.bind_op, Prog.bind_ret, Prog.pure_eq_ret, wp_deviceId, semSignalWord, semWaitWord]
  iintro ⟨HSt, Hos0, Hto0⟩ Hk
  iapply (wp_snd_o I c 0 19 rfl 11 (by decide) (off2_r8 c) (off2_r8 c) (dev20_tgt c) (by decide) (by decide) f_to0) $$ [HSt Hos0 Hto0]
  · isplitl [HSt]; · iexact HSt
    isplitl [Hos0] <;> iassumption
  iintro HSt
  rw [wp_ret]; imodintro
  iapply Hk
  iexact HSt

set_option maxRecDepth 65536 in
/-- Part 34 of the body. -/
theorem part_34 {Kt : (Σ' (v1159 : BitVec 32) (v1182 : BitVec 32) (c4_i32_783 : BitVec 32) (v1185 : BitVec 32) (v1187 : BitVec 32), BitVec 32) → sProp 𝕄} (c : Dev nD) (f_to1 : FVec F S512x512 .f32) (v5 : BitVec 32) (v10 : BitVec 32) (v1149 : BitVec 32) (v1151 : BitVec 32) (v1152 : BitVec 32) (c0_i32_763 : BitVec 32) :
    iprop(St I c 20 11 ∗ sOq c (r8 c) (Transfers.shareTok fullShare 7 1) (OUT I c) ∗ sO (tgt 20 c) (r8 c) f_to1)
      ⊢ iprop((∀ v1159 : BitVec 32, ∀ v1182 : BitVec 32, ∀ c4_i32_783 : BitVec 32, ∀ v1185 : BitVec 32, ∀ v1187 : BitVec 32, ∀ v1189 : BitVec 32, (St I c 21 11) -∗ Kt ⟨v1159, v1182, c4_i32_783, v1185, v1187, v1189⟩)
          -∗ wp frame (wpE (defs₀ (F := F)) 𝒱₀ (c : Thread nD τ) none) Set.univ
            (k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 (c) v5 v10 v1149 v1151 v1152 c0_i32_763) Kt) := by
  rw [k0_part34_eq_skeleton]; unfold k0_part34_skel
  simp only [Prog.lift, Prog.bind_op, Prog.bind_ret, Prog.pure_eq_ret, wp_deviceId, semSignalWord, semWaitWord]
  iintro ⟨HSt, Hos1, Hto1⟩ Hk
  iapply (wp_snd_o I c 1 20 rfl 11 (by decide) (off2_r8 c) (off2_r8 c) (dev21_tgt c) (by decide) (by decide) f_to1) $$ [HSt Hos1 Hto1]
  · isplitl [HSt]; · iexact HSt
    isplitl [Hos1] <;> iassumption
  iintro HSt
  rw [wp_ret]; imodintro
  iapply Hk
  iexact HSt

set_option maxRecDepth 65536 in
/-- Part 35 of the body. -/
theorem part_35 {Kt : (Σ' (v1201 : BitVec 32) (v1211 : BitVec 32) (v1224 : BitVec 32), BitVec 32) → sProp 𝕄} (c : Dev nD) (f_to2 : FVec F S512x512 .f32) (v5 : BitVec 32) (v10 : BitVec 32) (v1182 : BitVec 32) (c4_i32_783 : BitVec 32) (v1185 : BitVec 32) (v1187 : BitVec 32) (v1189 : BitVec 32) :
    iprop(St I c 21 11 ∗ sOq c (r8 c) (Transfers.shareTok fullShare 7 2) (OUT I c) ∗ sO (tgt 21 c) (r8 c) f_to2)
      ⊢ iprop((∀ v1201 : BitVec 32, ∀ v1211 : BitVec 32, ∀ v1224 : BitVec 32, ∀ v1226 : BitVec 32, (St I c 22 11) -∗ Kt ⟨v1201, v1211, v1224, v1226⟩)
          -∗ wp frame (wpE (defs₀ (F := F)) 𝒱₀ (c : Thread nD τ) none) Set.univ
            (k0_part35 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 (c) v5 v10 v1182 c4_i32_783 v1185 v1187 v1189) Kt) := by
  rw [k0_part35_eq_skeleton]; unfold k0_part35_skel
  simp only [Prog.lift, Prog.bind_op, Prog.bind_ret, Prog.pure_eq_ret, wp_deviceId, semSignalWord, semWaitWord]
  iintro ⟨HSt, Hos2, Hto2⟩ Hk
  iapply (wp_snd_o I c 2 21 rfl 11 (by decide) (off2_r8 c) (off2_r8 c) (dev22_tgt c) (by decide) (by decide) f_to2) $$ [HSt Hos2 Hto2]
  · isplitl [HSt]; · iexact HSt
    isplitl [Hos2] <;> iassumption
  iintro HSt
  rw [wp_ret]; imodintro
  iapply Hk
  iexact HSt

set_option maxRecDepth 65536 in
/-- Part 36 of the body. -/
theorem part_36 {Kt : (Σ' (v1253 : BitVec 32) (v1263 : BitVec 32) (v1264 : BitVec 32), BitVec 32) → sProp 𝕄} (c : Dev nD)  (v10 : BitVec 32) (v1224 : BitVec 32) (v1226 : BitVec 32) :
    iprop(St I c 22 11)
      ⊢ iprop((∀ v1253 : BitVec 32, ∀ v1263 : BitVec 32, ∀ v1264 : BitVec 32, ∀ c0_i32_829 : BitVec 32, (St I c 22 11) -∗ Kt ⟨v1253, v1263, v1264, c0_i32_829⟩)
          -∗ wp frame (wpE (defs₀ (F := F)) 𝒱₀ (c : Thread nD τ) none) Set.univ
            (k0_part36 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 v10 v1224 v1226) Kt) := by
  rw [k0_part36_eq_skeleton]; unfold k0_part36_skel
  simp only [Prog.lift, Prog.bind_op, Prog.bind_ret, Prog.pure_eq_ret, wp_deviceId, semSignalWord, semWaitWord]
  iintro HSt Hk
  rw [wp_ret]; imodintro
  iapply Hk
  iexact HSt

set_option maxRecDepth 65536 in
/-- Part 37 of the body. -/
theorem part_37 {Kt : (Σ' (v1286 : BitVec 32) (v1289 : BitVec 32) (v1303 : BitVec 1), BitVec 32) → sProp 𝕄} (c : Dev nD) (f_to3 : FVec F S512x512 .f32) (v5 : BitVec 32) (v10 : BitVec 32) (v1263 : BitVec 32) (v1264 : BitVec 32) (c0_i32_829 : BitVec 32) :
    iprop(St I c 22 11 ∗ sOq c (r8 c) (Transfers.shareTok fullShare 7 3) (OUT I c) ∗ sO (tgt 22 c) (r8 c) f_to3)
      ⊢ iprop((∀ v1286 : BitVec 32, ∀ v1289 : BitVec 32, ∀ v1303 : BitVec 1, ∀ c1_i32_849 : BitVec 32, (St I c 23 11) -∗ Kt ⟨v1286, v1289, v1303, c1_i32_849⟩)
          -∗ wp frame (wpE (defs₀ (F := F)) 𝒱₀ (c : Thread nD τ) none) Set.univ
            (k0_part37 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 (c) v5 v10 v1263 v1264 c0_i32_829) Kt) := by
  rw [k0_part37_eq_skeleton]; unfold k0_part37_skel
  simp only [Prog.lift, Prog.bind_op, Prog.bind_ret, Prog.pure_eq_ret, wp_deviceId, semSignalWord, semWaitWord]
  iintro ⟨HSt, Hos3, Hto3⟩ Hk
  iapply (wp_snd_o I c 3 22 rfl 11 (by decide) (off2_r8 c) (off2_r8 c) (dev23_tgt c) (by decide) (by decide) f_to3) $$ [HSt Hos3 Hto3]
  · isplitl [HSt]; · iexact HSt
    isplitl [Hos3] <;> iassumption
  iintro HSt
  rw [wp_ret]; imodintro
  iapply Hk
  iexact HSt

set_option maxRecDepth 65536 in
/-- Part 38 of the body. -/
theorem part_38 {Kt : (Σ' (v1305 : BitVec 32) (v1315 : BitVec 32) (v1338 : BitVec 32), BitVec 32) → sProp 𝕄} (c : Dev nD) (f_to4 : FVec F S512x512 .f32) (v5 : BitVec 32) (v10 : BitVec 32) (v1286 : BitVec 32) (v1289 : BitVec 32) (v1303 : BitVec 1) (c1_i32_849 : BitVec 32) :
    iprop(St I c 23 11 ∗ sOq c (r8 c) (Transfers.shareTok fullShare 7 4) (OUT I c) ∗ sO (tgt 23 c) (r8 c) f_to4)
      ⊢ iprop((∀ v1305 : BitVec 32, ∀ v1315 : BitVec 32, ∀ v1338 : BitVec 32, ∀ c64_i32_872 : BitVec 32, (St I c 24 11) -∗ Kt ⟨v1305, v1315, v1338, c64_i32_872⟩)
          -∗ wp frame (wpE (defs₀ (F := F)) 𝒱₀ (c : Thread nD τ) none) Set.univ
            (k0_part38 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 (c) v5 v10 v1286 v1289 v1303 c1_i32_849) Kt) := by
  rw [k0_part38_eq_skeleton]; unfold k0_part38_skel
  simp only [Prog.lift, Prog.bind_op, Prog.bind_ret, Prog.pure_eq_ret, wp_deviceId, semSignalWord, semWaitWord]
  iintro ⟨HSt, Hos4, Hto4⟩ Hk
  iapply (wp_snd_o I c 4 23 rfl 11 (by decide) (off2_r8 c) (off2_r8 c) (dev24_tgt c) (by decide) (by decide) f_to4) $$ [HSt Hos4 Hto4]
  · isplitl [HSt]; · iexact HSt
    isplitl [Hos4] <;> iassumption
  iintro HSt
  rw [wp_ret]; imodintro
  iapply Hk
  iexact HSt

set_option maxRecDepth 65536 in
/-- Part 39 of the body. -/
theorem part_39 {Kt : (Σ' (v1357 : BitVec 32), BitVec 32) → sProp 𝕄} (c : Dev nD)  (v5 : BitVec 32) (v10 : BitVec 32) (v1338 : BitVec 32) (c64_i32_872 : BitVec 32) :
    iprop(St I c 24 11)
      ⊢ iprop((∀ v1357 : BitVec 32, ∀ v1367 : BitVec 32, (St I c 24 11) -∗ Kt ⟨v1357, v1367⟩)
          -∗ wp frame (wpE (defs₀ (F := F)) 𝒱₀ (c : Thread nD τ) none) Set.univ
            (k0_part39 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 (c) v5 v10 v1338 c64_i32_872) Kt) := by
  rw [k0_part39_eq_skeleton]; unfold k0_part39_skel
  simp only [Prog.lift, Prog.bind_op, Prog.bind_ret, Prog.pure_eq_ret, wp_deviceId, semSignalWord, semWaitWord]
  iintro HSt Hk
  rw [wp_ret]; imodintro
  iapply Hk
  iexact HSt

set_option maxRecDepth 65536 in
/-- Part 40 of the body. -/
theorem part_40 {Kt : (Σ' (v1409 : BitVec 32) (v1411 : BitVec 32) (v1412 : BitVec 32) (v1413 : BitVec 1) (v1414 : BitVec 1), BitVec 1) → sProp 𝕄} (c : Dev nD) (f_to5 : FVec F S512x512 .f32) (v10 : BitVec 32) :
    iprop(St I c 24 11 ∗ sOq c (r8 c) (Transfers.shareTok fullShare 7 5) (OUT I c) ∗ sO (tgt 24 c) (r8 c) f_to5)
      ⊢ iprop((∀ v1409 : BitVec 32, ∀ v1411 : BitVec 32, ∀ v1412 : BitVec 32, ∀ v1413 : BitVec 1, ∀ v1414 : BitVec 1, ∀ v1415 : BitVec 1, (St I c 25 11) -∗ Kt ⟨v1409, v1411, v1412, v1413, v1414, v1415⟩)
          -∗ wp frame (wpE (defs₀ (F := F)) 𝒱₀ (c : Thread nD τ) none) Set.univ
            (k0_part40 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 (c) v10) Kt) := by
  rw [k0_part40_eq_skeleton]; unfold k0_part40_skel
  simp only [Prog.lift, Prog.bind_op, Prog.bind_ret, Prog.pure_eq_ret, wp_deviceId, semSignalWord, semWaitWord]
  iintro ⟨HSt, Hos5, Hto5⟩ Hk
  iapply (wp_snd_o I c 5 24 rfl 11 (by decide) (off2_r8 c) (off2_r8 c) (dev25_tgt c) (by decide) (by decide) f_to5) $$ [HSt Hos5 Hto5]
  · isplitl [HSt]; · iexact HSt
    isplitl [Hos5] <;> iassumption
  iintro HSt
  rw [wp_ret]; imodintro
  iapply Hk
  iexact HSt

set_option maxRecDepth 65536 in
/-- Part 41 of the body. -/
theorem part_41 {Kt : (BitVec 32) → sProp 𝕄} (c : Dev nD) (f_to6 : FVec F S512x512 .f32) (v5 : BitVec 32) (v1097 : BitVec 32) (v1107 : BitVec 32) (v1149 : BitVec 32) (v1159 : BitVec 32) (v1409 : BitVec 32) (v1411 : BitVec 32) (v1412 : BitVec 32) (v1413 : BitVec 1) (v1414 : BitVec 1) (v1415 : BitVec 1) :
    iprop(St I c 25 11 ∗ sOq c (r8 c) (Transfers.shareTok fullShare 7 6) (OUT I c) ∗ sO (tgt 25 c) (r8 c) f_to6)
      ⊢ iprop((∀ v1419 : BitVec 32, (St I c 26 12 ∗ sO c (r8 (rq 7 c)) (OUT I c)) -∗ Kt v1419)
          -∗ wp frame (wpE (defs₀ (F := F)) 𝒱₀ (c : Thread nD τ) none) Set.univ
            (k0_part41 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 (c) v5 v1097 v1107 v1149 v1159 v1409 v1411 v1412 v1413 v1414 v1415) Kt) := by
  rw [k0_part41_eq_skeleton]; unfold k0_part41_skel
  simp only [Prog.lift, Prog.bind_op, Prog.bind_ret, Prog.pure_eq_ret, wp_deviceId, semSignalWord, semWaitWord]
  iintro ⟨HSt, Hos6, Hto6⟩ Hk
  iapply (wp_snd_o I c 6 25 rfl 11 (by decide) (off2_r8 c) (off2_r8 c) (dev26_tgt c) (by decide) (by decide) f_to6) $$ [HSt Hos6 Hto6]
  · isplitl [HSt]; · iexact HSt
    isplitl [Hos6] <;> iassumption
  iintro HSt
  iapply (wp_wt I c 26 11 (by decide) (by decide +kernel) (sm := SemLoc.dma _) (by decide) (by exact ex_w11) (wpE_waitDma2_eq 𝒱₀ (c : Thread nD τ) none Set.univ)) $$ [HSt]
  · iexact HSt
  iintro ⟨HSt, Hor0⟩
  ihave Hor0 := (Entails.of_eq ((congrArg (got I c) (show wc 11 = 27 by decide)).trans (got_27 I c))) $$ Hor0
  rw [wp_ret]; imodintro
  iapply Hk
  isplitl [HSt]; · iexact HSt
  iexact Hor0

set_option maxRecDepth 65536 in
/-- Part 42 of the body. -/
theorem part_42 {Kt : (PUnit) → sProp 𝕄} (c : Dev nD)  (v5 : BitVec 32) (v1201 : BitVec 32) (v1211 : BitVec 32) (v1253 : BitVec 32) (v1263 : BitVec 32) (v1305 : BitVec 32) (v1315 : BitVec 32) :
    iprop(St I c 26 12)
      ⊢ iprop(((St I c 26 16 ∗ sO c (r8 (rq 6 c)) (OUT I c) ∗ sO c (r8 (rq 5 c)) (OUT I c) ∗ sO c (r8 (rq 4 c)) (OUT I c) ∗ sO c (r8 (rq 3 c)) (OUT I c)) -∗ Kt ⟨⟩)
          -∗ wp frame (wpE (defs₀ (F := F)) 𝒱₀ (c : Thread nD τ) none) Set.univ
            (k0_part42 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 (c) v5 v1201 v1211 v1253 v1263 v1305 v1315) Kt) := by
  rw [k0_part42_eq_skeleton]; unfold k0_part42_skel
  simp only [Prog.lift, Prog.bind_op, Prog.bind_ret, Prog.pure_eq_ret, wp_deviceId, semSignalWord, semWaitWord]
  iintro HSt Hk
  iapply (wp_wt I c 26 12 (by decide) (by decide +kernel) (sm := SemLoc.dma _) (by decide) (by exact ex_w12) (wpE_waitDma2_eq 𝒱₀ (c : Thread nD τ) none Set.univ)) $$ [HSt]
  · iexact HSt
  iintro ⟨HSt, Hor1⟩
  ihave Hor1 := (Entails.of_eq ((congrArg (got I c) (show wc 12 = 28 by decide)).trans (got_28 I c))) $$ Hor1
  iapply (wp_wt I c 26 13 (by decide) (by decide +kernel) (sm := SemLoc.dma _) (by decide) (by exact ex_w13) (wpE_waitDma2_eq 𝒱₀ (c : Thread nD τ) none Set.univ)) $$ [HSt]
  · iexact HSt
  iintro ⟨HSt, Hor2⟩
  ihave Hor2 := (Entails.of_eq ((congrArg (got I c) (show wc 13 = 29 by decide)).trans (got_29 I c))) $$ Hor2
  iapply (wp_wt I c 26 14 (by decide) (by decide +kernel) (sm := SemLoc.dma _) (by decide) (by exact ex_w14) (wpE_waitDma2_eq 𝒱₀ (c : Thread nD τ) none Set.univ)) $$ [HSt]
  · iexact HSt
  iintro ⟨HSt, Hor3⟩
  ihave Hor3 := (Entails.of_eq ((congrArg (got I c) (show wc 14 = 30 by decide)).trans (got_30 I c))) $$ Hor3
  iapply (wp_wt I c 26 15 (by decide) (by decide +kernel) (sm := SemLoc.dma _) (by decide) (by exact ex_w15) (wpE_waitDma2_eq 𝒱₀ (c : Thread nD τ) none Set.univ)) $$ [HSt]
  · iexact HSt
  iintro ⟨HSt, Hor4⟩
  ihave Hor4 := (Entails.of_eq ((congrArg (got I c) (show wc 15 = 31 by decide)).trans (got_31 I c))) $$ Hor4
  rw [wp_ret]; imodintro
  iapply Hk
  isplitl [HSt]; · iexact HSt
  isplitl [Hor1]; · iexact Hor1
  isplitl [Hor2]; · iexact Hor2
  isplitl [Hor3]; · iexact Hor3
  iexact Hor4

set_option maxRecDepth 65536 in
/-- Part 43 of the body. -/
theorem part_43 {Kt : (PUnit) → sProp 𝕄} (c : Dev nD)  (v5 : BitVec 32) (v1357 : BitVec 32) (v1367 : BitVec 32) (v1409 : BitVec 32) (v1419 : BitVec 32) :
    iprop(St I c 26 16)
      ⊢ iprop(((St I c 26 19 ∗ sO c (r8 (rq 2 c)) (OUT I c) ∗ sO c (r8 (rq 1 c)) (OUT I c) ∗ sXs c 0 (fill (XS I c))) -∗ Kt ⟨⟩)
          -∗ wp frame (wpE (defs₀ (F := F)) 𝒱₀ (c : Thread nD τ) none) Set.univ
            (k0_part43 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 (c) v5 v1357 v1367 v1409 v1419) Kt) := by
  rw [k0_part43_eq_skeleton]; unfold k0_part43_skel
  simp only [Prog.lift, Prog.bind_op, Prog.bind_ret, Prog.pure_eq_ret, wp_deviceId, semSignalWord, semWaitWord]
  iintro HSt Hk
  iapply (wp_wt I c 26 16 (by decide) (by decide +kernel) (sm := SemLoc.dma _) (by decide) (by exact ex_w16) (wpE_waitDma2_eq 𝒱₀ (c : Thread nD τ) none Set.univ)) $$ [HSt]
  · iexact HSt
  iintro ⟨HSt, Hor5⟩
  ihave Hor5 := (Entails.of_eq ((congrArg (got I c) (show wc 16 = 32 by decide)).trans (got_32 I c))) $$ Hor5
  iapply (wp_wt I c 26 17 (by decide) (by decide +kernel) (sm := SemLoc.dma _) (by decide) (by exact ex_w17) (wpE_waitDma2_eq 𝒱₀ (c : Thread nD τ) none Set.univ)) $$ [HSt]
  · iexact HSt
  iintro ⟨HSt, Hor6⟩
  ihave Hor6 := (Entails.of_eq ((congrArg (got I c) (show wc 17 = 33 by decide)).trans (got_33 I c))) $$ Hor6
  iapply (wp_wt I c 26 18 (by decide) (by decide +kernel) (sm := SemLoc.dma _) (by decide) (by exact ex_w18) (wpE_waitDma2_eq 𝒱₀ (c : Thread nD τ) none Set.univ)) $$ [HSt]
  · iexact HSt
  iintro ⟨HSt, Hxs0⟩
  ihave Hxs0 := (Entails.of_eq ((congrArg (got I c) (show wc 18 = 2 by decide)).trans (got_2 I c))) $$ Hxs0
  rw [wp_ret]; imodintro
  iapply Hk
  isplitl [HSt]; · iexact HSt
  isplitl [Hor5]; · iexact Hor5
  isplitl [Hor6]; · iexact Hor6
  iexact Hxs0

set_option maxRecDepth 65536 in
/-- Part 44 of the body. -/
theorem part_44 {Kt : (PUnit) → sProp 𝕄} (c : Dev nD)   :
    iprop(St I c 26 19)
      ⊢ iprop(((St I c 26 23 ∗ sCs c 0 (fill (CS I c)) ∗ sPt c 0 (fill (PT I c)) ∗ sXs c 1 (fill (XS I c)) ∗ sCs c 1 (fill (CS I c))) -∗ Kt ⟨⟩)
          -∗ wp frame (wpE (defs₀ (F := F)) 𝒱₀ (c : Thread nD τ) none) Set.univ
            (k0_part44 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 ) Kt) := by
  rw [k0_part44_eq_skeleton]; unfold k0_part44_skel
  simp only [Prog.lift, Prog.bind_op, Prog.bind_ret, Prog.pure_eq_ret, wp_deviceId, semSignalWord, semWaitWord]
  iintro HSt Hk
  iapply (wp_wt I c 26 19 (by decide) (by decide +kernel) (sm := SemLoc.dma _) (by decide) (by exact ex_w19) (wpE_waitDma2_eq 𝒱₀ (c : Thread nD τ) none Set.univ)) $$ [HSt]
  · iexact HSt
  iintro ⟨HSt, Hcs0⟩
  ihave Hcs0 := (Entails.of_eq ((congrArg (got I c) (show wc 19 = 5 by decide)).trans (got_5 I c))) $$ Hcs0
  iapply (wp_wt I c 26 20 (by decide) (by decide +kernel) (sm := SemLoc.dma _) (by decide) (by exact ex_w20) (wpE_waitDma2_eq 𝒱₀ (c : Thread nD τ) none Set.univ)) $$ [HSt]
  · iexact HSt
  iintro ⟨HSt, Hpt0⟩
  ihave Hpt0 := (Entails.of_eq ((congrArg (got I c) (show wc 20 = 14 by decide)).trans (got_14 I c))) $$ Hpt0
  iapply (wp_wt I c 26 21 (by decide) (by decide +kernel) (sm := SemLoc.dma _) (by decide) (by exact ex_w21) (wpE_waitDma2_eq 𝒱₀ (c : Thread nD τ) none Set.univ)) $$ [HSt]
  · iexact HSt
  iintro ⟨HSt, Hxs1⟩
  ihave Hxs1 := (Entails.of_eq ((congrArg (got I c) (show wc 21 = 3 by decide)).trans (got_3 I c))) $$ Hxs1
  iapply (wp_wt I c 26 22 (by decide) (by decide +kernel) (sm := SemLoc.dma _) (by decide) (by exact ex_w22) (wpE_waitDma2_eq 𝒱₀ (c : Thread nD τ) none Set.univ)) $$ [HSt]
  · iexact HSt
  iintro ⟨HSt, Hcs1⟩
  ihave Hcs1 := (Entails.of_eq ((congrArg (got I c) (show wc 22 = 6 by decide)).trans (got_6 I c))) $$ Hcs1
  rw [wp_ret]; imodintro
  iapply Hk
  isplitl [HSt]; · iexact HSt
  isplitl [Hcs0]; · iexact Hcs0
  isplitl [Hpt0]; · iexact Hpt0
  isplitl [Hxs1]; · iexact Hxs1
  iexact Hcs1

set_option maxRecDepth 65536 in
/-- Part 45 of the body. -/
theorem part_45 {Kt : (PUnit) → sProp 𝕄} (c : Dev nD)   :
    iprop(St I c 26 23)
      ⊢ iprop(((St I c 26 26 ∗ sPt c 1 (fill (PT I c)) ∗ sXs c 2 (fill (XS I c)) ∗ sCs c 2 (fill (CS I c))) -∗ Kt ⟨⟩)
          -∗ wp frame (wpE (defs₀ (F := F)) 𝒱₀ (c : Thread nD τ) none) Set.univ
            (k0_part45 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 ) Kt) := by
  rw [k0_part45_eq_skeleton]; unfold k0_part45_skel
  simp only [Prog.lift, Prog.bind_op, Prog.bind_ret, Prog.pure_eq_ret, wp_deviceId, semSignalWord, semWaitWord]
  iintro HSt Hk
  iapply (wp_wt I c 26 23 (by decide) (by decide +kernel) (sm := SemLoc.dma _) (by decide) (by exact ex_w23) (wpE_waitDma2_eq 𝒱₀ (c : Thread nD τ) none Set.univ)) $$ [HSt]
  · iexact HSt
  iintro ⟨HSt, Hpt1⟩
  ihave Hpt1 := (Entails.of_eq ((congrArg (got I c) (show wc 23 = 15 by decide)).trans (got_15 I c))) $$ Hpt1
  iapply (wp_wt I c 26 24 (by decide) (by decide +kernel) (sm := SemLoc.dma _) (by decide) (by exact ex_w24) (wpE_waitDma2_eq 𝒱₀ (c : Thread nD τ) none Set.univ)) $$ [HSt]
  · iexact HSt
  iintro ⟨HSt, Hxs2⟩
  ihave Hxs2 := (Entails.of_eq ((congrArg (got I c) (show wc 24 = 4 by decide)).trans (got_4 I c))) $$ Hxs2
  iapply (wp_wt I c 26 25 (by decide) (by decide +kernel) (sm := SemLoc.dma _) (by decide) (by exact ex_w25) (wpE_waitDma2_eq 𝒱₀ (c : Thread nD τ) none Set.univ)) $$ [HSt]
  · iexact HSt
  iintro ⟨HSt, Hcs2⟩
  ihave Hcs2 := (Entails.of_eq ((congrArg (got I c) (show wc 25 = 7 by decide)).trans (got_7 I c))) $$ Hcs2
  rw [wp_ret]; imodintro
  iapply Hk
  isplitl [HSt]; · iexact HSt
  isplitl [Hpt1]; · iexact Hpt1
  isplitl [Hxs2]; · iexact Hxs2
  iexact Hcs2

set_option maxRecDepth 65536 in
/-- Part 46 of the body. -/
theorem part_46 {Kt : (PUnit) → sProp 𝕄} (c : Dev nD)   :
    iprop(St I c 26 26)
      ⊢ iprop(((St I c 26 32 ∗ sPt c 2 (fill (PT I c)) ∗ sOq c (r8 c) (Transfers.shareTok fullShare 7 0) (OUT I c) ∗ sOq c (r8 c) (Transfers.shareTok fullShare 7 1) (OUT I c) ∗ sOq c (r8 c) (Transfers.shareTok fullShare 7 2) (OUT I c) ∗ sOq c (r8 c) (Transfers.shareTok fullShare 7 3) (OUT I c) ∗ sOq c (r8 c) (Transfers.shareTok fullShare 7 4) (OUT I c)) -∗ Kt ⟨⟩)
          -∗ wp frame (wpE (defs₀ (F := F)) 𝒱₀ (c : Thread nD τ) none) Set.univ
            (k0_part46 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 (c)) Kt) := by
  rw [k0_part46_eq_skeleton]; unfold k0_part46_skel
  simp only [Prog.lift, Prog.bind_op, Prog.bind_ret, Prog.pure_eq_ret, wp_deviceId, semSignalWord, semWaitWord]
  iintro HSt Hk
  iapply (wp_wt I c 26 26 (by decide) (by decide +kernel) (sm := SemLoc.dma _) (by decide) (by exact ex_w26) (wpE_waitDma2_eq 𝒱₀ (c : Thread nD τ) none Set.univ)) $$ [HSt]
  · iexact HSt
  iintro ⟨HSt, Hpt2⟩
  ihave Hpt2 := (Entails.of_eq ((congrArg (got I c) (show wc 26 = 16 by decide)).trans (got_16 I c))) $$ Hpt2
  iapply (wp_wt I c 26 27 (by decide) (by decide +kernel) (sm := SemLoc.dma _) (by decide) (by exact ex_w27) (wpE_waitDma2_eq 𝒱₀ (c : Thread nD τ) none Set.univ)) $$ [HSt]
  · iexact HSt
  iintro ⟨HSt, Hos0⟩
  ihave Hos0 := (Entails.of_eq ((congrArg (got I c) (show wc 27 = 20 by decide)).trans (got_20 I c))) $$ Hos0
  iapply (wp_wt I c 26 28 (by decide) (by decide +kernel) (sm := SemLoc.dma _) (by decide) (by exact ex_w28) (wpE_waitDma2_eq 𝒱₀ (c : Thread nD τ) none Set.univ)) $$ [HSt]
  · iexact HSt
  iintro ⟨HSt, Hos1⟩
  ihave Hos1 := (Entails.of_eq ((congrArg (got I c) (show wc 28 = 21 by decide)).trans (got_21 I c))) $$ Hos1
  iapply (wp_wt I c 26 29 (by decide) (by decide +kernel) (sm := SemLoc.dma _) (by decide) (by exact ex_w29) (wpE_waitDma2_eq 𝒱₀ (c : Thread nD τ) none Set.univ)) $$ [HSt]
  · iexact HSt
  iintro ⟨HSt, Hos2⟩
  ihave Hos2 := (Entails.of_eq ((congrArg (got I c) (show wc 29 = 22 by decide)).trans (got_22 I c))) $$ Hos2
  iapply (wp_wt I c 26 30 (by decide) (by decide +kernel) (sm := SemLoc.dma _) (by decide) (by exact ex_w30) (wpE_waitDma2_eq 𝒱₀ (c : Thread nD τ) none Set.univ)) $$ [HSt]
  · iexact HSt
  iintro ⟨HSt, Hos3⟩
  ihave Hos3 := (Entails.of_eq ((congrArg (got I c) (show wc 30 = 23 by decide)).trans (got_23 I c))) $$ Hos3
  iapply (wp_wt I c 26 31 (by decide) (by decide +kernel) (sm := SemLoc.dma _) (by decide) (by exact ex_w31) (wpE_waitDma2_eq 𝒱₀ (c : Thread nD τ) none Set.univ)) $$ [HSt]
  · iexact HSt
  iintro ⟨HSt, Hos4⟩
  ihave Hos4 := (Entails.of_eq ((congrArg (got I c) (show wc 31 = 24 by decide)).trans (got_24 I c))) $$ Hos4
  rw [wp_ret]; imodintro
  iapply Hk
  isplitl [HSt]; · iexact HSt
  isplitl [Hpt2]; · iexact Hpt2
  isplitl [Hos0]; · iexact Hos0
  isplitl [Hos1]; · iexact Hos1
  isplitl [Hos2]; · iexact Hos2
  isplitl [Hos3]; · iexact Hos3
  iexact Hos4

end Cert.KernelIdeal.Hand
-- ==== Proof.Body.lean ====
/-
# The whole body
-/
module

public import proofs.«01_k».proof.Proof.Split
public import proofs.«01_k».proof.Proof.Parts1
public import proofs.«01_k».proof.Proof.Parts2
public import proofs.«01_k».proof.Proof.Parts3
public import proofs.«01_k».proof.Proof.Parts4

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F)

/-- Signal 0 to the barrier hands over slot 2 of the received rows and codes and slot 0 of the results. -/
theorem pay_0 (c : Dev nD) : pay I 0 c = iprop((∃ f, sXg c 2 f) ∗ (∃ f, sCg c 2 f) ∗ (∃ f, sAc c 0 f)) := rfl
/-- Signal 1 to the barrier hands over slot 1 of the received rows and codes and slot 1 of the results. -/
theorem pay_1 (c : Dev nD) : pay I 1 c = iprop((∃ f, sXg c 1 f) ∗ (∃ f, sCg c 1 f) ∗ (∃ f, sAc c 1 f)) := rfl
/-- Signal 2 to the barrier hands over slot 0 of the received rows and codes and slot 2 of the results. -/
theorem pay_2 (c : Dev nD) : pay I 2 c = iprop((∃ f, sXg c 0 f) ∗ (∃ f, sCg c 0 f) ∗ (∃ f, sAc c 2 f)) := rfl
/-- Signal 3 hands over the rows of the result that the device 1 further among the eight will fill. -/
theorem pay_3 (c : Dev nD) : pay I 3 c = iprop(∃ f, sO c (r8 (rq 1 c)) f) := rfl
/-- Signal 4 hands over the rows of the result that the device 2 further among the eight will fill. -/
theorem pay_4 (c : Dev nD) : pay I 4 c = iprop(∃ f, sO c (r8 (rq 2 c)) f) := rfl
/-- Signal 5 hands over the rows of the result that the device 3 further among the eight will fill. -/
theorem pay_5 (c : Dev nD) : pay I 5 c = iprop(∃ f, sO c (r8 (rq 3 c)) f) := rfl
/-- Signal 6 hands over the rows of the result that the device 4 further among the eight will fill. -/
theorem pay_6 (c : Dev nD) : pay I 6 c = iprop(∃ f, sO c (r8 (rq 4 c)) f) := rfl
/-- Signal 7 hands over the rows of the result that the device 5 further among the eight will fill. -/
theorem pay_7 (c : Dev nD) : pay I 7 c = iprop(∃ f, sO c (r8 (rq 5 c)) f) := rfl
/-- Signal 8 hands over the rows of the result that the device 6 further among the eight will fill. -/
theorem pay_8 (c : Dev nD) : pay I 8 c = iprop(∃ f, sO c (r8 (rq 6 c)) f) := rfl
/-- Signal 9 hands over the rows of the result that the device 7 further among the eight will fill. -/
theorem pay_9 (c : Dev nD) : pay I 9 c = iprop(∃ f, sO c (r8 (rq 7 c)) f) := rfl

/-- The scratch buffers, with whatever they hold. -/
def scr (c : Dev nD) : sProp 𝕄 := iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f))

set_option maxRecDepth 65536 in
set_option maxHeartbeats 4000000 in
/-- The body on device `c`: from its state at the start, the arguments' blocks, the scratch buffers and the result's, it comes to
its last state with the result holding `OUT`. -/
theorem body_run {Kt : PUnit → sProp 𝕄} (c : Dev nD) :
    iprop(St I c 0 0 ∗ hX I c ∗ hA I c ∗ hW1 I c ∗ hW2 I c ∗ scr c ∗ (∃ f : Buf (Elt F) ((c : Thread nD τ).loc cc0_stg4_0), ((c : Thread nD τ).loc cc0_stg4_0) ↦{fullShare} f))
      ⊢ iprop(((St I c 26 34 ∗ hX I c ∗ hA I c ∗ hW1 I c ∗ hW2 I c ∗ scr c ∗ ((c : Thread nD τ).loc cc0_stg4_0) ↦{fullShare} OUT I c) -∗ Kt ⟨⟩)
          -∗ wp frame (wpE (defs₀ (F := F)) 𝒱₀ (c : Thread nD τ) none) Set.univ
            (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15) Kt) := by
  rw [cc0_body_eq_skeleton]; unfold cc0_body_skel scr
  iintro ⟨HSt, HhX, HhA, HhW1, HhW2, ⟨⟨%fxs, Hxs⟩, ⟨%fcs, Hcs⟩, ⟨%fxg, Hxg⟩, ⟨%fcg, Hcg⟩, ⟨%fac, Hac⟩, ⟨%fpt, Hpt⟩, ⟨%fpm, Hpm⟩⟩, ⟨%fo, Ho⟩⟩ Hk
  ihave Hxs := (split_xs c fxs) $$ Hxs
  icases Hxs with ⟨Hxs0, Hxs1, Hxs2⟩
  ihave Hcs := (split_cs c fcs) $$ Hcs
  icases Hcs with ⟨Hcs0, Hcs1, Hcs2⟩
  ihave Hxg := (split_xg c fxg) $$ Hxg
  icases Hxg with ⟨Hxg0, Hxg1, Hxg2⟩
  ihave Hcg := (split_cg c fcg) $$ Hcg
  icases Hcg with ⟨Hcg0, Hcg1, Hcg2⟩
  ihave Hac := (split_ac c fac) $$ Hac
  icases Hac with ⟨Hac0, Hac1, Hac2⟩
  ihave Hpt := (split_pt c fpt) $$ Hpt
  icases Hpt with ⟨Hpt0, Hpt1, Hpt2⟩
  ihave Hpm := (split_pm c fpm) $$ Hpm
  icases Hpm with ⟨Hpm0, Hpm1, Hpm2, Hpm3⟩
  ihave Ho := (Entails.of_eq (blocks_o c fo)) $$ Ho
  icases Ho with ⟨Ho, Hpay3, Hpay4, Hpay5, Hpay6, Hpay7, Hpay8, Hpay9⟩
  ihave Hpay0 := (Entails.of_eq (pay_0 I c).symm) $$ [Hxg2 Hcg2 Hac0]
  · isplitl [Hxg2]; · iexists fxg; iexact Hxg2
    isplitl [Hcg2]; · iexists fcg; iexact Hcg2
    iexists fac; iexact Hac0
  ihave Hpay1 := (Entails.of_eq (pay_1 I c).symm) $$ [Hxg1 Hcg1 Hac1]
  · isplitl [Hxg1]; · iexists fxg; iexact Hxg1
    isplitl [Hcg1]; · iexists fcg; iexact Hcg1
    iexists fac; iexact Hac1
  ihave Hpay2 := (Entails.of_eq (pay_2 I c).symm) $$ [Hxg0 Hcg0 Hac2]
  · isplitl [Hxg0]; · iexists fxg; iexact Hxg0
    isplitl [Hcg0]; · iexists fcg; iexact Hcg0
    iexists fac; iexact Hac2
  ihave Hpay3 := (Entails.of_eq (pay_3 I c).symm) $$ [Hpay3]
  · iexists fo; iexact Hpay3
  ihave Hpay4 := (Entails.of_eq (pay_4 I c).symm) $$ [Hpay4]
  · iexists fo; iexact Hpay4
  ihave Hpay5 := (Entails.of_eq (pay_5 I c).symm) $$ [Hpay5]
  · iexists fo; iexact Hpay5
  ihave Hpay6 := (Entails.of_eq (pay_6 I c).symm) $$ [Hpay6]
  · iexists fo; iexact Hpay6
  ihave Hpay7 := (Entails.of_eq (pay_7 I c).symm) $$ [Hpay7]
  · iexists fo; iexact Hpay7
  ihave Hpay8 := (Entails.of_eq (pay_8 I c).symm) $$ [Hpay8]
  · iexists fo; iexact Hpay8
  ihave Hpay9 := (Entails.of_eq (pay_9 I c).symm) $$ [Hpay9]
  · iexists fo; iexact Hpay9
  rw [wp_bind]
  iapply (part_1 I c ) $$ [HSt HhA]
  · isplitl [HSt]; · iexact HSt
    iexact HhA
  iintro %_v0 %_v1 %_v2 %_v3 ⟨HSt, HhA⟩
  rw [wp_bind]
  iapply (part_2 I c _) $$ [HSt]
  · iexact HSt
  iintro %_v0 %_v1 %_v2 %_v3 HSt
  rw [wp_bind]
  iapply (part_3 I c _ _ _ _ _ _ _) $$ [HSt Hpay0 Hpay1]
  · isplitl [HSt]; · iexact HSt
    isplitl [Hpay0]; · iexact Hpay0
    iexact Hpay1
  iintro %_v0 %_v1 %_v2 %_v3 HSt
  rw [wp_bind]
  iapply (part_4 I c _ _ _ _ _ _ _) $$ [HSt Hpay2]
  · isplitl [HSt]; · iexact HSt
    iexact Hpay2
  iintro %_v0 %_v1 %_v2 %_v3 HSt
  rw [wp_bind]
  iapply (part_5 I c _ _ _ _ _ _) $$ [HSt Hpay3]
  · isplitl [HSt]; · iexact HSt
    iexact Hpay3
  iintro %_v0 %_v1 %_v2 %_v3 %_v4 %_v5 HSt
  rw [wp_bind]
  iapply (part_6 I c _ _ _ _ _ _ _ _) $$ [HSt Hpay4]
  · isplitl [HSt]; · iexact HSt
    iexact Hpay4
  iintro %_v0 %_v1 %_v2 %_v3 HSt
  rw [wp_bind]
  iapply (part_7 I c _ _ _ _ _ _) $$ [HSt Hpay5]
  · isplitl [HSt]; · iexact HSt
    iexact Hpay5
  iintro %_v0 %_v1 %_v2 %_v3 HSt
  rw [wp_bind]
  iapply (part_8 I c _ _ _ _ _) $$ [HSt Hpay6]
  · isplitl [HSt]; · iexact HSt
    iexact Hpay6
  iintro %_v0 HSt
  rw [wp_bind]
  iapply (part_9 I c _ _) $$ [HSt]
  · iexact HSt
  iintro %_v0 %_v1 HSt
  rw [wp_bind]
  iapply (part_10 I c _ _ _ _) $$ [HSt Hpay7]
  · isplitl [HSt]; · iexact HSt
    iexact Hpay7
  iintro %_v0 %_v1 %_v2 %_v3 %_v4 HSt
  rw [wp_bind]
  iapply (part_11 I c _ _ _ _ _ _ _) $$ [HSt Hpay8]
  · isplitl [HSt]; · iexact HSt
    iexact Hpay8
  iintro %_v0 %_v1 %_v2 %_v3 HSt
  rw [wp_bind]
  iapply (part_12 I c _ _ _ _ _) $$ [HSt Hpay9]
  · isplitl [HSt]; · iexact HSt
    iexact Hpay9
  iintro  ⟨HSt, Hgot0⟩
  ihave Hgot0 := (got_0 I c) $$ Hgot0
  icases Hgot0 with ⟨⟨⟨%ftx2, Htx2⟩, ⟨%ftc2, Htc2⟩, ⟨%ftp0, Htp0⟩⟩, ⟨⟨%ftx1, Htx1⟩, ⟨%ftc1, Htc1⟩, ⟨%ftp1, Htp1⟩⟩, ⟨⟨%ftx0, Htx0⟩, ⟨%ftc0, Htc0⟩, ⟨%ftp2, Htp2⟩⟩⟩
  rw [wp_bind]
  iapply (part_13 I c fxs fcs fxs) $$ [HSt HhX Hxs0 Hcs0 Hxs1]
  · isplitl [HSt]; · iexact HSt
    isplitl [HhX]; · iexact HhX
    isplitl [Hxs0]; · iexact Hxs0
    isplitl [Hcs0]; · iexact Hcs0
    iexact Hxs1
  iintro  ⟨HSt, HhX, Hxs0, Hcs0, Hxs1⟩
  rw [wp_bind]
  iapply (part_14 I c fxs fcs fxs fcs _) $$ [HSt Hxs1 Hcs1 HhX Hxs2 Hcs2]
  · isplitl [HSt]; · iexact HSt
    isplitl [Hxs1]; · iexact Hxs1
    isplitl [Hcs1]; · iexact Hcs1
    isplitl [HhX]; · iexact HhX
    isplitl [Hxs2]; · iexact Hxs2
    iexact Hcs2
  iintro %_v0 %_v1 %_v2 ⟨HSt, Hxs1, Hcs1, HhX, Hxs2, Hcs2⟩
  rw [wp_bind]
  iapply (part_15 I c ftx0 _ _ _ _ _) $$ [HSt Hxs0 Htx0]
  · isplitl [HSt]; · iexact HSt
    isplitl [Hxs0]; · iexact Hxs0
    iexact Htx0
  iintro %_v0 HSt
  rw [wp_bind]
  iapply (part_16 I c ftc0 ftx1 _ _ _) $$ [HSt Hcs0 Htc0 Hxs1 Htx1]
  · isplitl [HSt]; · iexact HSt
    isplitl [Hcs0]; · iexact Hcs0
    isplitl [Htc0]; · iexact Htc0
    isplitl [Hxs1]; · iexact Hxs1
    iexact Htx1
  iintro %_v0 %_v1 %_v2 HSt
  rw [wp_bind]
  iapply (part_17 I c ftc1 ftx2 _ _ _ _ _) $$ [HSt Hcs1 Htc1 Hxs2 Htx2]
  · isplitl [HSt]; · iexact HSt
    isplitl [Hcs1]; · iexact Hcs1
    isplitl [Htc1]; · iexact Htc1
    isplitl [Hxs2]; · iexact Hxs2
    iexact Htx2
  iintro %_v0 HSt
  rw [wp_bind]
  iapply (part_18 I c ftc2 _ _ _) $$ [HSt Hcs2 Htc2]
  · isplitl [HSt]; · iexact HSt
    isplitl [Hcs2]; · iexact Hcs2
    iexact Htc2
  iintro  HSt
  rw [wp_bind]
  iapply (part_19 I c fpm fpm fpm) $$ [HSt Hpm0 Hpm1 Hpm2]
  · isplitl [HSt]; · iexact HSt
    isplitl [Hpm0]; · iexact Hpm0
    isplitl [Hpm1]; · iexact Hpm1
    iexact Hpm2
  iintro  ⟨HSt, Hpm0, Hpm1, Hpm2⟩
  rw [wp_bind]
  iapply (part_20 I c fpm) $$ [HSt Hpm3 HhX Hpm0 HhW1 HhW2]
  · isplitl [HSt]; · iexact HSt
    isplitl [Hpm3]; · iexact Hpm3
    isplitl [HhX]; · iexact HhX
    isplitl [Hpm0]; · iexact Hpm0
    isplitl [HhW1]; · iexact HhW1
    iexact HhW2
  iintro  ⟨HSt, Hpm3, HhX, Hpm0, HhW1, HhW2⟩
  rw [wp_bind]
  iapply (part_21 I c _ _ _) $$ [HSt HhW2]
  · isplitl [HSt]; · iexact HSt
    iexact HhW2
  iintro  ⟨HSt, HhW2, Hxg0⟩
  rw [wp_bind]
  iapply (part_22 I c _ _ _) $$ [HSt Hxg0 HhW1 HhW2]
  · isplitl [HSt]; · iexact HSt
    isplitl [Hxg0]; · iexact Hxg0
    isplitl [HhW1]; · iexact HhW1
    iexact HhW2
  iintro  ⟨HSt, Hcg0, Hxg0, HhW1, HhW2⟩
  rw [wp_bind]
  iapply (part_23 I c fpt _ _) $$ [HSt HhW2 Hpt0]
  · isplitl [HSt]; · iexact HSt
    isplitl [HhW2]; · iexact HhW2
    iexact Hpt0
  iintro %_v0 %_v1 %_v2 ⟨HSt, HhW2, Hpt0⟩
  rw [wp_bind]
  iapply (part_24 I c ftp0 _ _ _ _ _) $$ [HSt Hpt0 Htp0]
  · isplitl [HSt]; · iexact HSt
    isplitl [Hpt0]; · iexact Hpt0
    iexact Htp0
  iintro  ⟨HSt, Hxg1⟩
  rw [wp_bind]
  iapply (part_25 I c ) $$ [HSt Hxg1 HhW1 HhW2]
  · isplitl [HSt]; · iexact HSt
    isplitl [Hxg1]; · iexact Hxg1
    isplitl [HhW1]; · iexact HhW1
    iexact HhW2
  iintro  ⟨HSt, Hcg1, Hxg1, HhW1, HhW2⟩
  rw [wp_bind]
  iapply (part_26 I c fpt ftp1 _ _ _) $$ [HSt Hpt1 Htp1]
  · isplitl [HSt]; · iexact HSt
    isplitl [Hpt1]; · iexact Hpt1
    iexact Htp1
  iintro %_v0 HSt
  rw [wp_bind]
  iapply (part_27 I c _ _ _) $$ [HSt]
  · iexact HSt
  iintro  ⟨HSt, Hxg2, Hcg2⟩
  rw [wp_bind]
  iapply (part_28 I c fpt _) $$ [HSt HhW1 HhW2 Hpt2]
  · isplitl [HSt]; · iexact HSt
    isplitl [HhW1]; · iexact HhW1
    isplitl [HhW2]; · iexact HhW2
    iexact Hpt2
  iintro %_v0 %_v1 %_v2 ⟨HSt, HhW1, HhW2, Hpt2⟩
  rw [wp_bind]
  iapply (part_29 I c ftp2 _ _ _ _ _ _) $$ [HSt Hpt2 Htp2]
  · isplitl [HSt]; · iexact HSt
    isplitl [Hpt2]; · iexact Hpt2
    iexact Htp2
  iintro %_v0 HSt
  rw [wp_bind]
  iapply (part_30 I c _ _ _) $$ [HSt Hpm1 Hpm2]
  · isplitl [HSt]; · iexact HSt
    isplitl [Hpm1]; · iexact Hpm1
    iexact Hpm2
  iintro  ⟨HSt, Hac0, Hpm1, Hac1, Hpm2⟩
  rw [wp_bind]
  iapply (part_31 I c fo _ _ _ _) $$ [HSt Hpm3 Ho]
  · isplitl [HSt]; · iexact HSt
    isplitl [Hpm3]; · iexact Hpm3
    iexact Ho
  iintro %_v0 %_v1 %_v2 ⟨HSt, Hac2, Hpm3, Ho, Hgot1⟩
  ihave Hgot1 := (got_1 I c) $$ Hgot1
  icases Hgot1 with ⟨⟨%fto6, Hto6⟩, ⟨%fto5, Hto5⟩, ⟨%fto4, Hto4⟩, ⟨%fto3, Hto3⟩, ⟨%fto2, Hto2⟩, ⟨%fto1, Hto1⟩, ⟨%fto0, Hto0⟩⟩
  ihave Ho := (split_os c (OUT I c)) $$ Ho
  icases Ho with ⟨Ho, Hos0, Hos1, Hos2, Hos3, Hos4, Hos5, Hos6⟩
  rw [wp_bind]
  iapply (part_32 I c _ _ _ _ _) $$ [HSt]
  · iexact HSt
  iintro %_v0 %_v1 HSt
  rw [wp_bind]
  iapply (part_33 I c fto0 _) $$ [HSt Hos0 Hto0]
  · isplitl [HSt]; · iexact HSt
    isplitl [Hos0]; · iexact Hos0
    iexact Hto0
  iintro %_v0 %_v1 %_v2 %_v3 HSt
  rw [wp_bind]
  iapply (part_34 I c fto1 _ _ _ _ _ _) $$ [HSt Hos1 Hto1]
  · isplitl [HSt]; · iexact HSt
    isplitl [Hos1]; · iexact Hos1
    iexact Hto1
  iintro %_v0 %_v1 %_v2 %_v3 %_v4 %_v5 HSt
  rw [wp_bind]
  iapply (part_35 I c fto2 _ _ _ _ _ _ _) $$ [HSt Hos2 Hto2]
  · isplitl [HSt]; · iexact HSt
    isplitl [Hos2]; · iexact Hos2
    iexact Hto2
  iintro %_v0 %_v1 %_v2 %_v3 HSt
  rw [wp_bind]
  iapply (part_36 I c _ _ _) $$ [HSt]
  · iexact HSt
  iintro %_v0 %_v1 %_v2 %_v3 HSt
  rw [wp_bind]
  iapply (part_37 I c fto3 _ _ _ _ _) $$ [HSt Hos3 Hto3]
  · isplitl [HSt]; · iexact HSt
    isplitl [Hos3]; · iexact Hos3
    iexact Hto3
  iintro %_v0 %_v1 %_v2 %_v3 HSt
  rw [wp_bind]
  iapply (part_38 I c fto4 _ _ _ _ _ _) $$ [HSt Hos4 Hto4]
  · isplitl [HSt]; · iexact HSt
    isplitl [Hos4]; · iexact Hos4
    iexact Hto4
  iintro %_v0 %_v1 %_v2 %_v3 HSt
  rw [wp_bind]
  iapply (part_39 I c _ _ _ _) $$ [HSt]
  · iexact HSt
  iintro %_v0 %_v1 HSt
  rw [wp_bind]
  iapply (part_40 I c fto5 _) $$ [HSt Hos5 Hto5]
  · isplitl [HSt]; · iexact HSt
    isplitl [Hos5]; · iexact Hos5
    iexact Hto5
  iintro %_v0 %_v1 %_v2 %_v3 %_v4 %_v5 HSt
  rw [wp_bind]
  iapply (part_41 I c fto6 _ _ _ _ _ _ _ _ _ _ _) $$ [HSt Hos6 Hto6]
  · isplitl [HSt]; · iexact HSt
    isplitl [Hos6]; · iexact Hos6
    iexact Hto6
  iintro %_v0 ⟨HSt, Hor0⟩
  rw [wp_bind]
  iapply (part_42 I c _ _ _ _ _ _ _) $$ [HSt]
  · iexact HSt
  iintro  ⟨HSt, Hor1, Hor2, Hor3, Hor4⟩
  rw [wp_bind]
  iapply (part_43 I c _ _ _ _ _) $$ [HSt]
  · iexact HSt
  iintro  ⟨HSt, Hor5, Hor6, Hxs0⟩
  rw [wp_bind]
  iapply (part_44 I c ) $$ [HSt]
  · iexact HSt
  iintro  ⟨HSt, Hcs0, Hpt0, Hxs1, Hcs1⟩
  rw [wp_bind]
  iapply (part_45 I c ) $$ [HSt]
  · iexact HSt
  iintro  ⟨HSt, Hpt1, Hxs2, Hcs2⟩
  rw [wp_bind]
  iapply (part_46 I c ) $$ [HSt]
  · iexact HSt
  iintro  ⟨HSt, Hpt2, Hos0, Hos1, Hos2, Hos3, Hos4⟩
  simp only [Prog.lift, Prog.bind_op, Prog.bind_ret, Prog.pure_eq_ret]
  iapply (wp_wt I c 26 32 (by decide) (by decide +kernel) (sm := SemLoc.dma _) (by decide) (by exact ex_w32) (wpE_waitDma2_eq 𝒱₀ (c : Thread nD τ) none Set.univ)) $$ [HSt]
  · iexact HSt
  iintro ⟨HSt, Hos5⟩
  ihave Hos5 := (Entails.of_eq ((congrArg (got I c) (show wc 32 = 25 by decide)).trans (got_25 I c))) $$ Hos5
  iapply (wp_wt I c 26 33 (by decide) (by decide +kernel) (sm := SemLoc.dma _) (by decide) (by exact ex_w33) (wpE_waitDma2_eq 𝒱₀ (c : Thread nD τ) none Set.univ)) $$ [HSt]
  · iexact HSt
  iintro ⟨HSt, Hos6⟩
  ihave Hos6 := (Entails.of_eq ((congrArg (got I c) (show wc 33 = 26 by decide)).trans (got_26 I c))) $$ Hos6
  rw [wp_ret]; imodintro
  iapply Hk
  isplitl [HSt]; · iexact HSt
  isplitl [HhX]; · iexact HhX
  isplitl [HhA]; · iexact HhA
  isplitl [HhW1]; · iexact HhW1
  isplitl [HhW2]; · iexact HhW2
  isplitl [Hxs0 Hxs1 Hxs2 Hcs0 Hcs1 Hcs2 Hxg0 Hxg1 Hxg2 Hcg0 Hcg1 Hcg2 Hac0 Hac1 Hac2 Hpt0 Hpt1 Hpt2 Hpm0 Hpm1 Hpm2 Hpm3]
  · isplitl [Hxs0 Hxs1 Hxs2]
    · iapply (join_xs c fxs) $$ [Hxs0 Hxs1 Hxs2]
      · isplitl [Hxs0]; · iexists _; iexact Hxs0
        isplitl [Hxs1]; · iexists _; iexact Hxs1
        iexists _; iexact Hxs2
    isplitl [Hcs0 Hcs1 Hcs2]
    · iapply (join_cs c fcs) $$ [Hcs0 Hcs1 Hcs2]
      · isplitl [Hcs0]; · iexists _; iexact Hcs0
        isplitl [Hcs1]; · iexists _; iexact Hcs1
        iexists _; iexact Hcs2
    isplitl [Hxg0 Hxg1 Hxg2]
    · iapply (join_xg c fxg) $$ [Hxg0 Hxg1 Hxg2]
      · isplitl [Hxg0]; · iexists _; iexact Hxg0
        isplitl [Hxg1]; · iexists _; iexact Hxg1
        iexists _; iexact Hxg2
    isplitl [Hcg0 Hcg1 Hcg2]
    · iapply (join_cg c fcg) $$ [Hcg0 Hcg1 Hcg2]
      · isplitl [Hcg0]; · iexists _; iexact Hcg0
        isplitl [Hcg1]; · iexists _; iexact Hcg1
        iexists _; iexact Hcg2
    isplitl [Hac0 Hac1 Hac2]
    · iapply (join_ac c fac) $$ [Hac0 Hac1 Hac2]
      · isplitl [Hac0]; · iexists _; iexact Hac0
        isplitl [Hac1]; · iexists _; iexact Hac1
        iexists _; iexact Hac2
    isplitl [Hpt0 Hpt1 Hpt2]
    · iapply (join_pt c fpt) $$ [Hpt0 Hpt1 Hpt2]
      · isplitl [Hpt0]; · iexists _; iexact Hpt0
        isplitl [Hpt1]; · iexists _; iexact Hpt1
        iexists _; iexact Hpt2
    iapply (join_pm c fpm) $$ [Hpm0 Hpm1 Hpm2 Hpm3]
    · isplitl [Hpm0]; · iexists _; iexact Hpm0
      isplitl [Hpm1]; · iexists _; iexact Hpm1
      isplitl [Hpm2]; · iexists _; iexact Hpm2
      iexists _; iexact Hpm3
  ihave Ho := (join_os c (OUT I c)) $$ [Ho Hos0 Hos1 Hos2 Hos3 Hos4 Hos5 Hos6]
  · isplitl [Ho]; · iexact Ho
    isplitl [Hos0]; · iexact Hos0
    isplitl [Hos1]; · iexact Hos1
    isplitl [Hos2]; · iexact Hos2
    isplitl [Hos3]; · iexact Hos3
    isplitl [Hos4]; · iexact Hos4
    isplitl [Hos5]; · iexact Hos5
    iexact Hos6
  iapply (Entails.of_eq (blocks_o c (OUT I c)).symm) $$ [Ho Hor6 Hor5 Hor4 Hor3 Hor2 Hor1 Hor0]
  · isplitl [Ho]; · iexact Ho
    isplitl [Hor6]; · iexact Hor6
    isplitl [Hor5]; · iexact Hor5
    isplitl [Hor4]; · iexact Hor4
    isplitl [Hor3]; · iexact Hor3
    isplitl [Hor2]; · iexact Hor2
    isplitl [Hor1]; · iexact Hor1
    iexact Hor0

end Cert.KernelIdeal.Hand
-- ==== Proof.Run.lean ====
/-
# The launch and the run

Every device starts with its entry semaphore, its own semaphores and its blocks; the tokens of the payments, minted at
the cells they raise, are dealt to the devices that make them; the run ends with every counter at zero.
-/
module

public import proofs.«01_k».proof.Proof.Body
public import proofs.«01_k».proof.Proof.Gen.KernelIdeal.Points
public import Idealize.ShloMosaic.Lib.Pipeline.CollectiveSegs

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- The blocks of the arguments on each device. -/
def ins (c : Dev nD) : Ins F where
  X := (win0_0.blk (0 : Fin 1)).view.read (Elt F) (m ((c : Thread nD τ).loc main_arg0))
  A := (win0_1.blk (0 : Fin 1)).view.read (Elt F) (m ((c : Thread nD τ).loc main_arg1))
  W1 := (win0_2.blk (0 : Fin 1)).view.read (Elt F) (m ((c : Thread nD τ).loc main_arg2))
  W2 := (win0_3.blk (0 : Fin 1)).view.read (Elt F) (m ((c : Thread nD τ).loc main_arg3))

/-! ## The proof data of the region -/

/-- What the launch's global step leaves with device `c`. -/
def dealt (c : Dev nD) : sProp 𝕄 :=
  iprop((∃ K, records (ins m) K) ∗ bigSep (toPay 0) (fun j => payTok c j) ∗ bigSep Finset.univ (fun k : Fin 34 => atPos ER (cell (c, k)) 0 ∅ 0))

/-- What the body of device `c` starts from, besides its buffers. -/
def start (c : Dev nD) : sProp 𝕄 :=
  iprop(dealt m c ∗ levAts L lv ∗ bigSep (mayWt 0 0) (fun k => cred (tallyAt (cell (c, k)) () (ex k))))

def Φ₀ (c : Dev nD) : sProp 𝕄 := iprop(start m c ∗ scr c)
def Φ₁ (c : Dev nD) : sProp 𝕄 := iprop(scr c ∗ bigSep Finset.univ (fun k : Fin 34 => semVal (cell (c, k)) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m c).X
    | ⟨1, _⟩ => (ins m c).A
    | ⟨2, _⟩ => (ins m c).W1
    | ⟨3, _⟩ => (ins m c).W2
    | ⟨4, _⟩ => OUT (ins m) c
  Φ t := match t with
    | ⟨0, _⟩ => Φ₀ m c
    | ⟨_ + 1, _⟩ => Φ₁ c
  q _ := fullShare
  owed t := match t with
    | ⟨0, _⟩ => owe c 0
    | ⟨_ + 1, _⟩ => 0

/-- To own a whole buffer at given contents is to hold it there. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt () t0_0.succ ∗ stg c cc0_stg0_0 (ins m c).X ∗ stg c cc0_stg1_0 (ins m c).A
    ∗ stg c cc0_stg2_0 (ins m c).W1 ∗ stg c cc0_stg3_0 (ins m c).W2 ∗ stg c cc0_stg4_0 (OUT (ins m) c))

/-- At the start all counters are to be waited for. -/
theorem toWait_0 : toWait 0 = Finset.univ := by decide
/-- At the start none has been waited for. -/
theorem waited_0 : waited 0 = ∅ := by decide
/-- After 34 waits all have been waited for. -/
theorem waited_34 : waited 34 = Finset.univ := by decide

/-- The state a device starts in, -/
theorem St_start (c : Dev nD) (W : Waits sig Unit) : iprop(start m c ∗ owes (c : Thread nD τ) (owe c 0) W) ⊢ St (ins m) c 0 0 := by
  unfold start dealt St
  rw [toWait_0, waited_0, bigSep_empty]
  iintro ⟨⟨⟨HK, Ht, Ha⟩, Hl, Hc⟩, HO⟩
  isplitl [HK]; · iexact HK
  isplitl [Hl]; · iexact Hl
  isplitl [HO]; · iexists W; iexact HO
  isplitl [Ht]; · iexact Ht
  isplitl [Ha]; · iexact Ha
  isplitl [Hc]; · iexact Hc
  iempintro

/-- and the one it ends in. -/
theorem St_end (I : Dev nD → Ins F) (c : Dev nD) : St I c 26 34 ⊢ iprop((∃ W, owes (c : Thread nD τ) 0 W) ∗ bigSep Finset.univ (fun k : Fin 34 => semVal (cell (c, k)) 0)) := by
  unfold St
  rw [waited_34, owe_done]
  iintro ⟨-, -, HO, -, -, -, Hv⟩
  isplitl [HO]; · iexact HO
  iexact Hv

set_option maxRecDepth 8000 in
/-- The body's run on one device, from its start to its end, in the form that the launch asks for. -/
theorem sound_body (c : Dev nD) :
    bodyPre m ρ c ⊢ wp frame (wpE (defs₀ (F := F)) 𝒱₀ (c : Thread nD τ) none) Set.univ
      (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15) (fun _ => bodyPost m ρ c) := by
  unfold bodyPre Φ₀
  iintro ⟨⟨Hs, Hscr⟩, Ho, ⟨%d0, %g0, %h0, H0⟩, ⟨%d1, %g1, %h1, H1⟩, ⟨%d2, %g2, %h2, H2⟩, ⟨%d3, %g3, %h3, H3⟩, ⟨%d4, %g4, %h4, H4⟩⟩
  have e0 : g0 = (ins m c).X := by rw [h0]; unfold Dat.before; rw [if_pos (fetch0_0 t0_0)]; rfl
  have e1 : g1 = (ins m c).A := by rw [h1]; unfold Dat.before; rw [if_pos (fetch0_1 t0_0)]; rfl
  have e2 : g2 = (ins m c).W1 := by rw [h2]; unfold Dat.before; rw [if_pos (fetch0_2 t0_0)]; rfl
  have e3 : g3 = (ins m c).W2 := by rw [h3]; unfold Dat.before; rw [if_pos (fetch0_3 t0_0)]; rfl
  subst e0 e1 e2 e3
  unfold Dat.owesAt Pipeline.owesWithin
  icases Ho with ⟨%W, %hW, HO⟩
  rw [show (dats m ρ 0 c).owed t0_0.castSucc = owe c 0 from rfl]
  iapply (body_run (ins m) c) $$ [Hs HO Hscr H0 H1 H2 H3 H4]
  · isplitl [Hs HO]
    · iapply (St_start m c W)
      isplitl [Hs] <;> iassumption
    isplitl [H0]; · unfold hX; iexact H0
    isplitl [H1]; · unfold hA; iexact H1
    isplitl [H2]; · unfold hW1; iexact H2
    isplitl [H3]; · unfold hW2; iexact H3
    isplitl [Hscr]; · iexact Hscr
    iexists g4; iexact H4
  unfold hX hA hW1 hW2
  iintro ⟨HSt, H0, H1, H2, H3, Hscr, H4⟩
  ihave He := (St_end (ins m) c) $$ HSt
  icases He with ⟨⟨%W', HO⟩, Hv⟩
  unfold bodyPost Φ₁ Dat.owesAt Pipeline.owesWithin
  rw [show (dats m ρ 0 c).owed t0_0.succ = 0 from rfl]
  isplitl [Hscr Hv]
  · isplitl [Hscr] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

set_option maxRecDepth 8000 in
/-- The library's body obligation on device `c`. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  exact sound_body m ρ c

/-! ## The launch's set-up -/

/-- The kernel's own semaphores: all but the entry one. -/
abbrev osem (k : Fin 33) : SemLoc sig := csem k.succ

/-- The kernel's own counters, listed. -/
theorem ownSemFacts : Pipeline.OwnSemFacts cfg0.spec osem := by decide +kernel

/-- Every staged block is held whole. -/
theorem share_eq (c : Dev nD) (w : Fin cfg0.W) : (dats m ρ 0 c).share w = fullShare := by unfold Dat.share; split <;> rfl

/-- The counters of all devices are different. -/
theorem cell_inj : Function.Injective (cell : Dev nD × Fin 34 → GSem nD τ sig) := by
  rintro ⟨c, k⟩ ⟨c', k'⟩ h
  have h1 : c = c' := congrArg (fun g : GSem nD τ sig => g.1.1) h
  have h2 : k = k' := csem_inj (congrArg Prod.snd h)
  rw [h1, h2]
def cells : Finset (GSem nD τ sig) := Finset.univ.map ⟨cell, cell_inj⟩

/-- The token of payment `j` as minted: at the cell of device `c` it raises. -/
abbrev tokOf (cj : Dev nD × Fin 42) : GSem nD τ sig × ℕ × Fin 42 := (cell (cj.1, cel cj.2), 0, cj.2)
/-- The tokens of all payments are different. -/
theorem tokOf_inj : Function.Injective tokOf := by
  rintro ⟨c, j⟩ ⟨c', j'⟩ h
  have h1 : c = c' := congrArg (fun x : GSem nD τ sig × ℕ × Fin 42 => x.1.1.1) h
  have h2 : j = j' := congrArg (fun x : GSem nD τ sig × ℕ × Fin 42 => x.2.2) h
  rw [h1, h2]
def tokens : Finset (GSem nD τ sig × ℕ × Fin 42) := Finset.univ.map ⟨tokOf, tokOf_inj⟩

def u₀ : UU := (initOf (Pipeline.cells cfgs cellOf_inj) (Pipeline.launchToks cfgs cellOf_inj), initOf cells tokens)

/-- The tokens minted at the cells of device `c`. -/
def minted (c : Dev nD) : sProp 𝕄 := bigSep Finset.univ fun j : Fin 42 => dutyTok ER (cell (c, cel j)) 0 j

/-- What the launch deals device `c` first. -/
def G (c : Dev nD) : sProp 𝕄 :=
  iprop((bigSep Finset.univ fun k : Fin 34 => roundState ER (Rd (ins m)) (cell (c, k)) 0)
    ∗ (bigSep Finset.univ fun k : Fin 34 => iprop(atPos ER (cell (c, k)) 0 ∅ 0 ∗ reached ER (cell (c, k)) 0)) ∗ minted c)

/-- The protocol's first state, shared out by device. -/
theorem fund_all : BI.own (ER (initOf cells tokens)) ⊢ (|==> bigSep Finset.univ (G m) : sProp 𝕄) := by
  have hX (Φ : GSem nD τ sig → sProp 𝕄) : bigSep cells Φ = bigSep Finset.univ fun c : Dev nD => bigSep Finset.univ fun k : Fin 34 => Φ (cell (c, k)) := by
    unfold cells; rw [bigSep_map, bigSep_univ_prod]; rfl
  have hT : bigSep tokens (fun x => (dutyTok ER x.1 x.2.1 x.2.2 : sProp 𝕄)) = bigSep Finset.univ fun c : Dev nD => minted c := by
    unfold tokens; rw [bigSep_map, bigSep_univ_prod]; rfl
  iintro HX
  imod (Rounds.fund ER (Rd (ins m)) cells tokens) $$ HX with ⟨Hst, Hr, Hat, Htok⟩
  imodintro
  ihave Hst := (Entails.of_eq (hX fun g => roundState ER (Rd (ins m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- The 34 counters are the first and the rest. -/
theorem fin34 : (Finset.univ : Finset (Fin 34)) = insert 0 (Finset.univ.map (Fin.succEmb 33)) := by decide

/-- A device's cells are its entry semaphore and its own semaphores. -/
theorem sems_eq (c : Dev nD) :
    (bigSep Finset.univ fun k : Fin 34 => semVal (cell (c, k)) 0 : sProp 𝕄)
      = iprop(unscopedSems0 c ∗ Pipeline.ownSems0 (Ix := Unit) (Name := ℕ) (U := UU) (Lvl := ℕ) (Val := Elt F) (τ := τ) osem c) := by
  rw [fin34, bigSep_insert (by decide), bigSep_map]
  unfold unscopedSems0 Pipeline.ownSems0
  rw [bigSep_eq_bigSepL_of_eq [SemLoc.reg (1 : Fin 2)] (by decide) (by decide)]
  rfl

/-- A device's counters at zero, with its share of the first state, become the counters' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (ins m)) κ (cell (c, k))))
          ∗ (bigSep Finset.univ fun k => iprop(atPos ER (cell (c, k)) 0 ∅ 0 ∗ reached ER (cell (c, k)) 0)) ∗ minted c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : Fin 34 => semVal (cell (c, k)) 0) ∗ bigSep Finset.univ fun k : Fin 34 => roundState ER (Rd (ins m)) (cell (c, k)) 0)
      ⊢ (|={Set.univ}=> bigSep Finset.univ fun k => iprop(∃ κ : ℕ, cellInv ER (Rd (ins m)) κ (cell (c, k))) : sProp 𝕄) from by
        rw [← bigSep_sep']
        exact (bigSep_mono fun k _ => (Rounds.body_intro ER (Rd (ins m)) (cell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The payments are the 26 that a device makes to others and the departures of the copies among them. -/
theorem all_pay : (Finset.univ : Finset (Fin 42)) = toPay 0 ∪ (toPay 10).image sd := by decide
/-- The two kinds have none in common. -/
theorem pay_disj : Disjoint (toPay 0) ((toPay 10).image sd) := by decide
/-- The copies are the payments from the tenth on. -/
theorem pay_late : (toPay 0).filter (fun j => 10 ≤ j.val) = toPay 10 := by decide
/-- Different copies have different departures. -/
theorem sd_inj : Set.InjOn sd (toPay 10) := by
  have h : ∀ a b : Fin 42, 10 ≤ a.val → a.val < 26 → 10 ≤ b.val → b.val < 26 → sd a = sd b → a = b := by decide
  intro a ha b hb e
  simp only [Finset.coe_filter, Finset.mem_univ, true_and, Set.mem_setOf_eq] at ha hb
  exact h a b ha.1 ha.2 hb.1 hb.2 e
/-- A departure is paid to the sender's own counter. -/
theorem tgt_sd : ∀ (j : Fin 42) (c : Dev nD), 10 ≤ j.val → j.val < 26 → tgt (sd j) c = c := by decide +kernel

/-- The tokens a device pays with, all together. -/
theorem payToks_eq (c : Dev nD) : (bigSep Finset.univ fun j : Fin 42 => dutyTok ER (cell (tgt j c, cel j)) 0 j : sProp 𝕄) = bigSep (toPay 0) (fun j => payTok c j) := by
  unfold payTok
  rw [bigSep_sep', show (bigSep (toPay 0) fun j : Fin 42 => if 10 ≤ j.val then (dutyTok ER (cell (c, cel (sd j))) 0 (sd j) : sProp 𝕄) else iprop(emp))
      = bigSep (toPay 10) (fun j => dutyTok ER (cell (c, cel (sd j))) 0 (sd j)) from by rw [← pay_late]; exact (bigSep_filter _ _ _).symm, all_pay, bigSep_union pay_disj, bigSep_image_of_injOn sd_inj]
  congr 1
  refine bigSep_congr fun j hj => ?_
  simp only [Finset.mem_filter, Finset.mem_univ, true_and] at hj
  rw [tgt_sd j c hj.1 hj.2]

/-- The tokens dealt around: from the devices they are minted at to those that pay with them. -/
theorem toks_around : (bigSep Finset.univ fun c : Dev nD => (minted c : sProp 𝕄)) = bigSep Finset.univ fun c : Dev nD => bigSep (toPay 0) (fun j => payTok c j) := by
  unfold minted
  rw [bigSep_univ_comm, bigSep_congr fun j _ => bigSep_univ_equiv (tgtEquiv j) (fun c : Dev nD => (dutyTok ER (cell (c, cel j)) 0 j : sProp 𝕄)), bigSep_univ_comm]
  exact bigSep_congr fun c _ => payToks_eq c

/-- A fact that can be kept may be used for every member of a product. -/
theorem with_persistent {A : Type} [DecidableEq A] {S : Finset A} {R : sProp 𝕄} [BI.Persistent R] {Φ Ψ : A → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The tokens minted at the receivers, dealt to the payers, with the invariants of all counters given to every device. -/
theorem regroup :
    (bigSep Finset.univ fun c : Dev nD => iprop((bigSep Finset.univ fun k => iprop(∃ κ : ℕ, cellInv ER (Rd (ins m)) κ (cell (c, k))))
          ∗ (bigSep Finset.univ fun k => iprop(atPos ER (cell (c, k)) 0 ∅ 0 ∗ reached ER (cell (c, k)) 0)) ∗ minted c) : sProp 𝕄)
      ⊢ bigSep Finset.univ (dealt m) := by
  rw [bigSep_sep', bigSep_sep', ← bigSep_univ_prod (fun ck : Dev nD × Fin 34 => iprop(∃ κ : ℕ, cellInv ER (Rd (ins m)) κ (cell ck))),
    bigSep_congr (s := Finset.univ) (fun (c : Dev nD) _ => bigSep_sep' Finset.univ (fun k : Fin 34 => (atPos ER (cell (c, k)) 0 ∅ 0 : sProp 𝕄)) (fun k => reached ER (cell (c, k)) 0)),
    bigSep_sep', ← bigSep_univ_prod (fun ck : Dev nD × Fin 34 => (reached ER (cell ck) 0 : sProp 𝕄)), toks_around]
  iintro ⟨HI, ⟨Hat, #HR⟩, Htok⟩
  ihave HK := (BI.bigSep_exists_pi Finset.univ (fun (ck : Dev nD × Fin 34) (κ : ℕ) => (cellInv ER (Rd (ins m)) κ (cell ck) : sProp 𝕄))) $$ HI
  icases HK with ⟨%K, #HI⟩
  iapply (with_persistent (R := records (ins m) K) (Φ := fun c : Dev nD => iprop(bigSep (toPay 0) (fun j => payTok c j) ∗ bigSep Finset.univ (fun k : Fin 34 => atPos ER (cell (c, k)) 0 ∅ 0))) fun c _ => by
    unfold dealt
    iintro ⟨#H, Ht, Ha⟩
    isplitr; · iexists K; iexact H
    isplitl [Ht] <;> iassumption)
  isplitr
  · unfold records; isplitl; · iexact HI
    iexact HR
  · rw [bigSep_sep']
    isplitl [Htok] <;> iassumption

/-- The launch's global step: every semaphore of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (dealt m) :=
  ((bigSep_mono fun c _ => core_alloc m c).trans (bigSep_fupd _ _)).trans (BI.fupd_mono (regroup m))

/-! ### The credit at launch -/

/-- The counters that a device may wait at from the start are raised by payments of other devices alone. -/
theorem mayWt_0 : ∀ k ∈ mayWt 0 0, ∀ j : Fin 42, cel j = k → j.val < 26 := by decide +kernel

/-- What all the devices owe a cell that nobody has to raise first. -/
theorem owed_cell (c : Dev nD) (k : Fin 34) (hk : k ∈ mayWt 0 0) : ∑ d : Dev nD, owe d 0 (cell (c, k)) () = ex k := by
  have h1 : ∀ (d : Dev nD) (j : Fin 42), tallyAt (cell (tgt j d, cel j)) () (amt j) (cell (c, k)) () = if d = org j c then (if cel j = k then amt j else 0) else 0 := by
    intro d j
    rw [tallyAt_apply]
    by_cases h : cell (c, k) = cell (tgt j d, cel j)
    · have h' := cell_inj h
      have hc : c = tgt j d := congrArg Prod.fst h'
      have hk' : k = cel j := congrArg Prod.snd h'
      rw [if_pos ⟨h, rfl⟩, if_pos (by rw [hc, org_tgt]), if_pos hk'.symm]
    · rw [if_neg (fun h' => h h'.1)]
      by_cases hd : d = org j c
      · rw [if_pos hd, if_neg (fun hk' => h (by rw [hd, tgt_org, hk']))]
      · rw [if_neg hd]
  unfold owe
  simp only [Finset.sum_apply, Finsupp.finset_sum_apply, h1]
  rw [Finset.sum_comm]
  simp only [Finset.sum_ite_eq', Finset.mem_univ, if_true]
  unfold ex
  rw [← Finset.sum_filter, Finset.filter_filter]
  refine Finset.sum_congr (Finset.filter_congr fun j _ => ?_) fun _ _ => rfl
  exact ⟨fun h => h.2, fun h => ⟨⟨Nat.zero_le _, mayWt_0 k hk j h⟩, h⟩⟩

/-- What all devices owe to such a counter at the start is what it collects. -/
theorem launch_cell (c : Dev nD) (k : Fin 34) (hk : k ∈ mayWt 0 0) :
    tallyOn (cell (c, k)) (launchCredit (Pipeline.owing fun c => owe c 0) 0 (cell (c, k))) = (tallyAt (cell (c, k)) () (ex k) : CellTallies nD τ sig Unit) := by
  unfold tallyAt; refine congrArg _ (Finsupp.ext fun u => ?_); cases u
  rw [Pipeline.launchCredit_owing, Finsupp.single_eq_same, owed_cell c k hk]

/-- The credits of the launch, one for each of these counters. -/
theorem creds (c : Dev nD) :
    (Pipeline.launchCred (fun c => owe c 0) c : sProp 𝕄) ⊢ bigSep (mayWt 0 0) (fun k => cred (tallyAt (cell (c, k)) () (ex k))) := by
  unfold Pipeline.launchCred
  have h : (bigSep ((mayWt 0 0).map ⟨csem, csem_inj⟩) fun sm => cred (tallyOn ((c : Thread nD τ), sm) (launchCredit (Pipeline.owing fun c => owe c 0) 0 ((c : Thread nD τ), sm))) : sProp 𝕄)
      = bigSep (mayWt 0 0) (fun k => cred (tallyAt (cell (c, k)) () (ex k))) := by
    rw [bigSep_map]
    exact bigSep_congr fun k hk => congrArg cred (launch_cell c k hk)
  rw [← h]
  exact bigSep_subset (Finset.subset_univ _)

/-! ### The side conditions of the run -/

/-- What the launch gives a device makes up its first state. -/
theorem start_intro (c : Dev nD) :
    iprop(Pipeline.unscopedRestP Pipeline.Prefetch.none cfg0.spec c (fun b => m ((c : Thread nD τ).loc b)) ∗ levAts L lv
        ∗ Pipeline.launchCred (fun c => owe c 0) c ∗ prngReg c (ρ c) ∗ dealt m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hlev] <;> iassumption
  · iempintro

/-- With the scratch buffers it makes up what the body begins with. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs] <;> iassumption

/-- What the body ends with gives back the counters at zero and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr
  rw [sems_eq]
  iintro ⟨Hr, Hu, Ho⟩
  isplitl [Hu]; · iexact Hu
  isplitl [Ho] <;> iassumption

/-- The staging copies' counters are at level zero. -/
theorem stage_lv : ∀ w s, lv (((0 : Dev nD) : Thread nD τ), SemLoc.dma ((cfg0.win w).sem s)) () = 0 := by decide +kernel

/-- A counter that a device owes to is above level zero. -/
theorem lv_low (j : Fin 42) (h : j.val < 26) : 0 < lvk (cel j) := by revert j; decide

/-- The staging waits are allowed below all that is owed. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 fun j _ h => (stage_lv w s).trans_lt (lv_low j h)
    · show _ ⊢ MayWait (c : Thread nD τ) _ () 0
      rw [MayWait_zero]; iintro -; iempintro

/-! ### The run -/

def finalA (c : Dev nD) (w : Fin cfg0.W) : Buf (Elt F) ((cfg0.win w).arr.view.loc (c : Thread nD τ)) := (dats m ρ 0 c).arrAt w cfg0.N

/-- Where the windows' arrays end at their last contents the arguments end as they started. -/
theorem args_kept (c : Dev nD) {s : MemSt nD τ sig (Elt F)} (h : ∀ c : Dev nD, ∀ w : Fin cfg0.W, s.mem ((cfg0.win w).arr.view.loc (c : Thread nD τ)) = finalA m ρ c w) :
    s.mem ((c : Thread nD τ).loc main_arg0) = m ((c : Thread nD τ).loc main_arg0) ∧ s.mem ((c : Thread nD τ).loc main_arg1) = m ((c : Thread nD τ).loc main_arg1)
      ∧ s.mem ((c : Thread nD τ).loc main_arg2) = m ((c : Thread nD τ).loc main_arg2) ∧ s.mem ((c : Thread nD τ).loc main_arg3) = m ((c : Thread nD τ).loc main_arg3) :=
  ⟨(h c (0 : Fin 5)).trans ((dats (F := F) m ρ 0 c).arrAt_in (0 : Fin 5) rfl _), (h c (1 : Fin 5)).trans ((dats (F := F) m ρ 0 c).arrAt_in (1 : Fin 5) rfl _),
    (h c (2 : Fin 5)).trans ((dats (F := F) m ρ 0 c).arrAt_in (2 : Fin 5) rfl _), (h c (3 : Fin 5)).trans ((dats (F := F) m ρ 0 c).arrAt_in (3 : Fin 5) rfl _)⟩

set_option maxRecDepth 20000 in
/-- From any memory with zero counters every run of the 32 devices ends, with the windows' arrays at their last contents
and every counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => owe c 0) (howed₀ := fun _ => rfl) (howedN := fun _ => rfl)
    (L := L) (lv := lv) (hL := L_of_ne) (hwaits := waits m ρ)
    (G := G m) (G' := dealt m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Hand
-- ==== Proof.Picks.lean ====
/-
  Sums that pick one term, and the rank of a token among those that share its slot: the arithmetic that gathering and
  scattering by a matrix of zeros and ones comes to over the reals.
-/
module

public import Idealize.ShloMosaic.Lib.Pointwise

@[expose] public section

noncomputable section

namespace Cert.KernelIdeal.Hand

open Idealize.ShloMosaic

/-- A natural number below `2^31`, as a 32-bit word read as a float, is the number itself. -/
theorem float_word (k : ℕ) (h : k < 2 ^ 31) : (FloatOps.sitofp FTy.f32 (BitVec.ofNat 32 k) : Ideal FTy.f32) = ((k : ℕ) : EReal) := by
  show (((BitVec.ofNat 32 k).toInt : ℝ) : EReal) = _
  rw [BitVec.toInt_ofNat', Int.bmod_eq_of_le (by omega) (by omega)]
  simp

/-- Two natural numbers are the same extended real exactly when they are equal. -/
theorem nat_eq_iff (a b : ℕ) : ((a : ℕ) : EReal) = ((b : ℕ) : EReal) ↔ a = b := Nat.cast_inj

/-- A count less one is the extended real of the count less one, where the count is not zero. -/
theorem nat_sub_one (a : ℕ) (h : 0 < a) : ((a : ℕ) : EReal) - 1 = ((a - 1 : ℕ) : EReal) := by
  obtain ⟨b, rfl⟩ : ∃ b, a = b + 1 := ⟨a - 1, by omega⟩
  have e : (((b + 1 : ℕ) : ℝ) : EReal) - ((1 : ℝ) : EReal) = ((b : ℝ) : EReal) := by
    rw [← EReal.coe_sub]
    congr 1
    push_cast
    ring
  simpa using e

/-- A sum of terms weighted by zero or one, with one weight of one, is that term. -/
theorem sum_pick {n : ℕ} (p : Fin n → Prop) [DecidablePred p] (f : Fin n → EReal) (t : Fin n) (h : ∀ u, p u ↔ u = t) :
    ∑ u, (if p u then (1 : EReal) else 0) * f u = f t := by
  rw [Finset.sum_eq_single t]
  · rw [if_pos ((h t).2 rfl), one_mul]
  · intro u _ hu
    rw [if_neg fun hp => hu ((h u).1 hp), zero_mul]
  · intro ht
    exact absurd (Finset.mem_univ t) ht

/-- A sum of terms weighted by zero throughout is zero. -/
theorem sum_none {n : ℕ} (p : Fin n → Prop) [DecidablePred p] (f : Fin n → EReal) (h : ∀ u, ¬ p u) :
    ∑ u, (if p u then (1 : EReal) else 0) * f u = 0 :=
  Finset.sum_eq_zero fun u _ => by rw [if_neg (h u), zero_mul]

/-- A sum of zeros and ones is the number of ones. -/
theorem sum_count {n : ℕ} (p : Fin n → Prop) [DecidablePred p] :
    ∑ u, (if p u then (1 : EReal) else 0) = ((Finset.univ.filter p).card : EReal) := by
  rw [Finset.card_filter, Nat.cast_sum]
  exact Finset.sum_congr rfl fun u _ => by split <;> simp

/-- The tokens up to `t` that share `t`'s slot. -/
def mates (s : Fin 64 → ℕ) (t : Fin 64) : Finset (Fin 64) := Finset.univ.filter fun u => u.val ≤ t.val ∧ s u = s t

/-- The rank of token `t` among the tokens of its slot, from zero. -/
def rk (s : Fin 64 → ℕ) (t : Fin 64) : ℕ := (mates s t).card - 1

/-- A token is among those of its own place. -/
theorem mates_pos (s : Fin 64 → ℕ) (t : Fin 64) : 0 < (mates s t).card :=
  Finset.card_pos.2 ⟨t, by simp [mates]⟩

/-- Within a slot, a later token has a larger rank. -/
theorem rk_lt (s : Fin 64 → ℕ) (t u : Fin 64) (h : t.val < u.val) (hs : s t = s u) : rk s t < rk s u := by
  have hlt : (mates s t).card < (mates s u).card := by
    apply Finset.card_lt_card
    rw [Finset.ssubset_iff_of_subset]
    · exact ⟨u, by simp [mates], by simp [mates]; omega⟩
    · intro v hv
      simp only [mates, Finset.mem_filter, Finset.mem_univ, true_and] at hv ⊢
      exact ⟨by omega, hv.2.trans hs⟩
  have := mates_pos s t
  unfold rk
  omega

/-- Slot and rank together name one token. -/
theorem rk_inj (s : Fin 64 → ℕ) (t u : Fin 64) : (s u = s t ∧ rk s u = rk s t) ↔ u = t := by
  constructor
  · rintro ⟨hs, hr⟩
    rcases Nat.lt_trichotomy u.val t.val with h | h | h
    · have := rk_lt s u t h hs
      omega
    · exact Fin.ext h
    · have := rk_lt s t u h hs.symm
      omega
  · rintro rfl
    exact ⟨rfl, rfl⟩

/-- A slot with at most 32 tokens keeps every rank below 32. -/
theorem rk_cap (s : Fin 64 → ℕ) (t : Fin 64) (h : (Finset.univ.filter fun u => s u = s t).card ≤ 32) : rk s t < 32 := by
  have h1 : (mates s t).card ≤ (Finset.univ.filter fun u => s u = s t).card := by
    apply Finset.card_le_card
    intro v hv
    simp only [mates, Finset.mem_filter, Finset.mem_univ, true_and] at hv ⊢
    exact hv.2
  have := mates_pos s t
  unfold rk
  omega

/-- The rank as it is computed: over the four slots, the token's membership times the number of members up to it, less
    one. -/
theorem rank_sum (s : Fin 64 → ℕ) (hs : ∀ t, s t < 4) (t : Fin 64) :
    ∑ x : Fin 4, (if s t = x.val then (1 : EReal) else 0)
        * ∑ u : Fin 64, (if u.val ≤ t.val then if s u = x.val then (1 : EReal) else 0 else 0) - 1 = ((rk s t : ℕ) : EReal) := by
  rw [sum_pick (fun x : Fin 4 => s t = x.val) _ ⟨s t, hs t⟩ fun u => by rw [Fin.ext_iff]; exact eq_comm]
  have e : ∑ u : Fin 64, (if u.val ≤ t.val then if s u = s t then (1 : EReal) else 0 else 0)
      = ∑ u : Fin 64, (if u.val ≤ t.val ∧ s u = s t then (1 : EReal) else 0) :=
    Finset.sum_congr rfl fun u _ => by split_ifs <;> simp_all
  show ∑ u : Fin 64, (if u.val ≤ t.val then if s u = s t then (1 : EReal) else 0 else 0) - 1 = _
  rw [e, sum_count]
  exact nat_sub_one _ (mates_pos s t)

end Cert.KernelIdeal.Hand

end
-- ==== Proof.Words.lean ====
/-
# What the words and the zero-one matrices of the kernel say

The slot and expert of a token from its word, its rank among the tokens of its slot, and the matrices that gather the
tokens of a slot into rows and scatter the rows back, read at a place, over the extended reals.
-/
module

public import proofs.«01_k».proof.Proof.Values
public import proofs.«01_k».proof.Proof.Picks

@[expose] public section

set_option maxRecDepth 16384

noncomputable section

namespace Cert.KernelIdeal.Hand

open Cert.KernelIdeal Cert.KernelIdeal.Gen

open Idealize.ShloMosaic
open Idealize.ShloMosaic.TcCoe

/-- The slot of a token whose expert is number `n`, on device `c`: how many devices further along `y` that expert lives. -/
def slotN (c : Dev nD) (n : ℕ) : ℕ := (n / 2 + 4 - c.val / 4 % 4) % 4

/-- The slot tells the place of the expert along `y`. -/
theorem slotN_inj (c : Dev nD) (a b : ℕ) (ha : a < 8) (hb : b < 8) (h : slotN c a = slotN c b) : a / 2 = b / 2 := by
  unfold slotN at h
  omega

/-- A destination is below 4. -/
theorem slotN_lt (c : Dev nD) (n : ℕ) : slotN c n < 4 := Nat.mod_lt _ (by decide)

section Words

variable (c : Dev nD) (A : IVec S64 32) (n : Fin 64 → ℕ)

/-- The slot of a token, as the word the kernel computes. -/
theorem slot_word (hA : ∀ t, A (ix1 t) = BitVec.ofNat 32 (n t)) (hn : ∀ t, n t < 8) (t : Fin 64) :
    k0_pay3 (k0_pay2 (F := Ideal) c A) four (ix1 t) = BitVec.ofNat 32 (slotN c (n t)) := by
  pointwise [k0_pay3, k0_pay2, k0_pay1]
  rw [hA]
  generalize n t = k, hn t = hk
  revert c k
  decide +kernel

/-- The slot of a token, in the row of slots. -/
theorem slot_row (hA : ∀ t, A (ix1 t) = BitVec.ofNat 32 (n t)) (hn : ∀ t, n t < 8) (t : Fin 64) :
    k0_pay5 (F := Ideal) (k0_pay2 (F := Ideal) c A) four (ix2 0 t) = ((slotN c (n t) : ℕ) : EReal) := by
  have e := slot_word c A n hA hn t
  pointwise [k0_pay5]
  rw [e]
  exact float_word _ (by have := slotN_lt c (n t); omega)

/-- The slot of a token, in the column of slots. -/
theorem slot_col (hA : ∀ t, A (ix1 t) = BitVec.ofNat 32 (n t)) (hn : ∀ t, n t < 8) (t : Fin 64) :
    k0_pay4 (F := Ideal) (k0_pay2 (F := Ideal) c A) four (ix2 t 0) = ((slotN c (n t) : ℕ) : EReal) := by
  have e := slot_word c A n hA hn t
  pointwise [k0_pay4]
  rw [e]
  exact float_word _ (by have := slotN_lt c (n t); omega)

/-- Which of the two experts of its device a token goes to, counted from one. -/
theorem exp_at (hA : ∀ t, A (ix1 t) = BitVec.ofNat 32 (n t)) (hn : ∀ t, n t < 8) (t : Fin 64) :
    k0_pay6 (F := Ideal) (k0_pay1 (F := Ideal) A) (ix2 t 0) = ((n t % 2 + 1 : ℕ) : EReal) := by
  pointwise [k0_pay6, k0_pay1]
  rw [hA]
  have hk := hn t
  trans FloatOps.sitofp FTy.f32 (BitVec.ofNat 32 (n t % 2 + 1))
  · congr 1
    generalize n t = k at hk
    revert k
    decide +kernel
  · exact float_word _ (by omega)

end Words

/-- A choice by the comparison of two positions. -/
theorem sle_word (a b : Fin 64) (x y : EReal) :
    Scalar.select (IntOp.cmpi CmpIPredicate.sle (BitVec.ofNat 32 a.val) (BitVec.ofNat 32 b.val)) x y
      = if a.val ≤ b.val then x else y := by
  have e : IntOp.cmpi CmpIPredicate.sle (BitVec.ofNat 32 a.val) (BitVec.ofNat 32 b.val)
      = BitVec.ofBool (decide (a.val ≤ b.val)) := by
    revert a b
    decide +kernel
  rw [e]
  by_cases h : a.val ≤ b.val <;> simp [h, Scalar.select]

/-- A choice by two propositions at once. -/
theorem select_two (p q : Prop) [Decidable p] [Decidable q] (x y : EReal) :
    Scalar.select (IntOp.andi (BitVec.ofBool (decide p)) (BitVec.ofBool (decide q))) x y = if p ∧ q then x else y := by
  by_cases hp : p <;> by_cases hq : q <;> simp [hp, hq, Scalar.select, IntOp.andi]

/-- The float word of two is two, -/
theorem two_bits : Ideal.ofBits FTy.f32 0x40000000#32 = ((2 : ℕ) : EReal) := by
  have e : ((8388608 : ℝ) : EReal) * (((2 ^ 22)⁻¹ : ℝ) : EReal) = ((2 : ℝ) : EReal) := by
    rw [← EReal.coe_mul]
    norm_num
  simp [Ideal.ofBits, Ideal.ieee]
  exact e

/-- and that of three is three. -/
theorem three_bits : Ideal.ofBits FTy.f32 0x40400000#32 = ((3 : ℕ) : EReal) := by
  have e : ((12582912 : ℝ) : EReal) * (((2 ^ 22)⁻¹ : ℝ) : EReal) = ((3 : ℝ) : EReal) := by
    rw [← EReal.coe_mul]
    norm_num
  simp [Ideal.ofBits, Ideal.ieee]
  exact e

/-- A number is 0 over the extended reals exactly where it is 0. -/
theorem nat_eq_zero (a : ℕ) : ((a : ℕ) : EReal) = 0 ↔ a = 0 := by
  rw [← Nat.cast_zero, nat_eq_iff]

/-- A number is 1 over the extended reals exactly where it is 1. -/
theorem nat_eq_one (a : ℕ) : ((a : ℕ) : EReal) = 1 ↔ a = 1 := by
  rw [← Nat.cast_one, nat_eq_iff]

section Rank

variable (s : Fin 64 → ℕ)

/-- The rank of a token, in the row of ranks. -/
theorem rank_row (V : FVec Ideal S1x64 .f32) (hV : ∀ t, V (ix2 0 t) = ((s t : ℕ) : EReal)) (hs : ∀ t, s t < 4) (t : Fin 64) :
    k0_pay7 (F := Ideal) V (ix2 0 t) = ((rk s t : ℕ) : EReal) := by
  rw [← rank_sum s hs t]
  pointwise [k0_pay7]
  simp only [hV, sle_word]
  congr 1
  refine Finset.sum_congr rfl fun x _ => ?_
  rw [float_word _ (by omega)]
  simp only [nat_eq_iff]

/-- The rank of a token, in the column of ranks. -/
theorem rank_col (V : FVec Ideal S64x1 .f32) (hV : ∀ t, V (ix2 t 0) = ((s t : ℕ) : EReal)) (hs : ∀ t, s t < 4) (t : Fin 64) :
    k0_pay19 (F := Ideal) V (ix2 t 0) = ((rk s t : ℕ) : EReal) := by
  rw [← rank_sum s hs t]
  pointwise [k0_pay19]
  simp only [hV, sle_word]
  congr 1
  refine Finset.sum_congr rfl fun x _ => ?_
  rw [float_word _ (by omega)]
  simp only [nat_eq_iff]

end Rank

/-- The expert numbers of the tokens: the words of each device name experts below eight, and no device has more than 32
tokens for the two experts of one place along `y`. -/
structure Fits (I : Dev nD → Ins Ideal) (n : Dev nD → Fin 64 → ℕ) : Prop where
  word : ∀ c t, (I c).A (ix1 t) = BitVec.ofNat 32 (n c t)
  lt : ∀ c t, n c t < 8
  cap : ∀ c t, (Finset.univ.filter fun u => n c u / 2 = n c t / 2).card ≤ 32

section Picks

variable {I : Dev nD → Ins Ideal} {n : Dev nD → Fin 64 → ℕ} (h : Fits I n) (c : Dev nD)

/-- The slots of a device's tokens. -/
def tokSlot (n : Dev nD → Fin 64 → ℕ) (c : Dev nD) (t : Fin 64) : ℕ := slotN c (n c t)

include h

/-- The destinations as a row, at a token. -/
theorem slotR_at (t : Fin 64) : slotR I c (ix2 0 t) = ((tokSlot n c t : ℕ) : EReal) :=
  slot_row c _ _ (h.word c) (h.lt c) t

/-- The destinations as a column, at a token. -/
theorem slotC_at (t : Fin 64) : slotC I c (ix2 t 0) = ((tokSlot n c t : ℕ) : EReal) :=
  slot_col c _ _ (h.word c) (h.lt c) t

/-- The codes as a column, at a token. -/
theorem expC_at (t : Fin 64) : expC I c (ix2 t 0) = ((n c t % 2 + 1 : ℕ) : EReal) :=
  exp_at _ _ (h.word c) (h.lt c) t

/-- The ranks as a row, at a token. -/
theorem rankR_at (t : Fin 64) : k0_pay7 (slotR I c) (ix2 0 t) = ((rk (tokSlot n c) t : ℕ) : EReal) :=
  rank_row _ _ (slotR_at h c) (fun _ => slotN_lt _ _) t

/-- The ranks as a column, at a token. -/
theorem rankC_at (t : Fin 64) : k0_pay19 (slotC I c) (ix2 t 0) = ((rk (tokSlot n c) t : ℕ) : EReal) :=
  rank_col _ _ (slotC_at h c) (fun _ => slotN_lt _ _) t

/-- Tokens of one slot go to experts of one place, so a rank is below 32. -/
theorem rk_lt_32 (t : Fin 64) : rk (tokSlot n c) t < 32 := by
  refine rk_cap _ _ (le_trans (Finset.card_le_card ?_) (h.cap c t))
  intro u hu
  simp only [Finset.mem_filter, Finset.mem_univ, true_and] at hu ⊢
  exact slotN_inj c _ _ (h.lt c u) (h.lt c t) hu

/-- The scatter matrix of slot `k`: one where the token has that slot and the row is its rank. -/
theorem PM_at (k : Fin 4) (t : Fin 64) (r : Fin 32) :
    PM I c k (ix3 0 t r) = if tokSlot n c t = k.val ∧ rk (tokSlot n c) t = r.val then (1 : EReal) else 0 := by
  have h1 := slotC_at h c t
  have h2 := rankC_at h c t
  have hr : r.val < 2 ^ 31 := by omega
  match k with
  | ⟨0, _⟩ =>
    show k0_pay23 (k0_pay21 (slotC I c)) (k0_pay22 (slotC I c)) (ix3 0 t r) = _
    have h3 : k0_pay22 (slotC I c) (ix2 t r) = BitVec.ofBool (decide (rk (tokSlot n c) t = r.val)) := by
      trans BitVec.ofBool (decide (k0_pay19 (slotC I c) (ix2 t 0) = FloatOps.sitofp FTy.f32 (BitVec.ofNat 32 r.val)))
      · pointwise [k0_pay22, k0_pay19, k0_pay20]
      · rw [h2, float_word _ hr]
        simp only [nat_eq_iff]
    pointwise [k0_pay23, k0_pay21]
    rw [h1, h3, select_two]
    simp only [nat_eq_zero]
  | ⟨1, _⟩ =>
    show k0_pay24 (slotC I c) (k0_pay19 (slotC I c)) k0_pay20 (ix3 0 t r) = _
    pointwise [k0_pay24, k0_pay20]
    rw [h1, h2, float_word _ hr, select_two]
    simp only [nat_eq_iff, nat_eq_one]
  | ⟨2, _⟩ =>
    show k0_pay25 (slotC I c) (k0_pay19 (slotC I c)) k0_pay20 (ix3 0 t r) = _
    pointwise [k0_pay25, k0_pay20]
    rw [h1, h2, two_bits, float_word _ hr, select_two]
    simp only [nat_eq_iff]
  | ⟨3, _⟩ =>
    show k0_pay27 (k0_pay26 (slotC I c) (k0_pay19 (slotC I c)) k0_pay20) (Scalar.ofBits .f32 0x3F800000#32) (ix3 0 t r) = _
    pointwise [k0_pay27, k0_pay26, k0_pay20]
    rw [h1, h2, three_bits, float_word _ hr, select_two]
    simp only [nat_eq_iff]

/-- A row gathered for a peer: over the tokens, those of its slot and that rank. -/
theorem XS_at (k : Fin 3) (r : Fin 32) (j : Fin 512) :
    XS I c k (ix3 0 r j)
      = ∑ t, (if tokSlot n c t = k.val + 1 ∧ rk (tokSlot n c) t = r.val then (1 : EReal) else 0) * (I c).X (ix2 t j) := by
  have h1 := slotR_at h c
  have h2 := rankR_at h c
  have hr : r.val < 2 ^ 31 := by omega
  match k with
  | ⟨0, _⟩ =>
    show k0_pay10 (slotR I c) (k0_pay7 (slotR I c)) k0_pay8 (I c).X (ix3 0 r j) = _
    pointwise [k0_pay10, k0_pay9, k0_pay8]
    rw [float_word _ hr]
    simp only [h1, h2, select_two, nat_eq_iff, nat_eq_one, ite_mul, one_mul, zero_mul, zero_add, Nat.reduceAdd]
  | ⟨1, _⟩ =>
    show k0_pay14 (k0_pay13 (slotR I c) (k0_pay7 (slotR I c)) k0_pay8 (I c).X) (ix3 0 r j) = _
    pointwise [k0_pay14, k0_pay13, k0_pay12, k0_pay8]
    rw [float_word _ hr]
    simp only [h1, h2, two_bits, select_two, nat_eq_iff, ite_mul, one_mul, zero_mul, zero_add, Nat.reduceAdd]
  | ⟨2, _⟩ =>
    show k0_pay17 (slotR I c) (k0_pay7 (slotR I c)) k0_pay8 (I c).X (ix3 0 r j) = _
    pointwise [k0_pay17, k0_pay16, k0_pay8]
    rw [float_word _ hr]
    simp only [h1, h2, three_bits, select_two, nat_eq_iff, ite_mul, one_mul, zero_mul, zero_add, Nat.reduceAdd]

/-- An expert choice gathered for a peer, counted from zero. -/
theorem CS_at (k : Fin 3) (r : Fin 32) :
    CS I c k (ix3 0 r 0)
      = ∑ t, (if tokSlot n c t = k.val + 1 ∧ rk (tokSlot n c) t = r.val then (1 : EReal) else 0) * ((n c t % 2 + 1 : ℕ) : EReal) - 1 := by
  have h1 := slotR_at h c
  have h2 := rankR_at h c
  have h3 := expC_at h c
  have hr : r.val < 2 ^ 31 := by omega
  match k with
  | ⟨0, _⟩ =>
    show k0_pay11 (slotR I c) (expC I c) (k0_pay7 (slotR I c)) k0_pay8 (ix3 0 r 0) = _
    pointwise [k0_pay11, k0_pay9, k0_pay8]
    rw [float_word _ hr]
    simp only [h1, h2, h3, select_two, nat_eq_iff, nat_eq_one, ite_mul, one_mul, zero_mul, zero_add, Nat.reduceAdd]
  | ⟨1, _⟩ =>
    show k0_pay15 (expC I c) (k0_pay12 (slotR I c) (k0_pay7 (slotR I c)) k0_pay8) (ix3 0 r 0) = _
    pointwise [k0_pay15, k0_pay12, k0_pay8]
    rw [float_word _ hr]
    simp only [h1, h2, h3, two_bits, select_two, nat_eq_iff, ite_mul, one_mul, zero_mul, zero_add, Nat.reduceAdd]
  | ⟨2, _⟩ =>
    show k0_pay18 (slotR I c) (expC I c) (k0_pay7 (slotR I c)) k0_pay8 (ix3 0 r 0) = _
    pointwise [k0_pay18, k0_pay16, k0_pay8]
    rw [float_word _ hr]
    simp only [h1, h2, h3, three_bits, select_two, nat_eq_iff, ite_mul, one_mul, zero_mul, zero_add, Nat.reduceAdd]

/-- A row the device gathers for itself, -/
theorem own_row (r : Fin 32) (j : Fin 512) :
    k0_pay29 (slotR I c) (k0_pay7 (slotR I c)) k0_pay8 (I c).X (ix2 r j)
      = ∑ t, (if tokSlot n c t = 0 ∧ rk (tokSlot n c) t = r.val then (1 : EReal) else 0) * (I c).X (ix2 t j) := by
  have h1 := slotR_at h c
  have h2 := rankR_at h c
  have hr : r.val < 2 ^ 31 := by omega
  pointwise [k0_pay29, k0_pay28, k0_pay8]
  rw [float_word _ hr]
  simp only [h1, h2, select_two, nat_eq_iff, nat_eq_zero, ite_mul, one_mul, zero_mul, zero_add, Nat.reduceAdd]

/-- and its expert choice. -/
theorem own_exp (r : Fin 32) :
    k0_pay30 (slotR I c) (expC I c) (k0_pay7 (slotR I c)) k0_pay8 (ix2 r 0)
      = ∑ t, (if tokSlot n c t = 0 ∧ rk (tokSlot n c) t = r.val then (1 : EReal) else 0) * ((n c t % 2 + 1 : ℕ) : EReal) - 1 := by
  have h1 := slotR_at h c
  have h2 := rankR_at h c
  have h3 := expC_at h c
  have hr : r.val < 2 ^ 31 := by omega
  pointwise [k0_pay30, k0_pay28, k0_pay8]
  rw [float_word _ hr]
  simp only [h1, h2, h3, select_two, nat_eq_iff, nat_eq_zero, ite_mul, one_mul, zero_mul, zero_add, Nat.reduceAdd]

end Picks

end Cert.KernelIdeal.Hand

end
-- ==== Proof.Rows.lean ====
/-
# The rows of the result

What a device computes on the rows it holds is the feed-forward network of the expert each row asks for; scattered back,
the row of each token is that network, with the weights of the device its expert lives on, of the token's own row.
-/
module

public import proofs.«01_k».proof.Proof.Words

@[expose] public section

set_option maxRecDepth 16384

noncomputable section

namespace Cert.KernelIdeal.Hand

open Cert.KernelIdeal Cert.KernelIdeal.Gen

open Idealize.ShloMosaic
open Idealize.ShloMosaic.TcCoe

/-- One place of an expert's feed-forward network on a row: the row times the first weights, its negative places set to
zero, times the second weights. -/
def ffn (x : Fin 512 → EReal) (u : Fin 512 → Fin 1024 → EReal) (v : Fin 1024 → Fin 512 → EReal) (j : Fin 512) : EReal :=
  ∑ m, max (∑ l, x l * u l m) 0 * v m j

/-- The network of expert `e` of a device. -/
def ffnOf (D : Ins Ideal) (e : Fin 2) (x : Fin 512 → EReal) (j : Fin 512) : EReal :=
  ffn x (fun l m => D.W1 (ix3 e l m)) (fun m j => D.W2 (ix3 e m j)) j

/-- The loaded first matrix of expert `e` is the device's. -/
theorem w1_at (D : Ins Ideal) (e : Fin 2) (l : Fin 512) (m : Fin 1024) : w1 D e (ix3 0 l m) = D.W1 (ix3 e l m) := by
  unfold w1
  congr 1
  funext a
  fin_cases a <;> apply Fin.ext <;> simp [rS]

/-- The loaded second matrix of expert `e` is the device's. -/
theorem w2_at (D : Ins Ideal) (e : Fin 2) (m : Fin 1024) (j : Fin 512) : w2 D e (ix3 0 m j) = D.W2 (ix3 e m j) := by
  unfold w2
  congr 1
  funext a
  fin_cases a <;> apply Fin.ext <;> simp [rS]

/-- Of the two experts' results, each kept where the row asks for it, the sum is the one asked for. -/
theorem asked (e : Fin 2) (b : EReal) (hb : b = ((e.val : ℕ) : EReal)) (y : Fin 2 → EReal) :
    (if b = 0 then y 0 else 0) + (if b = 1 then y 1 else 0) = y e := by
  subst hb
  match e with
  | ⟨0, _⟩ => simp
  | ⟨1, _⟩ => simp

section Rows

/-- The two experts' networks of a row, each kept where the row asks for it. -/
def both (b : EReal) (x : Fin 512 → EReal) (u₀ u₁ : FVec Ideal S1x512x1024 .f32) (v₀ v₁ : FVec Ideal S1x1024x512 .f32) (j : Fin 512) : EReal :=
  (if b = 0 then ffn x (fun l m => u₀ (ix3 0 l m)) (fun m j => v₀ (ix3 0 m j)) j else 0)
    + (if b = 1 then ffn x (fun l m => u₁ (ix3 0 l m)) (fun m j => v₁ (ix3 0 m j)) j else 0)

/-- For a row of code `e`, the sum of the two experts' masked results is the result of expert `e`. -/
theorem both_at (D : Ins Ideal) (e : Fin 2) (b : EReal) (hb : b = ((e.val : ℕ) : EReal)) (x : Fin 512 → EReal) (j : Fin 512) :
    both b x (w1 D 0) (w1 D 1) (w2 D 0) (w2 D 1) j = ffnOf D e x j := by
  rw [← asked e b hb fun e => ffnOf D e x j]
  unfold both ffnOf
  simp only [w1_at, w2_at]

variable (X : FVec Ideal S1x32x512 .f32) (C : FVec Ideal S1x32x1 .f32) (u₀ u₁ : FVec Ideal S1x512x1024 .f32)
  (v₀ v₁ : FVec Ideal S1x1024x512 .f32) (r : Fin 32) (j : Fin 512)

/-- The first of the three computations on received rows, -/
theorem block0 : k0_pay38 (F := Ideal) (k0_pay35 C) (k0_pay36 X u₀ v₀) (k0_pay37 X u₁) v₁ (ix3 0 r j)
    = both (C (ix3 0 r 0)) (fun l => X (ix3 0 r l)) u₀ u₁ v₀ v₁ j := by
  unfold both ffn
  pointwise [k0_pay38, k0_pay35, k0_pay36, k0_pay37, k0_pay34]

/-- the second -/
theorem block1 : k0_pay44 (F := Ideal) (k0_pay41 X u₁ v₁) (k0_pay42 X C u₀ v₀) (k0_pay43 (F := Ideal) C) (ix3 0 r j)
    = both (C (ix3 0 r 0)) (fun l => X (ix3 0 r l)) u₀ u₁ v₀ v₁ j := by
  unfold both ffn
  pointwise [k0_pay44, k0_pay41, k0_pay42, k0_pay43, k0_pay39, k0_pay40]

/-- and the third. -/
theorem block2 : k0_pay47 (F := Ideal) (k0_pay45 X) (k0_pay46 C) u₀ v₀ u₁ v₁ (ix3 0 r j)
    = both (C (ix3 0 r 0)) (fun l => X (ix3 0 r l)) u₀ u₁ v₀ v₁ j := by
  unfold both ffn
  pointwise [k0_pay47, k0_pay45, k0_pay46]

/-- A number below 3 is 0, 1 or 2. -/
theorem three_cases : ∀ k : Fin 3, k = 0 ∨ k = 1 ∨ k = 2 := by decide

/-- What a device computes on a received row is the network of the expert the row asks for. -/
theorem PT_at (I : Dev nD → Ins Ideal) (d : Dev nD) (k : Fin 3) (r : Fin 32) (x : Fin 512 → EReal) (e : Fin 2)
    (hx : ∀ l, XG I d k (ix3 0 r l) = x l) (he : CG I d k (ix3 0 r 0) = ((e.val : ℕ) : EReal)) (j : Fin 512) :
    PT I d k (ix3 0 r j) = ffnOf (I d) e x j := by
  obtain rfl : (fun l => XG I d k (ix3 0 r l)) = x := funext hx
  rw [← both_at (I d) e _ he]
  rcases (three_cases k) with rfl | rfl | rfl
  · exact block0 (XG I d 0) (CG I d 0) (w1 (I d) 0) (w1 (I d) 1) (w2 (I d) 0) (w2 (I d) 1) r j
  · exact block1 (XG I d 1) (CG I d 1) (w1 (I d) 0) (w1 (I d) 1) (w2 (I d) 0) (w2 (I d) 1) r j
  · exact block2 (XG I d 2) (CG I d 2) (w1 (I d) 0) (w1 (I d) 1) (w2 (I d) 0) (w2 (I d) 1) r j

end Rows

section Scatter

variable {I : Dev nD → Ins Ideal} {n : Dev nD → Fin 64 → ℕ} (h : Fits I n) (c : Dev nD)

/-- The expert of a token among the two of its device. -/
def tokExp (n : Dev nD → Fin 64 → ℕ) (c : Dev nD) (t : Fin 64) : Fin 2 := ⟨n c t % 2, Nat.mod_lt _ (by decide)⟩

/-- Over the tokens, a sum that keeps those of token `t`'s slot and rank is `t`'s term. -/
theorem gathered (t : Fin 64) (k r : ℕ) (hk : tokSlot n c t = k) (hr : rk (tokSlot n c) t = r) (f : Fin 64 → EReal) :
    ∑ u, (if tokSlot n c u = k ∧ rk (tokSlot n c) u = r then (1 : EReal) else 0) * f u = f t := by
  subst hk hr
  exact sum_pick _ f t fun u => rk_inj _ t u

/-- A code less one is the number that it was made from. -/
theorem exp_back (e : ℕ) : ((e + 1 : ℕ) : EReal) - 1 = ((e : ℕ) : EReal) := nat_sub_one _ (Nat.succ_pos e)

include h

/-- What comes back for a token's slot, at the token's rank, is its expert's network of its row. -/
theorem AC_at (t : Fin 64) (k : Fin 3) (hk : tokSlot n c t = k.val + 1) (r : Fin 32) (hr : rk (tokSlot n c) t = r.val) (j : Fin 512) :
    AC I c k (ix3 0 r j) = ffnOf (I (yp (k.val + 1) c)) (tokExp n c t) (fun l => (I c).X (ix2 t l)) j := by
  have hy : yp (3 - k.val) (yp (k.val + 1) c) = c := by
    clear hk hr h
    revert c k
    decide +kernel
  refine PT_at I _ k r _ _ (fun l => ?_) ?_ j
  · unfold XG
    rw [hy, XS_at h, gathered c t _ _ hk hr]
  · unfold CG
    rw [hy, CS_at h, gathered c t _ _ hk hr, exp_back]
    rfl

/-- Over the rows of a slot, a sum that keeps a token's rank: its row's term where the token has that slot, else zero. -/
theorem scattered (t : Fin 64) (k : Fin 4) (f : Fin 32 → EReal) :
    ∑ r, PM I c k (ix3 0 t r) * f r
      = if tokSlot n c t = k.val then f ⟨rk (tokSlot n c) t, rk_lt_32 h c t⟩ else 0 := by
  simp only [PM_at h]
  by_cases hk : tokSlot n c t = k.val
  · rw [if_pos hk]
    refine sum_pick (fun r : Fin 32 => tokSlot n c t = k.val ∧ rk (tokSlot n c) t = r.val) f _ fun r => ?_
    rw [Fin.ext_iff]
    exact ⟨fun hh => hh.2.symm, fun hh => ⟨hk, hh.symm⟩⟩
  · rw [if_neg hk]
    exact sum_none (fun r : Fin 32 => tokSlot n c t = k.val ∧ rk (tokSlot n c) t = r.val) f fun r hh => hk hh.1

/-- The device's own part at a token. -/
theorem OWN_at (t : Fin 64) (j : Fin 512) :
    OWN I c (ix2 t j)
      = if tokSlot n c t = 0 then ffnOf (I c) (tokExp n c t) (fun l => (I c).X (ix2 t l)) j else 0 := by
  have e : OWN I c (ix2 t j) = ∑ r, PM I c 0 (ix3 0 t r)
      * ((if k0_pay30 (slotR I c) (expC I c) (k0_pay7 (slotR I c)) k0_pay8 (ix2 r 0) = 0
            then ∑ m, max (∑ l, k0_pay29 (slotR I c) (k0_pay7 (slotR I c)) k0_pay8 (I c).X (ix2 r l) * w1 (I c) 0 (ix3 0 l m)) 0
              * w2 (I c) 0 (ix3 0 m j) else 0)
          + (if k0_pay30 (slotR I c) (expC I c) (k0_pay7 (slotR I c)) k0_pay8 (ix2 r 0) = 1
            then ∑ m, max (∑ l, k0_pay29 (slotR I c) (k0_pay7 (slotR I c)) k0_pay8 (I c).X (ix2 r l) * w1 (I c) 1 (ix3 0 l m)) 0
              * w2 (I c) 1 (ix3 0 m j) else 0)) := by
    unfold OWN
    generalize hb : k0_pay30 (slotR I c) (expC I c) (k0_pay7 (slotR I c)) k0_pay8 = b
    unfold k0_pay32
    generalize hx : k0_pay29 (slotR I c) (k0_pay7 (slotR I c)) k0_pay8 (I c).X = x
    pointwise [k0_pay33, k0_pay31]
  rw [e, scattered h c t 0]
  by_cases hk : tokSlot n c t = 0
  · rw [if_pos hk]
    rw [if_pos (show tokSlot n c t = (0 : Fin 4).val from hk), own_exp h, gathered c t _ _ hk rfl, exp_back, ← both_at (I c) (tokExp n c t) _ rfl]
    simp only [own_row h, gathered c t _ _ hk rfl]
    rfl
  · rw [if_neg hk, if_neg (show ¬ tokSlot n c t = (0 : Fin 4).val from hk)]

/-- The row of a token in the result of a device: its expert's network of its row, with the weights of the device as many
steps on along `y` as its slot says. -/
theorem RES_at (t : Fin 64) (j : Fin 512) :
    RES I c (ix2 t j) = ffnOf (I (yp (tokSlot n c t) c)) (tokExp n c t) (fun l => (I c).X (ix2 t l)) j := by
  have e : RES I c (ix2 t j) = OWN I c (ix2 t j) + ∑ r, PM I c 1 (ix3 0 t r) * AC I c 0 (ix3 0 r j)
      + ∑ r, PM I c 2 (ix3 0 t r) * AC I c 1 (ix3 0 r j) + ∑ r, PM I c 3 (ix3 0 t r) * AC I c 2 (ix3 0 r j) := by
    unfold RES
    pointwise [k0_pay49, k0_pay48]
  have h4 := slotN_lt c (n c t)
  rw [e, OWN_at h, scattered h c t 1, scattered h c t 2, scattered h c t 3]
  have hz : yp 0 c = c := by
    clear e h4 h
    revert c
    decide +kernel
  rcases (show tokSlot n c t = 0 ∨ tokSlot n c t = 1 ∨ tokSlot n c t = 2 ∨ tokSlot n c t = 3 by
    unfold tokSlot
    omega) with hk | hk | hk | hk
  · rw [hk, hz]
    simp
  · rw [hk, AC_at h c t 0 hk _ rfl j]
    simp
  · rw [hk, AC_at h c t 1 hk _ rfl j]
    simp
  · rw [hk, AC_at h c t 2 hk _ rfl j]
    simp

end Scatter

end Cert.KernelIdeal.Hand

end
-- ==== Proof.Reference.lean ====
/-
# The reference, at a place

The reference's result at row `g` is the network of the expert the row's word names, of the row.
-/
module

public import proofs.«01_k».proof.Proof.Rows
public import proofs.«01_k».proof.Proof.Gen.ReferenceIdeal.Run
public import Idealize.ShloMosaic.Lib.Tactic.CleanTypes

@[expose] public section

set_option maxRecDepth 16384

noncomputable section

namespace Cert.ReferenceIdeal.Hand

open Idealize.ShloMosaic
open Idealize.ShloMosaic.TcCoe
open Cert.ReferenceIdeal
open Cert.KernelIdeal.Hand (ffn)

/-- Of eight values, each taken where the word is its number, the later ones first: the one the word names. -/
theorem chosen (k : ℕ) (hk : k < 8) (y : Fin 8 → EReal) :
    Scalar.select (IntOp.cmpi .eq (BitVec.ofNat 32 k) 7#32) (y 7)
      (Scalar.select (IntOp.cmpi .eq (BitVec.ofNat 32 k) 6#32) (y 6)
        (Scalar.select (IntOp.cmpi .eq (BitVec.ofNat 32 k) 5#32) (y 5)
          (Scalar.select (IntOp.cmpi .eq (BitVec.ofNat 32 k) 4#32) (y 4)
            (Scalar.select (IntOp.cmpi .eq (BitVec.ofNat 32 k) 3#32) (y 3)
              (Scalar.select (IntOp.cmpi .eq (BitVec.ofNat 32 k) 2#32) (y 2)
                (Scalar.select (IntOp.cmpi .eq (BitVec.ofNat 32 k) 1#32) (y 1)
                  (Scalar.select (IntOp.cmpi .eq (BitVec.ofNat 32 k) 0#32) (y 0) 0))))))) = y ⟨k, hk⟩ := by
  interval_cases k <;> rfl

/-- Where row `g`'s word names expert `k`, the reference's row `g` is expert `k`'s network of the argument's row `g`. -/
theorem ref_at (m : (ℓ : Loc nD τ sig) → Buf (Elt Ideal) ℓ) (c : Dev nD) (g : Fin 2048) (k : ℕ) (hk : k < 8)
    (hw : m ((c : Thread nD τ).loc main_arg1) (ix1 g) = BitVec.ofNat 32 k) (j : Fin 512) :
    Value.res_main_v96 m c (ix2 g j)
      = ffn (fun l => m ((c : Thread nD τ).loc main_arg0) (ix2 g l))
          (fun l q => m ((c : Thread nD τ).loc main_arg2) (ix3 (⟨k, hk⟩ : Fin 8) l q))
          (fun q j => m ((c : Thread nD τ).loc main_arg3) (ix3 (⟨k, hk⟩ : Fin 8) q j)) j := by
  refine Eq.trans ?_ (chosen k hk fun e => ffn (fun l => m ((c : Thread nD τ).loc main_arg0) (ix2 g l))
          (fun l q => m ((c : Thread nD τ).loc main_arg2) (ix3 e l q))
          (fun q j => m ((c : Thread nD τ).loc main_arg3) (ix3 e q j)) j)
  rw [← hw]
  unfold Value.res_main_v96 ffn
  clean_types
  pointwise []

end Cert.ReferenceIdeal.Hand

end
-- ==== Proof.Fitting.lean ====
/-
# What the precondition says

A device's words name experts below eight, and at most 32 of its tokens go to the two experts of one place along `y`.
-/
module

public import proofs.«01_k».proof.Proof.Words
public import proofs.«01_k».proof.Proof.Gen.Pre_fits_KernelIdeal
public import Idealize.ShloMosaic.Lib.ReduceAll
public import Idealize.ShloMosaic.Lib.Routing.Ops

@[expose] public section

set_option maxRecDepth 16384

noncomputable section

namespace Cert.Pre_fits_KernelIdeal.Hand

open Idealize.ShloMosaic
open Cert.Pre_fits_KernelIdeal
open Cert.Pre_fits_KernelIdeal.Gen

/-- A conjunction of two bits is 1 only where both are. -/
theorem and_one (a b : BitVec 1) : IntOp.andi a b = 1#1 → a = 1#1 ∧ b = 1#1 := by
  revert a b
  decide

/-- A truth value whose bit is 1 is true. -/
theorem ofBool_one (b : Bool) : BitVec.ofBool b = 1#1 → b = true := by
  revert b
  decide

/-- A word at least zero and below eight, read signed, is below eight. -/
theorem word_lt (a : BitVec 32) (h : IntOp.andi (IntOp.cmpi .sge a 0#32) (IntOp.cmpi .slt a 8#32) = 1#1) : a.toNat < 8 := by
  obtain ⟨h0, h1⟩ := and_one _ _ h
  have h2 : (0#32).sle a = true := ofBool_one _ h0
  have h3 : a.slt 8#32 = true := ofBool_one _ h1
  have e0 : (0#32).toInt = 0 := by decide
  have e8 : (8#32).toInt = 8 := by decide
  rw [BitVec.sle_iff_toInt_le, e0] at h2
  rw [BitVec.slt_iff_toInt_lt, e8] at h3
  have := BitVec.toInt_eq_toNat_cond a
  have hb := a.isLt
  split at this <;> omega

/-- A word below 100 and, read signed, at most 32 is at most 32. -/
theorem word_le (a : BitVec 32) (ha : a.toNat < 100) (h : IntOp.cmpi .sle a 32#32 = 1#1) : a.toNat ≤ 32 := by
  have h2 : a.sle 32#32 = true := ofBool_one _ h
  have e8 : (32#32).toInt = 32 := by decide
  rw [BitVec.sle_iff_toInt_le, e8] at h2
  have := BitVec.toInt_eq_toNat_cond a
  split at this <;> omega

/-- Which tokens go to the experts of place `p`, as the precondition asks it. -/
def goes (A : IVec S64 32) : IVec S4x64 1 :=
  cmpi .eq (broadcastInDim S4x64 ![0, 1] Facts.bcast_S1x64_S4x64_0_1
      (shapeCast S1x64 (fn_floor_divide (F := Ideal) A (constantI S_ 32 2#32)) Facts.shapeCasts_S64_S1x64))
    (broadcastInDim S4x64 ![0, 1] Facts.bcast_S4x1_S4x64_0_1 (shapeCast S4x1 (iotaInDim S4 32 0) Facts.shapeCasts_S4_S4x1))

/-- For a word in 0..7, the comparison bit at place `p` is 1 exactly where the word halved is `p`. -/
theorem goes_at (A : IVec S64 32) (p : Fin 4) (u : Fin 64) (h : (A (ix1 u)).toNat < 8) :
    goes A (ix2 p u) = 1#1 ↔ (A (ix1 u)).toNat / 2 = p.val := by
  obtain ⟨k, hk, e⟩ : ∃ k, k < 8 ∧ A (ix1 u) = BitVec.ofNat 32 k := ⟨_, h, by simp⟩
  unfold goes
  pointwise [fn_floor_divide, fn_where]
  rw [e]
  clear e h
  revert k p
  decide +kernel

/-- Choosing between 1 and 0 by a bit is the bit as a 32-bit word. -/
theorem widened (b : IVec S4x64 1) : fn_where_0 (F := Ideal) b (constantI S_ 32 1#32) (constantI S_ 32 0#32) = extui 32 b (by decide) := by
  funext i
  have h : ∀ x : BitVec 1, Scalar.select x 1#32 0#32 = x.setWidth 32 := by decide
  exact h (b i)

/-- The words name experts below eight. -/
theorem fits_word (X : FVec Ideal S64x512 .f32) (A : IVec S64 32) (U : FVec Ideal S2x512x1024 .f32) (V : FVec Ideal S2x1024x512 .f32)
    (h : fn (F := Ideal) X A U V = fun _ => 1#1) (t : Fin 64) : (A (ix1 t)).toNat < 8 := by
  have h0 := congrFun h (fun a => a.elim0)
  unfold fn fn_part1 at h0
  obtain ⟨hl, -⟩ := and_one _ _ h0
  have h1 := Host.reduce_andi_all _ _ _ _ _ hl (ix1 t)
  exact word_lt _ h1

/-- At most 32 tokens go to the two experts of one place. -/
theorem fits_count (X : FVec Ideal S64x512 .f32) (A : IVec S64 32) (U : FVec Ideal S2x512x1024 .f32) (V : FVec Ideal S2x1024x512 .f32)
    (h : fn (F := Ideal) X A U V = fun _ => 1#1) (p : Fin 4) :
    (Finset.univ.filter fun u : Fin 64 => (A (ix1 u)).toNat / 2 = p.val).card ≤ 32 := by
  have hw := fits_word X A U V h
  have h0 := congrFun h (fun a => a.elim0)
  unfold fn fn_part1 at h0
  obtain ⟨-, hr⟩ := and_one _ _ h0
  have h1 := Host.reduce_andi_all _ _ _ _ _ hr (ix1 p)
  have e : (Host.reduce IntOp.addi (extui 32 (goes A) (by decide)) (constantI S_ 32 0#32) Facts.reducesTo_S4x64_S4_d1 Facts.h_S_ (ix1 p)).toNat
      = (Finset.univ.filter fun u : Fin 64 => (A (ix1 u)).toNat / 2 = p.val).card := by
    refine (StableHlo.Predicate.toNat_reduce_count_cols (by decide) (goes A) _ _ _ _).trans (congrArg Finset.card ?_)
    refine Finset.filter_congr fun u _ => ?_
    show goes A (StableHlo.Predicate.ij p u) = 1#1 ↔ _
    rw [Routing.ij_eq_ix2]
    exact goes_at A p u (hw u)
  rw [← e]
  refine word_le _ ?_ ?_
  · rw [e]
    exact lt_of_le_of_lt (Finset.card_le_univ _) (by decide)
  · have h2 := widened (goes A)
    rw [← h2]
    exact h1

end Cert.Pre_fits_KernelIdeal.Hand

end
-- ==== Proof.Value.lean ====
/-
# The kernel's result is the reference's

Each device's block of the result holds, at every row, what the reference computes at that row of the whole array.
-/
module

public import proofs.«01_k».proof.Defs
public import proofs.«01_k».proof.Proof.Run
public import proofs.«01_k».proof.Proof.Reference
public import proofs.«01_k».proof.Proof.Fitting

@[expose] public section

set_option maxRecDepth 16384

noncomputable section

namespace Cert.KernelIdeal.Hand

open Cert.KernelIdeal Cert.KernelIdeal.Gen

open Idealize.SL.Sem
open Idealize.ShloMosaic
open Idealize.ShloMosaic.TcCoe

/-! ### Where the blocks lie -/

/-- The place along `y` of a device. -/
def yOf (c : Dev nD) : Fin 4 := ⟨c.val / 4 % 4, Nat.mod_lt _ (by decide)⟩

/-- The number among the eight is below 8. -/
theorem r8_lt : ∀ c : Dev nD, r8 c < 8 := by decide +kernel

/-- The row of the whole array that is row `t` of device `d`'s block. -/
def rowOf (d : Dev nD) (t : Fin 64) : Fin 2048 := ⟨(8 * (yOf d).val + r8 d) * 64 + t.val, by
  have := r8_lt d
  omega⟩

/-- The expert of the whole array that is expert `e` of device `d`'s block. -/
def expertOf (d : Dev nD) (e : Fin 2) : Fin 8 := ⟨(yOf d).val * 2 + e.val, by omega⟩

/-- A device's block of the tokens holds the rows that `rowOf` names. -/
theorem block_rows {α : Type} (v : (⟨2, ![2048, 512]⟩ : Shape).Idx → α) (d : Dev nD) (t : Fin 64) (l : Fin 512) :
    (Layout.blockN ⟨2, ![64, 512]⟩ ⟨2, ![2048, 512]⟩ (Layout.meshBlock [2, 4, 4] ![[1, 0, 2], []] d) v) (ix2 t l) = v (ix2 (rowOf d t) l) := by
  rw [Layout.blockN_apply]
  congr 1
  funext a
  apply Fin.ext
  rw [Layout.TilesN.idx_val]
  fin_cases a <;> simp [Layout.meshLin, Layout.meshCoord, Layout.cutSize, rowOf, yOf, r8]
  have hd : d.val < 32 := d.isLt
  omega

/-- A device's block of the words holds those that `rowOf` names. -/
theorem block_words {α : Type} (v : (⟨1, ![2048]⟩ : Shape).Idx → α) (d : Dev nD) (t : Fin 64) :
    (Layout.blockN ⟨1, ![64]⟩ ⟨1, ![2048]⟩ (Layout.meshBlock [2, 4, 4] ![[1, 0, 2]] d) v) (ix1 t) = v (ix1 (rowOf d t)) := by
  rw [Layout.blockN_apply]
  congr 1
  funext a
  apply Fin.ext
  rw [Layout.TilesN.idx_val]
  fin_cases a <;> simp [Layout.meshLin, Layout.meshCoord, Layout.cutSize, rowOf, yOf, r8]
  have hd : d.val < 32 := d.isLt
  omega

/-- A device's block of the first matrices holds its two experts'. -/
theorem block_w1 {α : Type} (v : (⟨3, ![8, 512, 1024]⟩ : Shape).Idx → α) (d : Dev nD) (e : Fin 2) (l : Fin 512) (q : Fin 1024) :
    (Layout.blockN ⟨3, ![2, 512, 1024]⟩ ⟨3, ![8, 512, 1024]⟩ (Layout.meshBlock [2, 4, 4] ![[1], [], []] d) v) (ix3 e l q) = v (ix3 (expertOf d e) l q) := by
  rw [Layout.blockN_apply]
  congr 1
  funext a
  apply Fin.ext
  rw [Layout.TilesN.idx_val]
  fin_cases a <;> simp [Layout.meshLin, Layout.meshCoord, Layout.cutSize, expertOf, yOf]

/-- A device's block of the second matrices holds its two experts'. -/
theorem block_w2 {α : Type} (v : (⟨3, ![8, 1024, 512]⟩ : Shape).Idx → α) (d : Dev nD) (e : Fin 2) (q : Fin 1024) (l : Fin 512) :
    (Layout.blockN ⟨3, ![2, 1024, 512]⟩ ⟨3, ![8, 1024, 512]⟩ (Layout.meshBlock [2, 4, 4] ![[1], [], []] d) v) (ix3 e q l) = v (ix3 (expertOf d e) q l) := by
  rw [Layout.blockN_apply]
  congr 1
  funext a
  apply Fin.ext
  rw [Layout.TilesN.idx_val]
  fin_cases a <;> simp [Layout.meshLin, Layout.meshCoord, Layout.cutSize, expertOf, yOf]

/-- A row of the result, as a row of the whole array, is that of the device that owns it. -/
theorem dAt_row (c : Dev nD) (r : ℕ) (hr : r < 512) :
    (rowOf (dAt c (r / 64)) ⟨r % 64, Nat.mod_lt _ (by decide)⟩).val = (yOf c).val * 512 + r := by
  simp only [rowOf, yOf, r8, dAt]
  omega

/-- A device's block of the result holds at each place the row of the device that owns it. -/
theorem block_out {α : Type} (v : (⟨2, ![2048, 512]⟩ : Shape).Idx → α) (c : Dev nD) (i : S512x512.Idx) :
    (Layout.blockN ⟨2, ![512, 512]⟩ ⟨2, ![2048, 512]⟩ (Layout.meshBlock [2, 4, 4] ![[1], []] c) v) i
      = v (ix2 (rowOf (dAt c ((i 0 : ℕ) / 64)) ⟨(i 0 : ℕ) % 64, Nat.mod_lt _ (by decide)⟩) (i 1 : Fin 512)) := by
  have h0 : (i 0 : ℕ) < 512 := (i 0).isLt
  rw [Layout.blockN_apply]
  congr 1
  funext a
  apply Fin.ext
  rw [Layout.TilesN.idx_val]
  match a with
  | ⟨0, _⟩ =>
    refine Eq.trans ?_ (dAt_row c _ h0).symm
    simp [Layout.meshLin, Layout.meshCoord, Layout.cutSize, yOf]
  | ⟨1, _⟩ => simp [Layout.meshLin]

/-- The device a token's slot leads to holds the token's expert. -/
theorem expert_home (d : Dev nD) (k : ℕ) (hk : k < 8) :
    (expertOf (yp (slotN d k) d) ⟨k % 2, Nat.mod_lt _ (by decide)⟩).val = k := by
  simp only [expertOf, yOf, yp, slotN]
  omega

/-! ### The arrays the kernel reads and the array it writes -/

section Arrays

variable {F : FTy → Type} [FloatOps F]
variable (m : (ℓ : Loc nD τ sig) → Buf (Elt F) ℓ) (ρ : Dev nD → PrngReg)

omit [FloatOps F] in
/-- A rectangle that starts at zero and takes every place keeps the places. -/
theorem emb_zero {s : Shape} (r : Rect s) (h : ∀ a, r.off a = 0 ∧ r.stride a = 1) (i : r.shape.Idx) (a : Fin s.rank) :
    (r.emb i a : ℕ) = i a := by
  rw [Rect.emb_apply, (h a).1, (h a).2, Nat.zero_add, Nat.one_mul]

/-- Block 0 begins at zero and has stride 1. -/
theorem off0 : ∀ a, (win0_0.rect (0 : Fin 1)).off a = 0 ∧ (win0_0.rect (0 : Fin 1)).stride a = 1 := by decide +kernel
/-- Block 1 begins at zero and has stride 1. -/
theorem off1 : ∀ a, (win0_1.rect (0 : Fin 1)).off a = 0 ∧ (win0_1.rect (0 : Fin 1)).stride a = 1 := by decide +kernel
/-- Block 2 begins at zero and has stride 1. -/
theorem off2 : ∀ a, (win0_2.rect (0 : Fin 1)).off a = 0 ∧ (win0_2.rect (0 : Fin 1)).stride a = 1 := by decide +kernel
/-- Block 3 begins at zero and has stride 1. -/
theorem off3 : ∀ a, (win0_3.rect (0 : Fin 1)).off a = 0 ∧ (win0_3.rect (0 : Fin 1)).stride a = 1 := by decide +kernel
/-- Block 4 begins at zero and has stride 1. -/
theorem off4 : ∀ a, (win0_4.rect t0_0).off a = 0 ∧ (win0_4.rect t0_0).stride a = 1 := by decide +kernel

/-- The tokens that the body reads are the device's argument. -/
theorem ins_X (c : Dev nD) : (ins m c).X = m ((c : Thread nD τ).loc main_arg0) :=
  funext fun i => congrArg (m ((c : Thread nD τ).loc main_arg0)) (funext fun a => Fin.ext (emb_zero _ off0 i a))
/-- The words that the body reads are the device's argument. -/
theorem ins_A (c : Dev nD) : (ins m c).A = m ((c : Thread nD τ).loc main_arg1) :=
  funext fun i => congrArg (m ((c : Thread nD τ).loc main_arg1)) (funext fun a => Fin.ext (emb_zero _ off1 i a))
/-- The first matrices that the body reads are the device's argument. -/
theorem ins_W1 (c : Dev nD) : (ins m c).W1 = m ((c : Thread nD τ).loc main_arg2) :=
  funext fun i => congrArg (m ((c : Thread nD τ).loc main_arg2)) (funext fun a => Fin.ext (emb_zero _ off2 i a))
/-- The second matrices that the body reads are the device's argument. -/
theorem ins_W2 (c : Dev nD) : (ins m c).W2 = m ((c : Thread nD τ).loc main_arg3) :=
  funext fun i => congrArg (m ((c : Thread nD τ).loc main_arg3)) (funext fun a => Fin.ext (emb_zero _ off3 i a))

/-- The one block of the result is the whole of it. -/
theorem in_blk (i : S512x512.Idx) : i ∈ ((cfg0.win 4).blk t0_0).view.set := by
  show i ∈ ((View.whole main_v1).slice (win0_4.rect t0_0)).set
  rw [View.set_slice_whole, Rect.mem_set_unit]
  have e : ∀ a, win0_4.kind.off (win0_4.index t0_0 a) (win0_4.size a) = 0 ∧ win0_4.xsize (grid0.coords t0_0) a = S512x512.size a := by
    decide +kernel
  intro a
  rw [(e a).1, (e a).2, Nat.zero_add]
  exact ⟨Nat.zero_le _, (i a).isLt⟩

/-- What is written back is the whole of `OUT`. -/
theorem flushed_out (c : Dev nD) : (dats m ρ 0 c).flushed 4 t0_0 = ((cfg0.win 4).blk t0_0).view.read (Elt F) (OUT (ins m) c) := by
  unfold Pipeline.Dat.flushed
  funext i
  refine congrArg (OUT (ins m) c) (funext fun a => Fin.ext ?_)
  exact (emb_zero (win0_4.rect t0_0) off4 i a).symm

/-- After the run the result array of a device is its block of the result. -/
theorem final_out (c : Dev nD) : finalA m ρ c 4 = OUT (ins m) c :=
  (dats m ρ 0 c).arrAt_eq_of_cover 4 (OUT (ins m) c) (fun t _ => by
    obtain rfl := fin_N0 t
    exact flushed_out m ρ c) fun i => ⟨t0_0, flush0_4 _, in_blk i⟩

end Arrays

/-! ### The two results -/

section Equal

variable (m : (ℓ : Loc nD τ sig) → Buf (Elt Ideal) ℓ) (m' : (ℓ : Loc Cert.ReferenceIdeal.nD Cert.ReferenceIdeal.τ Cert.ReferenceIdeal.sig) → Buf (Elt Ideal) ℓ)

/-- The reference's tokens, all of them. -/
abbrev gX : (⟨2, ![2048, 512]⟩ : Shape).Idx → EReal := m' (((0 : Dev Cert.ReferenceIdeal.nD).tc : Thread Cert.ReferenceIdeal.nD Cert.ReferenceIdeal.τ).loc Cert.ReferenceIdeal.main_arg0)
/-- The reference's words, one per token. -/
abbrev gA : (⟨1, ![2048]⟩ : Shape).Idx → BitVec 32 := m' (((0 : Dev Cert.ReferenceIdeal.nD).tc : Thread Cert.ReferenceIdeal.nD Cert.ReferenceIdeal.τ).loc Cert.ReferenceIdeal.main_arg1)
/-- The first matrices of all experts. -/
abbrev gW1 : (⟨3, ![8, 512, 1024]⟩ : Shape).Idx → EReal := m' (((0 : Dev Cert.ReferenceIdeal.nD).tc : Thread Cert.ReferenceIdeal.nD Cert.ReferenceIdeal.τ).loc Cert.ReferenceIdeal.main_arg2)
/-- The second matrices of all experts. -/
abbrev gW2 : (⟨3, ![8, 1024, 512]⟩ : Shape).Idx → EReal := m' (((0 : Dev Cert.ReferenceIdeal.nD).tc : Thread Cert.ReferenceIdeal.nD Cert.ReferenceIdeal.τ).loc Cert.ReferenceIdeal.main_arg3)

/-- Each device holds its blocks of the reference's arguments. -/
structure Blocks : Prop where
  X : ∀ c : Dev nD, m ((c : Thread nD τ).loc main_arg0) = Layout.blockN ⟨2, ![64, 512]⟩ ⟨2, ![2048, 512]⟩ (Layout.meshBlock [2, 4, 4] ![[1, 0, 2], []] c) (gX m')
  A : ∀ c : Dev nD, m ((c : Thread nD τ).loc main_arg1) = Layout.blockN ⟨1, ![64]⟩ ⟨1, ![2048]⟩ (Layout.meshBlock [2, 4, 4] ![[1, 0, 2]] c) (gA m')
  W1 : ∀ c : Dev nD, m ((c : Thread nD τ).loc main_arg2) = Layout.blockN ⟨3, ![2, 512, 1024]⟩ ⟨3, ![8, 512, 1024]⟩ (Layout.meshBlock [2, 4, 4] ![[1], [], []] c) (gW1 m')
  W2 : ∀ c : Dev nD, m ((c : Thread nD τ).loc main_arg3) = Layout.blockN ⟨3, ![2, 1024, 512]⟩ ⟨3, ![8, 1024, 512]⟩ (Layout.meshBlock [2, 4, 4] ![[1], [], []] c) (gW2 m')

/-- The expert number of each token, from its word. -/
def num (c : Dev nD) (t : Fin 64) : ℕ := ((ins m c).A (ix1 t)).toNat

variable {m m'}

/-- Under the precondition every word is an expert's number, and no more than 32 tokens of a device go to one place. -/
theorem fits_of (hp : Cert.Pre_KernelIdeal_fits_KernelIdeal m) : Fits (ins m) (num m) where
  word c t := by unfold num; simp
  lt c t := by
    unfold num
    rw [ins_A]
    exact Cert.Pre_fits_KernelIdeal.Hand.fits_word _ _ _ _ (hp c) t
  cap c t := by
    have hl : num m c t < 8 := by
      unfold num
      rw [ins_A]
      exact Cert.Pre_fits_KernelIdeal.Hand.fits_word _ _ _ _ (hp c) t
    have h := Cert.Pre_fits_KernelIdeal.Hand.fits_count _ _ _ _ (hp c) ⟨num m c t / 2, by omega⟩
    rw [← ins_A m c] at h
    exact h

/-- Each device's result is its block of the reference's. -/
theorem out_eq (hp : Cert.Pre_KernelIdeal_fits_KernelIdeal m) (hb : Blocks m m') (c : Dev nD) :
    OUT (ins m) c = Layout.blockN ⟨2, ![512, 512]⟩ ⟨2, ![2048, 512]⟩ (Layout.meshBlock [2, 4, 4] ![[1], []] c)
      (Cert.ReferenceIdeal.Value.res_main_v96 m' 0) := by
  have hf := fits_of hp
  funext i
  rw [block_out]
  generalize ht : (⟨(i 0 : ℕ) % 64, Nat.mod_lt _ (by decide)⟩ : Fin 64) = t
  unfold OUT
  generalize dAt c ((i 0 : ℕ) / 64) = d
  have hi : inRow i = ix2 t (i 1 : Fin 512) := by
    subst ht
    funext a
    match a with
    | ⟨0, _⟩ => rfl
    | ⟨1, _⟩ => rfl
  have hw : gA m' (ix1 (rowOf d t)) = BitVec.ofNat 32 (num m d t) := by
    have h := hf.word d t
    rw [ins_A, hb.A, block_words] at h
    exact h
  generalize (i 1 : Fin 512) = j at hi
  rw [hi]
  refine (RES_at hf d t j).trans ?_
  refine Eq.trans ?_ (Cert.ReferenceIdeal.Hand.ref_at m' 0 (rowOf d t) (num m d t) (hf.lt d t) hw j).symm
  have he : (expertOf (yp (tokSlot (num m) d t) d) (tokExp (num m) d t)) = ⟨num m d t, hf.lt d t⟩ :=
    Fin.ext (expert_home d _ (hf.lt d t))
  unfold ffnOf
  simp only [ins_X, ins_W1, ins_W2, hb.X, hb.W1, hb.W2]
  simp only [block_rows, block_w1, block_w2, he]

end Equal

/-- From memories where each device holds its blocks of the reference's arguments, the words naming experts and no device
having more than 32 tokens for one place, both programs run, the kernel's results are the blocks of the reference's, and
the arguments of both end unchanged. -/
theorem algebraic : Cert.algebraic_KernelIdeal_ReferenceIdeal_pre_fits_KernelIdeal := by
  intro m g m' g' hp hb
  have hb' : Blocks m m' := ⟨fun c => (hb c).1, fun c => (hb c).2.1, fun c => (hb c).2.2.1, fun c => (hb c).2.2.2⟩
  refine ⟨Cert.ReferenceIdeal.Value.res_main_v96 m' 0, ?_, ?_⟩
  · refine (θ_run _ _ _).mono (fun r h c => ⟨?_, args_kept m g c h.1⟩) (run_main m g)
    exact ((h.1 c 4).trans (final_out m g c)).trans (out_eq hp hb' c)
  · exact (θ_run _ _ _).mono (fun r h => h 0) (Cert.ReferenceIdeal.Value.run m' g')

end Cert.KernelIdeal.Hand

end
-- ==== Proof.lean ====
/-
# The claims

The frames read the run of `Proof/Run.lean`; the reference's run is the generated one; the values are those of
`Proof/Value.lean`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_fits_KernelIdeal
public import proofs.«01_k».proof.Proof.Gen.Pre_fits_ReferenceIdeal
public import proofs.«01_k».proof.Proof.Value
public import proofs.«01_k».proof.Proof.Run
public import Idealize.ShloMosaic.Adequacy
public import Idealize.ShloMosaic.Init

@[expose] public section

noncomputable section

namespace Cert.Proof

open Idealize.ShloMosaic Idealize.SL.Sem Cert.Kernel

set_option maxRecDepth 20000 in
theorem body_eq : Cert.Kernel.cc0_body (F := Bits) = Cert.KernelIdeal.cc0_body (F := Bits) := rfl

set_option maxRecDepth 20000 in
theorem defs₀_eq : Cert.Kernel.defs₀ (F := Bits) = Cert.KernelIdeal.defs₀ (F := Bits) := by
  unfold Cert.Kernel.defs₀ Cert.KernelIdeal.defs₀
  refine congrArg _ (funext fun l => funext fun a => ?_)
  match l, a with
  | ⟨0, _⟩, (t, s) =>
    show Cert.Kernel.cc0_body (F := Bits) _ _ _ _ _ _ _ _ _ _ _ _ _ _ _ _ _ _ _ _ _ _ _ _ _ _ _ _ _ _ _ _ _ = _
    rw [body_eq]

/-- The two printed programs have the same text. -/
theorem defs_eq : Cert.Kernel.defs (F := Bits) = Cert.KernelIdeal.defs (F := Bits) := by
  unfold Cert.Kernel.defs Cert.KernelIdeal.defs
  rw [defs₀_eq]
  rfl

/-- The kernel at its bits runs, keeps its arguments and ends with every counter at zero. -/
theorem frame_kernel : Cert.quiescent_Kernel := fun m ρ _ => by
  rw [defs_eq]
  exact (θ_run Cert.KernelIdeal.defs _ _).mono (fun _ h => ⟨fun c => Cert.KernelIdeal.Hand.args_kept m ρ c h.1, h.2⟩)
    (Cert.KernelIdeal.Hand.run_main (F := Bits) m ρ)

/-- The kernel over the extended reals runs, keeps its arguments and ends with every counter at zero. -/
theorem frame_ideal : Cert.quiescent_KernelIdeal := fun m ρ _ =>
  (θ_run Cert.KernelIdeal.defs _ _).mono (fun _ h => ⟨fun c => Cert.KernelIdeal.Hand.args_kept m ρ c h.1, h.2⟩)
    (Cert.KernelIdeal.Hand.run_main (F := Ideal) m ρ)

/-- The reference runs, keeps its arguments and ends with every counter at zero. -/
theorem frame_reference : Cert.quiescent_ReferenceIdeal := fun m ρ _ => by
  exact (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.Pre_fits_KernelIdeal.Gen.facts, Cert.Pre_fits_ReferenceIdeal.Gen.facts,
  frame_kernel, frame_ideal, fun m ρ _ => frame_ideal m ρ trivial, frame_reference, fun m ρ _ => frame_reference m ρ trivial, trivial, Cert.KernelIdeal.Hand.algebraic⟩

end Cert.Proof

end
